-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11)
      ∧ r.2.mem ((c.tc : Thread Cert.FfnReferenceIdeal.nD Cert.FfnReferenceIdeal.τ).loc Cert.FfnReferenceIdeal.main_arg12) = m ((c.tc : Thread Cert.FfnReferenceIdeal.nD Cert.FfnReferenceIdeal.τ).loc Cert.FfnReferenceIdeal.main_arg12)
      ∧ r.2.mem ((c.tc : Thread Cert.FfnReferenceIdeal.nD Cert.FfnReferenceIdeal.τ).loc Cert.FfnReferenceIdeal.main_arg13) = m ((c.tc : Thread Cert.FfnReferenceIdeal.nD Cert.FfnReferenceIdeal.τ).loc Cert.FfnReferenceIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)
      ∧ m' ((c.tc : Thread Cert.FfnReferenceIdeal.nD Cert.FfnReferenceIdeal.τ).loc Cert.FfnReferenceIdeal.main_arg11) = m ((c.tc : Thread Cert.FfnIdeal.nD Cert.FfnIdeal.τ).loc Cert.FfnIdeal.main_arg11)
      ∧ m' ((c.tc : Thread Cert.FfnReferenceIdeal.nD Cert.FfnReferenceIdeal.τ).loc Cert.FfnReferenceIdeal.main_arg12) = m ((c.tc : Thread Cert.FfnIdeal.nD Cert.FfnIdeal.τ).loc Cert.FfnIdeal.main_arg12)
      ∧ m' ((c.tc : Thread Cert.FfnReferenceIdeal.nD Cert.FfnReferenceIdeal.τ).loc Cert.FfnReferenceIdeal.main_arg13) = m ((c.tc : Thread Cert.FfnIdeal.nD Cert.FfnIdeal.τ).loc Cert.FfnIdeal.main_arg13)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v92) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10)
          ∧ r.2.mem ((c.tc : Thread Cert.FfnReferenceIdeal.nD Cert.FfnReferenceIdeal.τ).loc Cert.FfnReferenceIdeal.main_arg11) = m' ((c.tc : Thread Cert.FfnReferenceIdeal.nD Cert.FfnReferenceIdeal.τ).loc Cert.FfnReferenceIdeal.main_arg11)
          ∧ r.2.mem ((c.tc : Thread Cert.FfnReferenceIdeal.nD Cert.FfnReferenceIdeal.τ).loc Cert.FfnReferenceIdeal.main_arg12) = m' ((c.tc : Thread Cert.FfnReferenceIdeal.nD Cert.FfnReferenceIdeal.τ).loc Cert.FfnReferenceIdeal.main_arg12)
          ∧ r.2.mem ((c.tc : Thread Cert.FfnReferenceIdeal.nD Cert.FfnReferenceIdeal.τ).loc Cert.FfnReferenceIdeal.main_arg13) = m' ((c.tc : Thread Cert.FfnReferenceIdeal.nD Cert.FfnReferenceIdeal.τ).loc Cert.FfnReferenceIdeal.main_arg13))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v0_3)) (v1 : (c : Dev Cert.ProjIdeal.nD) → Buf (Elt Ideal) ((c.tc : Thread Cert.ProjIdeal.nD Cert.ProjIdeal.τ).loc Cert.ProjIdeal.main_v0_4)) (v2 : (c : Dev Cert.ProjIdeal.nD) → Buf (Elt Ideal) ((c.tc : Thread Cert.ProjIdeal.nD Cert.ProjIdeal.τ).loc Cert.ProjIdeal.main_v0_5)) (v3 : (c : Dev Cert.ProjIdeal.nD) → Buf (Elt Ideal) ((c.tc : Thread Cert.ProjIdeal.nD Cert.ProjIdeal.τ).loc Cert.ProjIdeal.main_v0_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_3) = v0 c
          ∧ r.2.mem ((c.tc : Thread Cert.ProjIdeal.nD Cert.ProjIdeal.τ).loc Cert.ProjIdeal.main_v0_4) = v1 c
          ∧ r.2.mem ((c.tc : Thread Cert.ProjIdeal.nD Cert.ProjIdeal.τ).loc Cert.ProjIdeal.main_v0_5) = v2 c
          ∧ r.2.mem ((c.tc : Thread Cert.ProjIdeal.nD Cert.ProjIdeal.τ).loc Cert.ProjIdeal.main_v0_6) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v9) = v0 c
          ∧ r.2.mem ((c.tc : Thread Cert.ProjReferenceIdeal.nD Cert.ProjReferenceIdeal.τ).loc Cert.ProjReferenceIdeal.main_v10) = v1 c
          ∧ r.2.mem ((c.tc : Thread Cert.ProjReferenceIdeal.nD Cert.ProjReferenceIdeal.τ).loc Cert.ProjReferenceIdeal.main_v11) = v2 c
          ∧ r.2.mem ((c.tc : Thread Cert.ProjReferenceIdeal.nD Cert.ProjReferenceIdeal.τ).loc Cert.ProjReferenceIdeal.main_v12) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
-- ==== Pre_finite_scores.lean ====
abbrev S1 : Shape := ⟨1, ![1]⟩
abbrev S8x8x64x4096 : Shape := ⟨4, ![8, 8, 64, 4096]⟩
abbrev S8x2x64x4096 : Shape := ⟨4, ![8, 2, 64, 4096]⟩
abbrev S8x2x128x4096 : Shape := ⟨4, ![8, 2, 128, 4096]⟩
abbrev S8x2x1x4096 : Shape := ⟨4, ![8, 2, 1, 4096]⟩
abbrev S_ : Shape := ⟨0, ![]⟩

class Facts : Prop where
  slices_S8x2x128x4096_S8x2x1x4096_0_0_64_0 : S8x2x128x4096.Slices ![0, 0, 64, 0] S8x2x1x4096
  bitsLt_bf16_f32 : FTy.bits .bf16 < FTy.bits .f32
  bcast_S_S8x8x64x4096 : S_.BroadcastsInDim S8x8x64x4096 (![] : Fin 0 → Fin S8x8x64x4096.rank)
  reducesTo_S8x8x64x4096_S_d0_1_2_3 : S8x8x64x4096.ReducesTo [0, 1, 2, 3] S_
  h_S_ : 0 < S_.numel
  bcast_S_S8x2x64x4096 : S_.BroadcastsInDim S8x2x64x4096 (![] : Fin 0 → Fin S8x2x64x4096.rank)
  reducesTo_S8x2x64x4096_S_d0_1_2_3 : S8x2x64x4096.ReducesTo [0, 1, 2, 3] S_
  bcast_S_S8x2x1x4096 : S_.BroadcastsInDim S8x2x1x4096 (![] : Fin 0 → Fin S8x2x1x4096.rank)
  reducesTo_S8x2x1x4096_S_d0_1_2_3 : S8x2x1x4096.ReducesTo [0, 1, 2, 3] S_

variable [Facts]

def fn {F : FTy → Type} [FloatOps F] (main_arg0 : FVec F S1 .f32) (main_arg1 : FVec F S8x8x64x4096 .bf16) (main_arg2 : FVec F S8x2x64x4096 .bf16) (main_arg3 : FVec F S8x2x128x4096 .bf16) : IVec S_ 1 :=
  let main_v0 : FVec F S8x2x1x4096 .bf16 := (extractStridedSlice S8x2x1x4096 ![0, 0, 64, 0] · slices_S8x2x128x4096_S8x2x1x4096_0_0_64_0) main_arg3
  let main_v1 : FVec F S8x2x1x4096 .f32 := (extf .f32 · bitsLt_bf16_f32) main_v0
  let main_v2 : FVec F S8x8x64x4096 .f32 := (extf .f32 · bitsLt_bf16_f32) main_arg1
  let main_v3 : FVec F S8x8x64x4096 .f32 := Host.absf main_v2
  let main_cst : FVec F S_ .f32 := constant S_ .f32 0x7F800000#32
  let main_v4 : FVec F S8x8x64x4096 .f32 := broadcastInDim S8x8x64x4096 ![] bcast_S_S8x8x64x4096 main_cst
  let main_v5 : IVec S8x8x64x4096 1 := cmpf .olt main_v3 main_v4
  let main_c : IVec S_ 1 := constantI S_ 1 1#1
  let main_v6 : IVec S_ 1 := (fun x v => Host.reduce IntOp.andi x v reducesTo_S8x8x64x4096_S_d0_1_2_3 h_S_) main_v5 main_c
  let main_v7 : FVec F S8x2x64x4096 .f32 := (extf .f32 · bitsLt_bf16_f32) main_arg2
  let main_v8 : FVec F S8x2x64x4096 .f32 := Host.absf main_v7
  let main_cst_0 : FVec F S_ .f32 := constant S_ .f32 0x7F800000#32
  let main_v9 : FVec F S8x2x64x4096 .f32 := broadcastInDim S8x2x64x4096 ![] bcast_S_S8x2x64x4096 main_cst_0
  let main_v10 : IVec S8x2x64x4096 1 := cmpf .olt main_v8 main_v9
  let main_c_1 : IVec S_ 1 := constantI S_ 1 1#1
  let main_v11 : IVec S_ 1 := (fun x v => Host.reduce IntOp.andi x v reducesTo_S8x2x64x4096_S_d0_1_2_3 h_S_) main_v10 main_c_1
  let main_v12 : IVec S_ 1 := andi main_v6 main_v11
  let main_cst_2 : FVec F S_ .f32 := constant S_ .f32 0x3F800000#32
  let main_v13 : FVec F S8x2x1x4096 .f32 := broadcastInDim S8x2x1x4096 ![] bcast_S_S8x2x1x4096 main_cst_2
  let main_v14 : IVec S8x2x1x4096 1 := cmpf .oeq main_v1 main_v13
  let main_c_3 : IVec S_ 1 := constantI S_ 1 1#1
  let main_v15 : IVec S_ 1 := (fun x v => Host.reduce IntOp.andi x v reducesTo_S8x2x1x4096_S_d0_1_2_3 h_S_) main_v14 main_c_3
  let main_v16 : IVec S_ 1 := andi main_v12 main_v15
  main_v16
-- ==== Kernel.lean ====
abbrev S1 : Shape := ⟨1, ![1]⟩
abbrev S8x8x64x4096 : Shape := ⟨4, ![8, 8, 64, 4096]⟩
abbrev S8x2x64x4096 : Shape := ⟨4, ![8, 2, 64, 4096]⟩
abbrev S8x2x128x4096 : Shape := ⟨4, ![8, 2, 128, 4096]⟩
abbrev S8x4096x512 : Shape := ⟨3, ![8, 4096, 512]⟩
abbrev S1x4x64x512 : Shape := ⟨4, ![1, 4, 64, 512]⟩
abbrev S1x1x64x4096 : Shape := ⟨4, ![1, 1, 64, 4096]⟩
abbrev S1x1x128x4096 : Shape := ⟨4, ![1, 1, 128, 4096]⟩
abbrev S1x512x256 : Shape := ⟨3, ![1, 512, 256]⟩
abbrev S2x64x2048 : Shape := ⟨3, ![2, 64, 2048]⟩
abbrev S2x1x2048 : Shape := ⟨3, ![2, 1, 2048]⟩
abbrev S1x1x64x512 : Shape := ⟨4, ![1, 1, 64, 512]⟩
abbrev S64x512 : Shape := ⟨2, ![64, 512]⟩
abbrev S64x2048 : Shape := ⟨2, ![64, 2048]⟩
abbrev S1x64x2048 : Shape := ⟨3, ![1, 64, 2048]⟩
abbrev S1x2048 : Shape := ⟨2, ![1, 2048]⟩
abbrev S1x1x2048 : Shape := ⟨3, ![1, 1, 2048]⟩
abbrev S1x1x64x256 : Shape := ⟨4, ![1, 1, 64, 256]⟩
abbrev S64x256 : Shape := ⟨2, ![64, 256]⟩
abbrev S256x64 : Shape := ⟨2, ![256, 64]⟩
abbrev S256x512 : Shape := ⟨2, ![256, 512]⟩
abbrev S32x8x512 : Shape := ⟨3, ![32, 8, 512]⟩
abbrev S8x512 : Shape := ⟨2, ![8, 512]⟩
abbrev S512x64 : Shape := ⟨2, ![512, 64]⟩
abbrev S1x512x64 : Shape := ⟨3, ![1, 512, 64]⟩
abbrev S8x2048 : Shape := ⟨2, ![8, 2048]⟩
abbrev S2048 : Shape := ⟨1, ![2048]⟩
abbrev S256x2048 : Shape := ⟨2, ![256, 2048]⟩
abbrev S1x1x80x256 : Shape := ⟨4, ![1, 1, 80, 256]⟩
abbrev S80x256 : Shape := ⟨2, ![80, 256]⟩
abbrev S80x2048 : Shape := ⟨2, ![80, 2048]⟩

abbrev nBuf : Space → Nat
  | .hbm => 5
  | .vmem => 10
  | .smem => 1
  | _ => 0

abbrev bufTy : (tb : Table) → Fin (tcTables nBuf tb) → BufTy
  | .hbm, ⟨0, _⟩ => ⟨S1, .f32⟩
  | .hbm, ⟨1, _⟩ => ⟨S8x8x64x4096, .bf16⟩
  | .hbm, ⟨2, _⟩ => ⟨S8x2x64x4096, .bf16⟩
  | .hbm, ⟨3, _⟩ => ⟨S8x2x128x4096, .bf16⟩
  | .hbm, ⟨4, _⟩ => ⟨S8x4096x512, .bf16⟩
  | .local _ .vmem, ⟨0, _⟩ => ⟨S1x4x64x512, .bf16⟩
  | .local _ .vmem, ⟨1, _⟩ => ⟨S1x4x64x512, .bf16⟩
  | .local _ .vmem, ⟨2, _⟩ => ⟨S1x1x64x4096, .bf16⟩
  | .local _ .vmem, ⟨3, _⟩ => ⟨S1x1x64x4096, .bf16⟩
  | .local _ .vmem, ⟨4, _⟩ => ⟨S1x1x128x4096, .bf16⟩
  | .local _ .vmem, ⟨5, _⟩ => ⟨S1x1x128x4096, .bf16⟩
  | .local _ .vmem, ⟨6, _⟩ => ⟨S1x512x256, .bf16⟩
  | .local _ .vmem, ⟨7, _⟩ => ⟨S1x512x256, .bf16⟩
  | .local _ .vmem, ⟨8, _⟩ => ⟨S2x64x2048, .f32⟩
  | .local _ .vmem, ⟨9, _⟩ => ⟨S2x1x2048, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v132 : Index := Scalar.indexCast v20
  let c0_108 : Index := 0#32
  let c0_109 : Index := 0#32
  ![v132.toNat, 0, 0]
def k0_off2 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v135 : Index := Scalar.indexCast v20
  let c0_110 : Index := 0#32
  let c0_111 : Index := 0#32
  ![v135.toNat, 0, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v820 : Index := Scalar.indexCast v9
  let c0_538 : Index := 0#32
  let c0_539 : Index := 0#32
  ![v820.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v824 : Index := Scalar.indexCast v9
  let c0_540 : Index := 0#32
  let c0_541 : Index := 0#32
  ![v824.toNat, 0, 0]
def k0_off5 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v40 : Index := Scalar.indexCast v20
  let c0_27 : Index := 0#32
  let c0_28 : Index := 0#32
  ![v40.toNat, 0, 0]
def k0_off6 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v43 : Index := Scalar.indexCast v20
  let c0_29 : Index := 0#32
  let c0_30 : Index := 0#32
  ![v43.toNat, 0, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v372 : Index := Scalar.indexCast v9
  let c0_201 : Index := 0#32
  let c0_202 : Index := 0#32
  ![v372.toNat, 0, 0]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v376 : Index := Scalar.indexCast v9
  let c0_203 : Index := 0#32
  let c0_204 : Index := 0#32
  ![v376.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32 : BitVec 32 := 8#32
  let v19 : BitVec 32 := Scalar.divsi v18 c8_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v18 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c2_i32 : BitVec 32 := 2#32
  let c0_i32_11 : BitVec 32 := 0#32
  let v36 : BitVec 1 := Scalar.cmpi .eq c2_i32 c0_i32_11
  let c1_i32_12 : BitVec 32 := 1#32
  let v37 : BitVec 32 := Scalar.select v36 c1_i32_12 c2_i32
  let v38 : BitVec 32 := Scalar.remsi v35 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c127_i32_16 : BitVec 32 := 127#32
  let v46 : BitVec 32 := Scalar.minsi arg0 c127_i32_16
  let c8_i32_17 : BitVec 32 := 8#32
  let c0_i32_18 : BitVec 32 := 0#32
  let v47 : BitVec 1 := Scalar.cmpi .eq c8_i32_17 c0_i32_18
  let c1_i32_19 : BitVec 32 := 1#32
  let v48 : BitVec 32 := Scalar.select v47 c1_i32_19 c8_i32_17
  let v49 : BitVec 32 := Scalar.remsi v46 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let c0_i32_23 : BitVec 32 := 0#32
  let c0_i32_24 : BitVec 32 := 0#32
  ![v17.toNat, v45.toNat, c0_i32_23.toNat, v56.toNat]

def cc0_transform_2 (i : grid0.Coords) : Fin 4 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32 : BitVec 32 := 8#32
  let v19 : BitVec 32 := Scalar.divsi v18 c8_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v18 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c2_i32 : BitVec 32 := 2#32
  let c0_i32_11 : BitVec 32 := 0#32
  let v36 : BitVec 1 := Scalar.cmpi .eq c2_i32 c0_i32_11
  let c1_i32_12 : BitVec 32 := 1#32
  let v37 : BitVec 32 := Scalar.select v36 c1_i32_12 c2_i32
  let v38 : BitVec 32 := Scalar.remsi v35 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c0_i32_16 : BitVec 32 := 0#32
  let c0_i32_17 : BitVec 32 := 0#32
  let c0_i32_18 : BitVec 32 := 0#32
  ![v17.toNat, v45.toNat, c0_i32_16.toNat, c0_i32_17.toNat]

def cc0_transform_3 (i : grid0.Coords) : Fin 4 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32 : BitVec 32 := 8#32
  let v19 : BitVec 32 := Scalar.divsi v18 c8_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v18 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c2_i32 : BitVec 32 := 2#32
  let c0_i32_11 : BitVec 32 := 0#32
  let v36 : BitVec 1 := Scalar.cmpi .eq c2_i32 c0_i32_11
  let c1_i32_12 : BitVec 32 := 1#32
  let v37 : BitVec 32 := Scalar.select v36 c1_i32_12 c2_i32
  let v38 : BitVec 32 := Scalar.remsi v35 v37
  let c0_i32_13 : BitVec 32 := 0#32
  let v39 : BitVec 1 := Scalar.cmpi .ne v38 c0_i32_13
  let c0_i32_14 : BitVec 32 := 0#32
  let v40 : BitVec 1 := Scalar.cmpi .slt v38 c0_i32_14
  let c0_i32_15 : BitVec 32 := 0#32
  let v41 : BitVec 1 := Scalar.cmpi .slt v37 c0_i32_15
  let v42 : BitVec 1 := Scalar.xori v40 v41
  let v43 : BitVec 1 := Scalar.andi v42 v39
  let v44 : BitVec 32 := Scalar.addi v38 v37
  let v45 : BitVec 32 := Scalar.select v43 v44 v38
  let c0_i32_16 : BitVec 32 := 0#32
  let c0_i32_17 : BitVec 32 := 0#32
  let c0_i32_18 : BitVec 32 := 0#32
  ![v17.toNat, v45.toNat, c0_i32_16.toNat, c0_i32_17.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32 : BitVec 32 := 8#32
  let c0_i32_8 : BitVec 32 := 0#32
  let v21 : BitVec 1 := Scalar.cmpi .eq c8_i32 c0_i32_8
  let c1_i32_9 : BitVec 32 := 1#32
  let v22 : BitVec 32 := Scalar.select v21 c1_i32_9 c8_i32
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c1_i32_13 : BitVec 32 := 1#32
  let v31 : BitVec 32 := Scalar.subi arg0 c1_i32_13
  let c0_i32_14 : BitVec 32 := 0#32
  let v32 : BitVec 32 := Scalar.maxsi v31 c0_i32_14
  let c8_i32_15 : BitVec 32 := 8#32
  let v33 : BitVec 32 := Scalar.divsi v32 c8_i32_15
  let c0_i32_16 : BitVec 32 := 0#32
  let v34 : BitVec 1 := Scalar.cmpi .sgt v32 c0_i32_16
  let v35 : BitVec 32 := Scalar.extui v34
  let c0_i32_17 : BitVec 32 := 0#32
  let v36 : BitVec 1 := Scalar.cmpi .slt v32 c0_i32_17
  let v37 : BitVec 32 := Scalar.extui v36
  let v38 : BitVec 32 := Scalar.subi v35 v37
  let c0_i32_18 : BitVec 32 := 0#32
  let v39 : BitVec 1 := Scalar.cmpi .sgt c8_i32_15 c0_i32_18
  let v40 : BitVec 32 := Scalar.extui v39
  let c0_i32_19 : BitVec 32 := 0#32
  let v41 : BitVec 1 := Scalar.cmpi .slt c8_i32_15 c0_i32_19
  let v42 : BitVec 32 := Scalar.extui v41
  let v43 : BitVec 32 := Scalar.subi v40 v42
  let v44 : BitVec 1 := Scalar.cmpi .ne v38 v43
  let v45 : BitVec 32 := Scalar.remsi v32 c8_i32_15
  let c0_i32_20 : BitVec 32 := 0#32
  let v46 : BitVec 1 := Scalar.cmpi .ne v45 c0_i32_20
  let v47 : BitVec 1 := Scalar.andi v44 v46
  let c1_i32_21 : BitVec 32 := 1#32
  let v48 : BitVec 32 := Scalar.subi v33 c1_i32_21
  let v49 : BitVec 32 := Scalar.select v47 v48 v33
  let c2_i32 : BitVec 32 := 2#32
  let c0_i32_22 : BitVec 32 := 0#32
  let v50 : BitVec 1 := Scalar.cmpi .eq c2_i32 c0_i32_22
  let c1_i32_23 : BitVec 32 := 1#32
  let v51 : BitVec 32 := Scalar.select v50 c1_i32_23 c2_i32
  let v52 : BitVec 32 := Scalar.remsi v49 v51
  let c0_i32_24 : BitVec 32 := 0#32
  let v53 : BitVec 1 := Scalar.cmpi .ne v52 c0_i32_24
  let c0_i32_25 : BitVec 32 := 0#32
  let v54 : BitVec 1 := Scalar.cmpi .slt v52 c0_i32_25
  let c0_i32_26 : BitVec 32 := 0#32
  let v55 : BitVec 1 := Scalar.cmpi .slt v51 c0_i32_26
  let v56 : BitVec 1 := Scalar.xori v54 v55
  let v57 : BitVec 1 := Scalar.andi v56 v53
  let v58 : BitVec 32 := Scalar.addi v52 v51
  let v59 : BitVec 32 := Scalar.select v57 v58 v52
  let c0_i32_27 : BitVec 32 := 0#32
  ![v18.toNat, v30.toNat, v59.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1 : Shape := ⟨1, ![1]⟩
abbrev S8x8x64x4096 : Shape := ⟨4, ![8, 8, 64, 4096]⟩
abbrev S8x2x64x4096 : Shape := ⟨4, ![8, 2, 64, 4096]⟩
abbrev S8x2x128x4096 : Shape := ⟨4, ![8, 2, 128, 4096]⟩
abbrev S8x2x4x64x4096 : Shape := ⟨5, ![8, 2, 4, 64, 4096]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x4x4096x64 : Shape := ⟨5, ![8, 2, 4, 4096, 64]⟩
abbrev S8x4096x2x4x64 : Shape := ⟨5, ![8, 4096, 2, 4, 64]⟩
abbrev S8x4096x512 : Shape := ⟨3, ![8, 4096, 512]⟩

abbrev nBuf : Space → Nat
  | .hbm => 32
  | .vmem => 0
  | .smem => 0
  | _ => 0

abbrev bufTy : (tb : Table) → Fin (tcTables nBuf tb) → BufTy
  | .hbm, ⟨0, _⟩ => ⟨S1, .f32⟩
  | .hbm, ⟨1, _⟩ => ⟨S8x8x64x4096, .bf16⟩
  | .hbm, ⟨2, _⟩ => ⟨S8x2x64x4096, .bf16⟩
  | .hbm, ⟨3, _⟩ => ⟨S8x2x128x4096, .bf16⟩
  | .hbm, ⟨4, _⟩ => ⟨S8x8x64x4096, .f32⟩
  | .hbm, ⟨5, _⟩ => ⟨S8x2x4x64x4096, .f32⟩
  | .hbm, ⟨6, _⟩ => ⟨S8x2x64x4096, .f32⟩
  | .hbm, ⟨7, _⟩ => ⟨S8x2x64x4096, .bf16⟩
  | .hbm, ⟨8, _⟩ => ⟨S8x2x64x4096, .f32⟩
  | .hbm, ⟨9, _⟩ => ⟨S8x2x4x4096x4096, .f32⟩
  | .hbm, ⟨10, _⟩ => ⟨S_, .f32⟩
  | .hbm, ⟨11, _⟩ => ⟨S_, .f32⟩
  | .hbm, ⟨12, _⟩ => ⟨S8x2x4x4096x4096, .f32⟩
  | .hbm, ⟨13, _⟩ => ⟨S8x2x4x4096x4096, .f32⟩
  | .hbm, ⟨14, _⟩ => ⟨S_, .f32⟩
  | .hbm, ⟨15, _⟩ => ⟨S8x2x4x4096, .f32⟩
  | .hbm, ⟨16, _⟩ => ⟨S_, .f32⟩
  | .hbm, ⟨17, _⟩ => ⟨S8x2x4x4096, .f32⟩
  | .hbm, ⟨18, _⟩ => ⟨S8x2x4x4096, .f32⟩
  | .hbm, ⟨19, _⟩ => ⟨S8x2x4x4096x1, .f32⟩
  | .hbm, ⟨20, _⟩ => ⟨S8x2x4x4096x4096, .f32⟩
  | .hbm, ⟨21, _⟩ => ⟨S8x2x4x4096x4096, .f32⟩
  | .hbm, ⟨22, _⟩ => ⟨S8x2x4x4096x4096, .f32⟩
  | .hbm, ⟨23, _⟩ => ⟨S_, .f32⟩
  | .hbm, ⟨24, _⟩ => ⟨S8x2x4x4096, .f32⟩
  | .hbm, ⟨25, _⟩ => ⟨S8x2x4x4096x1, .f32⟩
  | .hbm, ⟨26, _⟩ => ⟨S8x2x4x4096x4096, .f32⟩
  | .hbm, ⟨27, _⟩ => ⟨S8x2x4x4096x4096, .f32⟩
  | .hbm, ⟨28, _⟩ => ⟨S8x2x4x4096x64, .f32⟩
  | .hbm, ⟨29, _⟩ => ⟨S8x4096x2x4x64, .f32⟩
  | .hbm, ⟨30, _⟩ => ⟨S8x4096x512, .f32⟩
  | .hbm, ⟨31, _⟩ => ⟨S8x4096x512, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Ffn.lean ====
abbrev S8x4096x512 : Shape := ⟨3, ![8, 4096, 512]⟩
abbrev S8x4096x1024 : Shape := ⟨3, ![8, 4096, 1024]⟩
abbrev S1024x1024 : Shape := ⟨2, ![1024, 1024]⟩
abbrev S1x128 : Shape := ⟨2, ![1, 128]⟩
abbrev S1x1024 : Shape := ⟨2, ![1, 1024]⟩
abbrev S1024x2816 : Shape := ⟨2, ![1024, 2816]⟩
abbrev S2816x1024 : Shape := ⟨2, ![2816, 1024]⟩
abbrev S32768x512 : Shape := ⟨2, ![32768, 512]⟩
abbrev S32768x1024 : Shape := ⟨2, ![32768, 1024]⟩
abbrev S512x512 : Shape := ⟨2, ![512, 512]⟩
abbrev S512x1024 : Shape := ⟨2, ![512, 1024]⟩
abbrev S2x512x1024 : Shape := ⟨3, ![2, 512, 1024]⟩
abbrev S1x512x1024 : Shape := ⟨3, ![1, 512, 1024]⟩
abbrev S1024x256 : Shape := ⟨2, ![1024, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x2816 : Shape := ⟨2, ![512, 2816]⟩

abbrev nBuf : Space → Nat
  | .hbm => 21
  | .vmem => 23
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x1024, .f32⟩
  | .hbm, ⟨5, _⟩ => ⟨S1024x1024, .bf16⟩
  | .hbm, ⟨6, _⟩ => ⟨S1x128, .f32⟩
  | .hbm, ⟨7, _⟩ => ⟨S1x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S32768x512, .bf16⟩
  | .hbm, ⟨15, _⟩ => ⟨S32768x512, .bf16⟩
  | .hbm, ⟨16, _⟩ => ⟨S32768x512, .bf16⟩
  | .hbm, ⟨17, _⟩ => ⟨S32768x512, .bf16⟩
  | .hbm, ⟨18, _⟩ => ⟨S32768x1024, .f32⟩
  | .hbm, ⟨19, _⟩ => ⟨S32768x1024, .f32⟩
  | .hbm, ⟨20, _⟩ => ⟨S8x4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S2x512x1024, .f32⟩
  | .local _ .vmem, ⟨22, _⟩ => ⟨S2x512x1024, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v24 : Index := Scalar.indexCast v20
  let c0 : Index := 0#32
  let c0_12 : Index := 0#32
  ![v24.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v307 : Index := Scalar.indexCast v9
  let c0_152 : Index := 0#32
  let c0_153 : Index := 0#32
  ![v307.toNat, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfnReferenceIdeal.lean ====
abbrev S8x4096x512 : Shape := ⟨3, ![8, 4096, 512]⟩
abbrev S8x4096x1024 : Shape := ⟨3, ![8, 4096, 1024]⟩
abbrev S1024x1024 : Shape := ⟨2, ![1024, 1024]⟩
abbrev S1x128 : Shape := ⟨2, ![1, 128]⟩
abbrev S1x1024 : Shape := ⟨2, ![1, 1024]⟩
abbrev S1024x2816 : Shape := ⟨2, ![1024, 2816]⟩
abbrev S2816x1024 : Shape := ⟨2, ![2816, 1024]⟩
abbrev S8x4096x4x128 : Shape := ⟨4, ![8, 4096, 4, 128]⟩
abbrev S128 : Shape := ⟨1, ![128]⟩
abbrev S_ : Shape := ⟨0, ![]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 138
  | .vmem => 0
  | .smem => 0
  | _ => 0

abbrev hbmTy0_0 (i : Nat) : BufTy := match i % 128 with
  | 0 => ⟨S8x4096x512, .bf16⟩
  | 1 => ⟨S8x4096x512, .bf16⟩
  | 2 => ⟨S8x4096x512, .bf16⟩
  | 3 => ⟨S8x4096x512, .bf16⟩
  | 4 => ⟨S8x4096x1024, .f32⟩
  | 5 => ⟨S1024x1024, .bf16⟩
  | 6 => ⟨S1x128, .f32⟩
  | 7 => ⟨S1x1024, .f32⟩
  | 8 => ⟨S1x1024, .f32⟩
  | 9 => ⟨S1024x2816, .bf16⟩
  | 10 => ⟨S1024x2816, .bf16⟩
  | 11 => ⟨S2816x1024, .bf16⟩
  | 12 => ⟨S1x1024, .f32⟩
  | 13 => ⟨S1x1024, .f32⟩
  | 14 => ⟨S8x4096x512, .f32⟩
  | 15 => ⟨S8x4096x512, .f32⟩
  | 16 => ⟨S8x4096x512, .f32⟩
  | 17 => ⟨S8x4096x4x128, .f32⟩
  | 18 => ⟨S128, .f32⟩
  | 19 => ⟨S8x4096x4x128, .f32⟩
  | 20 => ⟨S_, .f32⟩
  | 21 => ⟨S8x4096x4, .f32⟩
  | 22 => ⟨S8x4096x4x1, .f32⟩
  | 23 => ⟨S_, .f32⟩
  | 24 => ⟨S8x4096x4x1, .f32⟩
  | 25 => ⟨S8x4096x4x1, .f32⟩
  | 26 => ⟨S_, .f32⟩
  | 27 => ⟨S8x4096x4x1, .f32⟩
  | 28 => ⟨S8x4096x4x1, .f32⟩
  | 29 => ⟨S8x4096x4x1, .f32⟩
  | 30 => ⟨S8x4096x4x128, .f32⟩
  | 31 => ⟨S8x4096x4x128, .f32⟩
  | 32 => ⟨S1x1x1x128, .f32⟩
  | 33 => ⟨S8x4096x4x128, .f32⟩
  | 34 => ⟨S8x4096x4x128, .f32⟩
  | 35 => ⟨S8x4096x512, .f32⟩
  | 36 => ⟨S8x4096x4x128, .f32⟩
  | 37 => ⟨S8x4096x4x128, .f32⟩
  | 38 => ⟨S8x4096x4x128, .f32⟩
  | 39 => ⟨S_, .f32⟩
  | 40 => ⟨S8x4096x4x128, .f32⟩
  | 41 => ⟨S8x4096x4x128, .f32⟩
  | 42 => ⟨S_, .f32⟩
  | 43 => ⟨S8x4096x4x128, .f32⟩
  | 44 => ⟨S8x4096x4x128, .f32⟩
  | 45 => ⟨S8x4096x4x128, .f32⟩
  | 46 => ⟨S8x4096x4x128, .f32⟩
  | 47 => ⟨S8x4096x512, .f32⟩
  | 48 => ⟨S8x4096x512, .f32⟩
  | 49 => ⟨S8x4096x1024, .f32⟩
  | 50 => ⟨S1024x1024, .f32⟩
  | 51 => ⟨S8x4096x1024, .f32⟩
  | 52 => ⟨S_, .f32⟩
  | 53 => ⟨S8x4096x1024, .f32⟩
  | 54 => ⟨S8x4096x1024, .f32⟩
  | 55 => ⟨S8x4096x1024, .f32⟩
  | 56 => ⟨S1024, .f32⟩
  | 57 => ⟨S1024, .f32⟩
  | 58 => ⟨S_, .f32⟩
  | 59 => ⟨S8x4096, .f32⟩
  | 60 => ⟨S8x4096x1, .f32⟩
  | 61 => ⟨S_, .f32⟩
  | 62 => ⟨S8x4096x1, .f32⟩
  | 63 => ⟨S8x4096x1, .f32⟩
  | 64 => ⟨S8x4096x1024, .f32⟩
  | 65 => ⟨S8x4096x1024, .f32⟩
  | 66 => ⟨S8x4096x1024, .f32⟩
  | 67 => ⟨S_, .f32⟩
  | 68 => ⟨S8x4096, .f32⟩
  | 69 => ⟨S8x4096x1, .f32⟩
  | 70 => ⟨S_, .f32⟩
  | 71 => ⟨S8x4096x1, .f32⟩
  | 72 => ⟨S8x4096x1, .f32⟩
  | 73 => ⟨S8x4096x1024, .f32⟩
  | 74 => ⟨S8x4096x1024, .f32⟩
  | 75 => ⟨S_, .f32⟩
  | 76 => ⟨S8x4096x1, .f32⟩
  | 77 => ⟨S8x4096x1, .f32⟩
  | 78 => ⟨S8x4096x1, .f32⟩
  | 79 => ⟨S8x4096x1024, .f32⟩
  | 80 => ⟨S8x4096x1024, .f32⟩
  | 81 => ⟨S1x1x1024, .f32⟩
  | 82 => ⟨S8x4096x1024, .f32⟩
  | 83 => ⟨S8x4096x1024, .f32⟩
  | 84 => ⟨S1x1x1024, .f32⟩
  | 85 => ⟨S8x4096x1024, .f32⟩
  | 86 => ⟨S8x4096x1024, .f32⟩
  | 87 => ⟨S1024x2816, .f32⟩
  | 88 => ⟨S8x4096x2816, .f32⟩
  | 89 => ⟨S8x4096x2816, .f32⟩
  | 90 => ⟨S8x4096x2816, .f32⟩
  | 91 => ⟨S_, .f32⟩
  | 92 => ⟨S8x4096x2816, .f32⟩
  | 93 => ⟨S8x4096x2816, .f32⟩
  | 94 => ⟨S_, .f32⟩
  | 95 => ⟨S8x4096x2816, .f32⟩
  | 96 => ⟨S8x4096x2816, .f32⟩
  | 97 => ⟨S8x4096x2816, .f32⟩
  | 98 => ⟨S1024x2816, .f32⟩
  | 99 => ⟨S8x4096x2816, .f32⟩
  | 100 => ⟨S8x4096x2816, .f32⟩
  | 101 => ⟨S2816x1024, .f32⟩
  | 102 => ⟨S8x4096x1024, .f32⟩
  | 103 => ⟨S_, .f32⟩
  | 104 => ⟨S8x4096x1024, .f32⟩
  | 105 => ⟨S8x4096x1024, .f32⟩
  | 106 => ⟨S8x4096x1024, .f32⟩
  | 107 => ⟨S1024, .f32⟩
  | 108 => ⟨S1024, .f32⟩
  | 109 => ⟨S_, .f32⟩
  | 110 => ⟨S8x4096, .f32⟩
  | 111 => ⟨S8x4096x1, .f32⟩
  | 112 => ⟨S_, .f32⟩
  | 113 => ⟨S8x4096x1, .f32⟩
  | 114 => ⟨S8x4096x1, .f32⟩
  | 115 => ⟨S8x4096x1024, .f32⟩
  | 116 => ⟨S8x4096x1024, .f32⟩
  | 117 => ⟨S8x4096x1024, .f32⟩
  | 118 => ⟨S_, .f32⟩
  | 119 => ⟨S8x4096, .f32⟩
  | 120 => ⟨S8x4096x1, .f32⟩
  | 121 => ⟨S_, .f32⟩
  | 122 => ⟨S8x4096x1, .f32⟩
  | 123 => ⟨S8x4096x1, .f32⟩
  | 124 => ⟨S8x4096x1024, .f32⟩
  | 125 => ⟨S8x4096x1024, .f32⟩
  | 126 => ⟨S_, .f32⟩
  | 127 => ⟨S8x4096x1, .f32⟩
  | _ => ⟨S8x4096x512, .bf16⟩

abbrev hbmTy0_1 (i : Nat) : BufTy := match i % 128 with
  | 0 => ⟨S8x4096x1, .f32⟩
  | 1 => ⟨S8x4096x1, .f32⟩
  | 2 => ⟨S8x4096x1024, .f32⟩
  | 3 => ⟨S8x4096x1024, .f32⟩
  | 4 => ⟨S1x1x1024, .f32⟩
  | 5 => ⟨S8x4096x1024, .f32⟩
  | 6 => ⟨S8x4096x1024, .f32⟩
  | 7 => ⟨S1x1x1024, .f32⟩
  | 8 => ⟨S8x4096x1024, .f32⟩
  | 9 => ⟨S8x4096x1024, .f32⟩
  | _ => ⟨S8x4096x512, .bf16⟩

abbrev hbmTy (i : Nat) : BufTy := match i / 128 with
  | 0 => hbmTy0_0 i
  | 1 => hbmTy0_1 i
  | _ => ⟨S8x4096x512, .bf16⟩

abbrev bufTy : (tb : Table) → Fin (tcTables nBuf tb) → BufTy
  | .hbm, ⟨i, _⟩ => hbmTy i
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_8 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_9 : Ref sig .tc := ⟨.hbm, 109, rfl⟩
abbrev main_v69 : Ref sig .tc := ⟨.hbm, 110, rfl⟩
abbrev main_v70 : Ref sig .tc := ⟨.hbm, 111, rfl⟩
abbrev main_cst_10 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_11 : Ref sig .tc := ⟨.hbm, 118, rfl⟩
abbrev main_v76 : Ref sig .tc := ⟨.hbm, 119, rfl⟩
abbrev main_v77 : Ref sig .tc := ⟨.hbm, 120, rfl⟩
abbrev main_cst_12 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_13 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩

abbrev nD : Nat := 1
abbrev τ : Topo := Topo.v7x

variable {F : FTy → Type} [FloatOps F]
-- ==== Proj.lean ====
abbrev S8x4096x1024 : Shape := ⟨3, ![8, 4096, 1024]⟩
abbrev S1024x2432 : Shape := ⟨2, ![1024, 2432]⟩
abbrev S128x512 : Shape := ⟨2, ![128, 512]⟩
abbrev S1x512 : Shape := ⟨2, ![1, 512]⟩
abbrev S1x128 : Shape := ⟨2, ![1, 128]⟩
abbrev S4096x128 : Shape := ⟨2, ![4096, 128]⟩
abbrev S8x8x64x4096 : Shape := ⟨4, ![8, 8, 64, 4096]⟩
abbrev S8x2x64x4096 : Shape := ⟨4, ![8, 2, 64, 4096]⟩
abbrev S8x2x128x4096 : Shape := ⟨4, ![8, 2, 128, 4096]⟩
abbrev S8x4096x256 : Shape := ⟨3, ![8, 4096, 256]⟩
abbrev S8x4096x512 : Shape := ⟨3, ![8, 4096, 512]⟩
abbrev S1x1024x1024 : Shape := ⟨3, ![1, 1024, 1024]⟩
abbrev S1024x128 : Shape := ⟨2, ![1024, 128]⟩
abbrev S1x8x64x1024 : Shape := ⟨4, ![1, 8, 64, 1024]⟩
abbrev S1x2x64x1024 : Shape := ⟨4, ![1, 2, 64, 1024]⟩
abbrev S1x2x128x1024 : Shape := ⟨4, ![1, 2, 128, 1024]⟩
abbrev S1x1024x256 : Shape := ⟨3, ![1, 1024, 256]⟩
abbrev S1x1024x512 : Shape := ⟨3, ![1, 1024, 512]⟩
abbrev S2x1024x512 : Shape := ⟨3, ![2, 1024, 512]⟩
abbrev S2x1024x256 : Shape := ⟨3, ![2, 1024, 256]⟩
abbrev S2x1024x128 : Shape := ⟨3, ![2, 1024, 128]⟩
abbrev S1024x512 : Shape := ⟨2, ![1024, 512]⟩
abbrev S1024x256 : Shape := ⟨2, ![1024, 256]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩
abbrev S128x1024 : Shape := ⟨2, ![128, 1024]⟩
abbrev S64x1024 : Shape := ⟨2, ![64, 1024]⟩
abbrev S1x1x64x1024 : Shape := ⟨4, ![1, 1, 64, 1024]⟩
abbrev S1x1x128x1024 : Shape := ⟨4, ![1, 1, 128, 1024]⟩

abbrev nBuf : Space → Nat
  | .hbm => 18
  | .vmem => 34
  | .smem => 0
  | _ => 0

abbrev bufTy : (tb : Table) → Fin (tcTables nBuf tb) → BufTy
  | .hbm, ⟨0, _⟩ => ⟨S8x4096x1024, .f32⟩
  | .hbm, ⟨1, _⟩ => ⟨S1024x2432, .bf16⟩
  | .hbm, ⟨2, _⟩ => ⟨S128x512, .bf16⟩
  | .hbm, ⟨3, _⟩ => ⟨S1x512, .f32⟩
  | .hbm, ⟨4, _⟩ => ⟨S1x128, .f32⟩
  | .hbm, ⟨5, _⟩ => ⟨S1x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S8x8x64x4096, .bf16⟩
  | .hbm, ⟨10, _⟩ => ⟨S8x2x64x4096, .bf16⟩
  | .hbm, ⟨11, _⟩ => ⟨S8x2x128x4096, .bf16⟩
  | .hbm, ⟨12, _⟩ => ⟨S8x4096x256, .bf16⟩
  | .hbm, ⟨13, _⟩ => ⟨S8x4096x256, .bf16⟩
  | .hbm, ⟨14, _⟩ => ⟨S8x4096x512, .bf16⟩
  | .hbm, ⟨15, _⟩ => ⟨S8x4096x512, .bf16⟩
  | .hbm, ⟨16, _⟩ => ⟨S8x4096x256, .f32⟩
  | .hbm, ⟨17, _⟩ => ⟨S8x4096x256, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x2432, .bf16⟩
  | .local _ .vmem, ⟨3, _⟩ => ⟨S128x512, .bf16⟩
  | .local _ .vmem, ⟨4, _⟩ => ⟨S1x512, .f32⟩
  | .local _ .vmem, ⟨5, _⟩ => ⟨S1x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x8x64x1024, .bf16⟩
  | .local _ .vmem, ⟨14, _⟩ => ⟨S1x8x64x1024, .bf16⟩
  | .local _ .vmem, ⟨15, _⟩ => ⟨S1x2x64x1024, .bf16⟩
  | .local _ .vmem, ⟨16, _⟩ => ⟨S1x2x64x1024, .bf16⟩
  | .local _ .vmem, ⟨17, _⟩ => ⟨S1x2x128x1024, .bf16⟩
  | .local _ .vmem, ⟨18, _⟩ => ⟨S1x2x128x1024, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x1024x256, .bf16⟩
  | .local _ .vmem, ⟨22, _⟩ => ⟨S1x1024x256, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x512, .bf16⟩
  | .local _ .vmem, ⟨27, _⟩ => ⟨S1x1024x256, .f32⟩
  | .local _ .vmem, ⟨28, _⟩ => ⟨S1x1024x256, .f32⟩
  | .local _ .vmem, ⟨29, _⟩ => ⟨S1x1024x256, .f32⟩
  | .local _ .vmem, ⟨30, _⟩ => ⟨S1x1024x256, .f32⟩
  | .local _ .vmem, ⟨31, _⟩ => ⟨S2x1024x512, .f32⟩
  | .local _ .vmem, ⟨32, _⟩ => ⟨S2x1024x256, .f32⟩
  | .local _ .vmem, ⟨33, _⟩ => ⟨S2x1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v41 : Index := Scalar.indexCast v20
  let c0_25 : Index := 0#32
  let c0_26 : Index := 0#32
  ![v41.toNat, 0, 0]
def k0_off2 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v97 : Index := Scalar.indexCast v20
  let c0_50 : Index := 0#32
  let c128 : Index := 128#32
  ![v97.toNat, 0, 128]
def k0_off3 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v153 : Index := Scalar.indexCast v20
  let c0_75 : Index := 0#32
  let c256 : Index := 256#32
  ![v153.toNat, 0, 256]
def k0_off4 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v209 : Index := Scalar.indexCast v20
  let c0_100 : Index := 0#32
  let c384 : Index := 384#32
  ![v209.toNat, 0, 384]
def k0_off5 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v265 : Index := Scalar.indexCast v20
  let c0_125 : Index := 0#32
  let c0_126 : Index := 0#32
  ![v265.toNat, 0, 0]
def k0_off6 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v319 : Index := Scalar.indexCast v20
  let c0_152 : Index := 0#32
  let c128_153 : Index := 128#32
  ![v319.toNat, 0, 128]
def k0_off7 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v340 : Index := Scalar.indexCast v20
  let c0_166 : Index := 0#32
  let c0_167 : Index := 0#32
  ![v340.toNat, 0, 0]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v371 : Index := Scalar.indexCast v9
  let c0_186 : Index := 0#32
  let c0_187 : Index := 0#32
  ![v371.toNat, 0, 0]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v377 : Index := Scalar.indexCast v9
  let c0_191 : Index := 0#32
  let c256_192 : Index := 256#32
  ![v377.toNat, 0, 256]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v383 : Index := Scalar.indexCast v9
  let c0_195 : Index := 0#32
  let c0_196 : Index := 0#32
  ![v383.toNat, 0, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v389 : Index := Scalar.indexCast v9
  let c0_199 : Index := 0#32
  let c0_200 : Index := 0#32
  ![v389.toNat, 0, 0]
def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c31_i32_3 : BitVec 32 := 31#32
  let v11 : BitVec 32 := Scalar.minsi arg0 c31_i32_3
  let c8_i32_4 : BitVec 32 := 8#32
  let v12 : BitVec 32 := Scalar.divsi v11 c8_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c8_i32_4 c0_i32_7
  let v19 : BitVec 32 := Scalar.extui v18
  let c0_i32_8 : BitVec 32 := 0#32
  let v20 : BitVec 1 := Scalar.cmpi .slt c8_i32_4 c0_i32_8
  let v21 : BitVec 32 := Scalar.extui v20
  let v22 : BitVec 32 := Scalar.subi v19 v21
  let v23 : BitVec 1 := Scalar.cmpi .ne v17 v22
  let v24 : BitVec 32 := Scalar.remsi v11 c8_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  let c0_i32_12 : BitVec 32 := 0#32
  ![v10.toNat, v28.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_9 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c8_i32_7 : BitVec 32 := 8#32
  let v14 : BitVec 32 := Scalar.divsi v13 c8_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c8_i32_7 c0_i32_10
  let v21 : BitVec 32 := Scalar.extui v20
  let c0_i32_11 : BitVec 32 := 0#32
  let v22 : BitVec 1 := Scalar.cmpi .slt c8_i32_7 c0_i32_11
  let v23 : BitVec 32 := Scalar.extui v22
  let v24 : BitVec 32 := Scalar.subi v21 v23
  let v25 : BitVec 1 := Scalar.cmpi .ne v19 v24
  let v26 : BitVec 32 := Scalar.remsi v13 c8_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  let c0_i32_16 : BitVec 32 := 0#32
  ![v11.toNat, c0_i32_14.toNat, c0_i32_15.toNat, v30.toNat]

def cc0_transform_10 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c8_i32_7 : BitVec 32 := 8#32
  let v14 : BitVec 32 := Scalar.divsi v13 c8_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c8_i32_7 c0_i32_10
  let v21 : BitVec 32 := Scalar.extui v20
  let c0_i32_11 : BitVec 32 := 0#32
  let v22 : BitVec 1 := Scalar.cmpi .slt c8_i32_7 c0_i32_11
  let v23 : BitVec 32 := Scalar.extui v22
  let v24 : BitVec 32 := Scalar.subi v21 v23
  let v25 : BitVec 1 := Scalar.cmpi .ne v19 v24
  let v26 : BitVec 32 := Scalar.remsi v13 c8_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  let c0_i32_16 : BitVec 32 := 0#32
  ![v11.toNat, c0_i32_14.toNat, c0_i32_15.toNat, v30.toNat]

def cc0_transform_11 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c8_i32_7 : BitVec 32 := 8#32
  let v14 : BitVec 32 := Scalar.divsi v13 c8_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c8_i32_7 c0_i32_10
  let v21 : BitVec 32 := Scalar.extui v20
  let c0_i32_11 : BitVec 32 := 0#32
  let v22 : BitVec 1 := Scalar.cmpi .slt c8_i32_7 c0_i32_11
  let v23 : BitVec 32 := Scalar.extui v22
  let v24 : BitVec 32 := Scalar.subi v21 v23
  let v25 : BitVec 1 := Scalar.cmpi .ne v19 v24
  let v26 : BitVec 32 := Scalar.remsi v13 c8_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  let c0_i32_16 : BitVec 32 := 0#32
  ![v11.toNat, c0_i32_14.toNat, c0_i32_15.toNat, v30.toNat]

def cc0_transform_12 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c31_i32_3 : BitVec 32 := 31#32
  let v11 : BitVec 32 := Scalar.minsi arg0 c31_i32_3
  let c8_i32_4 : BitVec 32 := 8#32
  let v12 : BitVec 32 := Scalar.divsi v11 c8_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c8_i32_4 c0_i32_7
  let v19 : BitVec 32 := Scalar.extui v18
  let c0_i32_8 : BitVec 32 := 0#32
  let v20 : BitVec 1 := Scalar.cmpi .slt c8_i32_4 c0_i32_8
  let v21 : BitVec 32 := Scalar.extui v20
  let v22 : BitVec 32 := Scalar.subi v19 v21
  let v23 : BitVec 1 := Scalar.cmpi .ne v17 v22
  let v24 : BitVec 32 := Scalar.remsi v11 c8_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  let c0_i32_12 : BitVec 32 := 0#32
  ![v10.toNat, v28.toNat, c0_i32_11.toNat]

def cc0_transform_13 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c31_i32_3 : BitVec 32 := 31#32
  let v11 : BitVec 32 := Scalar.minsi arg0 c31_i32_3
  let c8_i32_4 : BitVec 32 := 8#32
  let v12 : BitVec 32 := Scalar.divsi v11 c8_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c8_i32_4 c0_i32_7
  let v19 : BitVec 32 := Scalar.extui v18
  let c0_i32_8 : BitVec 32 := 0#32
  let v20 : BitVec 1 := Scalar.cmpi .slt c8_i32_4 c0_i32_8
  let v21 : BitVec 32 := Scalar.extui v20
  let v22 : BitVec 32 := Scalar.subi v19 v21
  let v23 : BitVec 1 := Scalar.cmpi .ne v17 v22
  let v24 : BitVec 32 := Scalar.remsi v11 c8_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  let c0_i32_12 : BitVec 32 := 0#32
  ![v10.toNat, v28.toNat, c0_i32_11.toNat]

def cc0_transform_14 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c31_i32_3 : BitVec 32 := 31#32
  let v11 : BitVec 32 := Scalar.minsi arg0 c31_i32_3
  let c8_i32_4 : BitVec 32 := 8#32
  let v12 : BitVec 32 := Scalar.divsi v11 c8_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c8_i32_4 c0_i32_7
  let v19 : BitVec 32 := Scalar.extui v18
  let c0_i32_8 : BitVec 32 := 0#32
  let v20 : BitVec 1 := Scalar.cmpi .slt c8_i32_4 c0_i32_8
  let v21 : BitVec 32 := Scalar.extui v20
  let v22 : BitVec 32 := Scalar.subi v19 v21
  let v23 : BitVec 1 := Scalar.cmpi .ne v17 v22
  let v24 : BitVec 32 := Scalar.remsi v11 c8_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  let c0_i32_12 : BitVec 32 := 0#32
  ![v10.toNat, v28.toNat, c0_i32_11.toNat]

def cc0_transform_15 (i : grid0.Coords) : Fin 3 → Nat :=
  let arg0 : BitVec 32 := BitVec.ofNat 32 (i 0).val
  let c31_i32 : BitVec 32 := 31#32
  let v0 : BitVec 32 := Scalar.minsi arg0 c31_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c31_i32_3 : BitVec 32 := 31#32
  let v11 : BitVec 32 := Scalar.minsi arg0 c31_i32_3
  let c8_i32_4 : BitVec 32 := 8#32
  let v12 : BitVec 32 := Scalar.divsi v11 c8_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c8_i32_4 c0_i32_7
  let v19 : BitVec 32 := Scalar.extui v18
  let c0_i32_8 : BitVec 32 := 0#32
  let v20 : BitVec 1 := Scalar.cmpi .slt c8_i32_4 c0_i32_8
  let v21 : BitVec 32 := Scalar.extui v20
  let v22 : BitVec 32 := Scalar.subi v19 v21
  let v23 : BitVec 1 := Scalar.cmpi .ne v17 v22
  let v24 : BitVec 32 := Scalar.remsi v11 c8_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  let c0_i32_12 : BitVec 32 := 0#32
  ![v10.toNat, v28.toNat, c0_i32_11.toNat]

def cc0_transform_16 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c8_i32_7 : BitVec 32 := 8#32
  let v14 : BitVec 32 := Scalar.divsi v13 c8_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c8_i32_7 c0_i32_10
  let v21 : BitVec 32 := Scalar.extui v20
  let c0_i32_11 : BitVec 32 := 0#32
  let v22 : BitVec 1 := Scalar.cmpi .slt c8_i32_7 c0_i32_11
  let v23 : BitVec 32 := Scalar.extui v22
  let v24 : BitVec 32 := Scalar.subi v21 v23
  let v25 : BitVec 1 := Scalar.cmpi .ne v19 v24
  let v26 : BitVec 32 := Scalar.remsi v13 c8_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  ![v11.toNat, v30.toNat, c0_i32_14.toNat]

def cc0_transform_17 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c8_i32_7 : BitVec 32 := 8#32
  let v14 : BitVec 32 := Scalar.divsi v13 c8_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c8_i32_7 c0_i32_10
  let v21 : BitVec 32 := Scalar.extui v20
  let c0_i32_11 : BitVec 32 := 0#32
  let v22 : BitVec 1 := Scalar.cmpi .slt c8_i32_7 c0_i32_11
  let v23 : BitVec 32 := Scalar.extui v22
  let v24 : BitVec 32 := Scalar.subi v21 v23
  let v25 : BitVec 1 := Scalar.cmpi .ne v19 v24
  let v26 : BitVec 32 := Scalar.remsi v13 c8_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  let c0_i32_15 : BitVec 32 := 0#32
  ![v11.toNat, v30.toNat, c0_i32_14.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjReferenceIdeal.lean ====
abbrev S8x4096x1024 : Shape := ⟨3, ![8, 4096, 1024]⟩
abbrev S1024x2432 : Shape := ⟨2, ![1024, 2432]⟩
abbrev S128x512 : Shape := ⟨2, ![128, 512]⟩
abbrev S1x512 : Shape := ⟨2, ![1, 512]⟩
abbrev S1x128 : Shape := ⟨2, ![1, 128]⟩
abbrev S4096x128 : Shape := ⟨2, ![4096, 128]⟩
abbrev S8x4096x2432 : Shape := ⟨3, ![8, 4096, 2432]⟩
abbrev S8x4096x1536 : Shape := ⟨3, ![8, 4096, 1536]⟩
abbrev S8x4096x256 : Shape := ⟨3, ![8, 4096, 256]⟩
abbrev S8x4096x512 : Shape := ⟨3, ![8, 4096, 512]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x2432, .bf16⟩
  | .hbm, ⟨2, _⟩ => ⟨S128x512, .bf16⟩
  | .hbm, ⟨3, _⟩ => ⟨S1x512, .f32⟩
  | .hbm, ⟨4, _⟩ => ⟨S1x128, .f32⟩
  | .hbm, ⟨5, _⟩ => ⟨S1x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S1024x2432, .f32⟩
  | .hbm, ⟨10, _⟩ => ⟨S8x4096x2432, .f32⟩
  | .hbm, ⟨11, _⟩ => ⟨S8x4096x1536, .f32⟩
  | .hbm, ⟨12, _⟩ => ⟨S8x4096x256, .f32⟩
  | .hbm, ⟨13, _⟩ => ⟨S8x4096x256, .f32⟩
  | .hbm, ⟨14, _⟩ => ⟨S8x4096x512, .f32⟩
  | .hbm, ⟨15, _⟩ => ⟨S8x4096x512, .f32⟩
  | .hbm, ⟨16, _⟩ => ⟨S_, .f32⟩
  | .hbm, ⟨17, _⟩ => ⟨S8x4096x256, .f32⟩
  | .hbm, ⟨18, _⟩ => ⟨S8x4096x256, .f32⟩
  | .hbm, ⟨19, _⟩ => ⟨S8x4096x256, .bf16⟩
  | .hbm, ⟨20, _⟩ => ⟨S8x4096x256, .bf16⟩
  | .hbm, ⟨21, _⟩ => ⟨S8x4096x512, .bf16⟩
  | .hbm, ⟨22, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Proof.Attn.KernelIdealRun.lean ====
module

public import proofs.«01_k».proof.Proof.Gen.KernelIdeal.Frame
public import proofs.«01_k».proof.Proof.Gen.KernelIdeal.Skeleton

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- One run of the kernel body on whole staging memrefs, at any point of the grid and whichever way its
    branches go: from the four inputs' blocks, the output's buffer and the two scratch buffers at named
    contents it runs to the end, leaves the inputs' blocks in place, and leaves in the output and in the
    two scratch buffers the vectors that are this definition's components. -/
noncomputable def bodyRun (c : Dev nD) (i : grid0.Coords) (arg1 : Memref sig .tc .smem S1 .f32) (harg1 : arg1.IsWhole) (arg2 : Memref sig .tc .vmem S1x4x64x512 .bf16) (harg2 : arg2.IsWhole) (arg3 : Memref sig .tc .vmem S1x1x64x4096 .bf16) (harg3 : arg3.IsWhole) (arg4 : Memref sig .tc .vmem S1x1x128x4096 .bf16) (harg4 : arg4.IsWhole) (arg5 : Memref sig .tc .vmem S1x512x256 .bf16) (harg5 : arg5.IsWhole) (arg6 : Memref sig .tc .vmem S2x64x2048 .f32) (harg6 : arg6.IsWhole) (arg7 : Memref sig .tc .vmem S2x1x2048 .f32) (harg7 : arg7.IsWhole)
    (x0 : Vec F S1 .f32) (x1 : Vec F S1x4x64x512 .bf16) (x2 : Vec F S1x1x64x4096 .bf16) (x3 : Vec F S1x1x128x4096 .bf16)
    (xo : Vec F S1x512x256 .bf16) (xs0 : Vec F S2x64x2048 .f32) (xs1 : Vec F S2x1x2048 .f32) :
    Σ' (yo : Vec F S1x512x256 .bf16) (ys0 : Vec F S2x64x2048 .f32), { ys1 : Vec F S2x1x2048 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare yo ∗ owns (c : Thread nD τ) arg6 fullShare ys0 ∗ owns (c : Thread nD τ) arg7 fullShare ys1) -∗ K ⟨⟩))
          ⊢ wp frame (wpE (defs₀ (F := F)) Variants.none c none) E (cc0__attn_kernel i arg1 harg1 arg2 harg2 arg3 harg3 arg4 harg4 arg5 harg5 arg6 harg6 arg7 harg7) K } := by
  refine ⟨?_, ?_, ?_, fun E K => ?run⟩
  case run =>
    simp only [cc0__attn_kernel_eq_skeleton]; unfold cc0__attn_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf8; obtain rfl := harg6.eq_unread hfs0; obtain rfl := harg7.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H8]
    · iexists _; isplitr; swap; · iexact H8
      ipureintro; rfl
    isplitl [HS0]
    · iexists _; isplitr; swap; · iexact HS0
      ipureintro; rfl
    iexists _; isplitr; swap; · iexact HS1
    ipureintro; rfl

end Cert.KernelIdeal.Attn

end
-- ==== Proof.Attn.KernelIdealFrame.lean ====
module

public import proofs.«01_k».proof.Proof.Gen.KernelIdeal.Frame
public import proofs.«01_k».proof.Proof.Attn.KernelIdealRun

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two scratch buffers between points -/

/-- The accumulator and the denominators, each as a whole memref. -/
abbrev accM : Memref sig .tc .vmem S2x64x2048 .f32 := Memref.whole cc0_scratch0
abbrev denM : Memref sig .tc .vmem S2x1x2048 .f32 := Memref.whole cc0_scratch1

/-- What the launch hands the region: both scratch buffers at some contents, and the generator register. -/
theorem rest_eq (c : Dev nD) :
    (Pipeline.ΦA spec0 c : sProp 𝕄)
      = iprop(iprop((∃ d, owns (c : Thread nD τ) accM fullShare d) ∗ (∃ d, owns (c : Thread nD τ) denM fullShare d)) ∗ (∃ r, prngReg c r)) := by
  unfold Pipeline.ΦA; rw [scopedRest0_eq]; simp only [accM, denM, owns_whole]; try rfl

/-! ## The proof data of the frame: nothing is said of the output -/

/-- The window the frame says nothing of: the output's. -/
def unsaid : Fin 5 → Bool := fun w => w.val == 4

/-- The frame's proof data: every input's block stays in place, nothing is named of the output, both scratch
    buffers hold anything between points. -/
def looseDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem loose_A (c : Dev nD) (w : Fin cfg0.W) : (looseDats m 0 c).A w = V m c (Pipeline.arrRef spec0 w) := by
  dsimp only [looseDats]

theorem loose_after0 (c : Dev nD) (t : Fin cfg0.N) : (looseDats m 0 c).after 0 t = iblk m c 0 t := by dsimp only [looseDats]
theorem loose_before0 (c : Dev nD) (t : Fin cfg0.N) (d) : (looseDats m 0 c).before 0 t d = iblk m c 0 t :=
  before0_0_of m (looseDats m 0 c) (loose_A m c 0) (loose_after0 m c) t d

theorem loose_after1 (c : Dev nD) (t : Fin cfg0.N) : (looseDats m 0 c).after 1 t = iblk m c 1 t := by dsimp only [looseDats]
theorem loose_before1 (c : Dev nD) (t : Fin cfg0.N) (d) : (looseDats m 0 c).before 1 t d = iblk m c 1 t :=
  before0_1_of m (looseDats m 0 c) (loose_A m c 1) (loose_after1 m c) t d

theorem loose_after2 (c : Dev nD) (t : Fin cfg0.N) : (looseDats m 0 c).after 2 t = iblk m c 2 t := by dsimp only [looseDats]
theorem loose_before2 (c : Dev nD) (t : Fin cfg0.N) (d) : (looseDats m 0 c).before 2 t d = iblk m c 2 t :=
  before0_2_of m (looseDats m 0 c) (loose_A m c 2) (loose_after2 m c) t d

theorem loose_after3 (c : Dev nD) (t : Fin cfg0.N) : (looseDats m 0 c).after 3 t = iblk m c 3 t := by dsimp only [looseDats]
theorem loose_before3 (c : Dev nD) (t : Fin cfg0.N) (d) : (looseDats m 0 c).before 3 t d = iblk m c 3 t :=
  before0_3_of m (looseDats m 0 c) (loose_A m c 3) (loose_after3 m c) t d

/-- What the body is called with at a point, window by window, -/
def loosePre (c : Dev nD) (t : Fin cfg0.N) : sProp 𝕄 :=
  iprop((looseDats m 0 c).Φ t.castSucc ∗ (looseDats m 0 c).owesAt () t.castSucc
    ∗ (∃ d, owns (c : Thread nD τ) (st0_0 t) fullShare ((looseDats m 0 c).before 0 t d))
    ∗ (∃ d, owns (c : Thread nD τ) (st0_1 t) fullShare ((looseDats m 0 c).before 1 t d))
    ∗ (∃ d, owns (c : Thread nD τ) (st0_2 t) fullShare ((looseDats m 0 c).before 2 t d))
    ∗ (∃ d, owns (c : Thread nD τ) (st0_3 t) fullShare ((looseDats m 0 c).before 3 t d))
    ∗ (∃ d, owns (c : Thread nD τ) (st0_4 t) fullShare d))

/-- and what it gives back. -/
def loosePost (c : Dev nD) (t : Fin cfg0.N) : sProp 𝕄 :=
  iprop((looseDats m 0 c).Φ t.succ ∗ (looseDats m 0 c).owesAt () t.succ
    ∗ owns (c : Thread nD τ) (st0_0 t) fullShare ((looseDats m 0 c).after 0 t)
    ∗ owns (c : Thread nD τ) (st0_1 t) fullShare ((looseDats m 0 c).after 1 t)
    ∗ owns (c : Thread nD τ) (st0_2 t) fullShare ((looseDats m 0 c).after 2 t)
    ∗ owns (c : Thread nD τ) (st0_3 t) fullShare ((looseDats m 0 c).after 3 t)
    ∗ (∃ d, owns (c : Thread nD τ) (st0_4 t) fullShare d))

set_option maxHeartbeats 4000000 in
/-- The body at any point, from its one run: whatever the scratch buffers held. -/
theorem loose_body (c : Dev nD) (t : Fin cfg0.N) :
    loosePre m c t ⊢ wp frame (wpE (defs₀ (F := F)) Variants.none c none) Set.univ (bodyAt0 t) (fun _ => loosePost m c t) := by
  unfold loosePre loosePost bodyAt0
  simp only [loose_before0, loose_before1, loose_before2, loose_before3]
  rw [show (looseDats m 0 c).owesAt () t.succ = (looseDats m 0 c).owesAt () t.castSucc from rfl,
    loose_after0, loose_after1, loose_after2, loose_after3]
  rw [show (looseDats m 0 c).Φ t.succ = Pipeline.ΦA spec0 c from rfl, show (looseDats m 0 c).Φ t.castSucc = Pipeline.ΦA spec0 c from rfl, rest_eq]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩⟩
  iapply ((bodyRun c (grid0.coords t) _ _ _ _ _ _ _ _ _ _ accM (Memref.isWhole_whole _) denM (Memref.isWhole_whole _) (iblk m c 0 t) (iblk m c 1 t) (iblk m c 2 t) (iblk m c 3 t) d4 s0 s1).2.2.2 Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  iexists _; iexact H4

/-- The table's row at a point is the body at that point. -/
theorem row_eq (t : Fin cfg0.N) :
    defs₀ (F := F) .tc cfg0.body (cfg0.bodyArgs t (cfg0.slots t)) = bodyAt0 t := by
  unfold defs₀; rw [Defs.onTc_tc]

theorem loose_obligation (c : Dev nD) : BodyObligation (looseDats (F := F) m 0 c) (defs₀ (F := F)) Variants.none () Set.univ unsaid := fun t => by
  rw [bigSep_W0, bigSep_W0, row_eq]
  exact triple_restated (loose_body m c t) rfl .rfl fun _ => .rfl

set_option backward.isDefEq.respectTransparency.types false in
/-- The launch, and every counter at zero at every final state. -/
theorem loose_run : θ_run defs (onTc (τ := τ) (main (F := F))) (s₀ m ρ) (fun r => (Pipeline.RDat.FramePost (cfgs 0) (fun c => (looseDats m 0 c).toRForget unsaid) (V m)) r ∧ r.2.sem = fun _ => 0) :=
  Pipeline.θ_run_frame_track_forget (Q' := _) cfgs (looseDats m) (0 : Fin 1) launch0 defs₀ Variants.none unsaid m ρ main
    (hbody := fun c => (loose_obligation m c).loose) (hshare := fun c => (looseDats m 0 c).share_full fun _ => rfl)
    (howed := fun _ _ => rfl) (V := V m) (hmain := hmain m Variants.none) (hA := loose_A m) (hin := fun _ => .rfl) (hout := fun _ => .rfl)

/-- THE FRAME: the kernel runs to the end from any memory, its arguments end unchanged and every counter ends at
    zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(Pipeline.RDat.FramePost.arr_in h.1 c 0 rfl).trans (loose_A m c 0), (Pipeline.RDat.FramePost.arr_in h.1 c 1 rfl).trans (loose_A m c 1), (Pipeline.RDat.FramePost.arr_in h.1 c 2 rfl).trans (loose_A m c 2), (Pipeline.RDat.FramePost.arr_in h.1 c 3 rfl).trans (loose_A m c 3)⟩, h.2⟩) (loose_run m ρ)

end Cert.KernelIdeal.Attn

end
-- ==== Proof.Mix.Slots.lean ====
module

public import Idealize.ShloMosaic.Lib.WritesUnit
public import Idealize.ShloMosaic.Lib.VecWindow
public import Idealize.ShloMosaic.Lib.Pipeline.FrameBody
public import Idealize.ShloMosaic.Lib.Pipeline.Value

@[expose] public section

noncomputable section

/-! Two facts of a buffer written rectangle by rectangle: the rectangle written last reads what was written, and a
rectangle apart from it reads what the rest of the list left. -/

namespace Cert.Slots

open Idealize.ShloMosaic

variable {sig : RefSig} {κ : Kind} {sp : Space} {s : Shape} {e : EltTy} {Val : EltTy → Type}

/-- A load of the rectangle written last reads the payload. -/
theorem ld_written (v : View sig κ sp s e) (f : v.ty.Contents Val) {off off' size : Fin s.rank → ℕ}
    (inb : ∀ a, off a + size a ≤ s.size a) (inb' : ∀ a, off' a + size a ≤ s.size a) (h : off' = off)
    (w : (Rect.unit off' size inb').shape.Idx → Val e) (L : List (View.Piece Val s e)) :
    View.ld (v.read Val (v.writes Val f (⟨Rect.unit off' size inb', w⟩ :: L))) (Rect.unit off size inb) = w := by
  subst h
  funext x
  exact View.read_writes_cons_unit_of_mem v f inb' w L _ x rfl fun a => by
    show off' a + 1 * (x a).val = _
    rw [Nat.one_mul]

/-- A load of a rectangle apart from the one written last, on some axis, reads what the earlier writes left. -/
theorem ld_kept (v : View sig κ sp s e) (f : v.ty.Contents Val) {off off' size size' : Fin s.rank → ℕ}
    (inb : ∀ a, off a + size a ≤ s.size a) (inb' : ∀ a, off' a + size' a ≤ s.size a) (a : Fin s.rank)
    (h : off a + size a ≤ off' a ∨ off' a + size' a ≤ off a)
    (w : (Rect.unit off' size' inb').shape.Idx → Val e) (L : List (View.Piece Val s e)) :
    View.ld (v.read Val (v.writes Val f (⟨Rect.unit off' size' inb', w⟩ :: L))) (Rect.unit off size inb)
      = View.ld (v.read Val (v.writes Val f L)) (Rect.unit off size inb) := by
  funext x
  refine View.read_writes_cons_unit_of_not_mem v f inb' w L _ rfl a ?_
  have hx : ((Rect.unit off size inb).idx x a).val = off a + (x a).val := by
    show off a + 1 * (x a).val = _
    rw [Nat.one_mul]
  have : (x a).val < size a := (x a).isLt
  rw [hx]; omega

/-- The same rectangle with its offsets spelt otherwise. -/
theorem ld_respell (X : s.Idx → Val e) {off off' size : Fin s.rank → ℕ} (inb : ∀ a, off a + size a ≤ s.size a)
    (inb' : ∀ a, off' a + size a ≤ s.size a) (h : off = off') :
    View.ld X (Rect.unit off size inb) = View.ld X (Rect.unit off' size inb') := by subst h; rfl

end Cert.Slots

end
-- ==== Proof.Mix.FfnIdealRun.lean ====
module

public import proofs.«01_k».proof.Proof.Gen.FfnIdeal.Frame
public import proofs.«01_k».proof.Proof.Gen.FfnIdeal.Skeleton

@[expose] public section

set_option maxRecDepth 16384

noncomputable section

namespace Cert.FfnIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-- The slot of the previous tile, and of the current one, at a point: the point's parity decides. -/
theorem off_prev : ∀ i : grid0.Coords, k0_off1 i = ![((i 0).val + 1) % 2, 0, 0] := by decide +kernel
theorem off_cur : ∀ i : grid0.Coords, k0_off2 i = ![(i 0).val % 2, 0, 0] := by decide +kernel
instance closed_prev (i : grid0.Coords) : ClosedOff (k0_off1 i) := ⟨![((i 0).val + 1) % 2, 0, 0], off_prev i⟩
instance closed_cur (i : grid0.Coords) : ClosedOff (k0_off2 i) := ⟨![(i 0).val % 2, 0, 0], off_cur i⟩

set_option maxHeartbeats 4000000 in
/-- One run of the kernel body on whole staging memrefs, at any point of the grid and whichever way its
    branch goes: from the fourteen inputs' blocks, the output's buffer and the two scratch buffers at named
    contents it runs to the end, leaves the inputs' blocks in place, and leaves in the output and in the
    two scratch buffers the vectors that are this definition's components. -/
noncomputable def bodyRun (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x1024 .f32) (harg15 : arg15.IsWhole) (arg16 : Memref sig .tc .vmem S2x512x1024 .f32) (harg16 : arg16.IsWhole) (arg17 : Memref sig .tc .vmem S2x512x1024 .bf16) (harg17 : arg17.IsWhole)
    (x0 : Vec F S512x512 .bf16) (x1 : Vec F S512x512 .bf16) (x2 : Vec F S512x512 .bf16) (x3 : Vec F S512x512 .bf16) (x4 : Vec F S512x1024 .f32) (x5 : Vec F S1024x1024 .bf16) (x6 : Vec F S1x128 .f32) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32)
    (xo : Vec F S512x1024 .f32) (xs0 : Vec F S2x512x1024 .f32) (xs1 : Vec F S2x512x1024 .bf16) :
    Σ' (yo : Vec F S512x1024 .f32) (ys0 : Vec F S2x512x1024 .f32), { ys1 : Vec F S2x512x1024 .bf16 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xo ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare yo ∗ owns (c : Thread nD τ) arg16 fullShare ys0 ∗ owns (c : Thread nD τ) arg17 fullShare ys1) -∗ K ⟨⟩))
          ⊢ wp frame (wpE (defs₀ (F := F)) Variants.none c none) E (cc0__mix_ffn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0__mix_ffn_kernel_eq_skeleton]; unfold cc0__mix_ffn_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; swap; · iexact H14
      ipureintro; rfl
    isplitl [H15]
    · iexists _; isplitr; swap; · iexact H15
      ipureintro; rfl
    iexists _; isplitr; swap; · iexact H16
    ipureintro; rfl

end Cert.FfnIdeal.Mix

end
-- ==== Proof.Mix.FfnIdealSpec.lean ====
module

public import proofs.«01_k».proof.Proof.Gen.FfnIdeal.Frame
public import proofs.«01_k».proof.Proof.Mix.FfnIdealRun
public import proofs.«01_k».proof.Proof.Mix.Slots

@[expose] public section

set_option maxRecDepth 16384

noncomputable section

namespace Cert.FfnIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

/-! ## What a point computes, from its blocks and the slots -/

/-- One chunk of 256 hidden units of a tile: the gate's product through the sigmoid unit, times the other product. -/
abbrev hid (xb : Vec F S1x512x1024 .bf16) (wg wu : Vec F S1024x2816 .bf16) {off : Fin 2 → ℕ}
    (inb : ∀ a, off a + S1024x256.size a ≤ S1024x2816.size a) : FVec F S512x256 .bf16 :=
  k0_pay9 xb (View.ld wg (Rect.unit off _ inb)) (View.ld wu (Rect.unit off _ inb))

/-- The output tile of a merged tile kept in both scratch buffers: its eleven chunks, the last product, the norm. -/
def ffnOut (x1 : Vec F S1x512x1024 .f32) (xb : Vec F S1x512x1024 .bf16) (wg wu : Vec F S1024x2816 .bf16)
    (wd : Vec F S2816x1024 .bf16) (g b : Vec F S1x1024 .f32) : FVec F S512x1024 .f32 :=
  k0_pay41 (hid xb wg wu inb_S1024x2816_S1024x256_0_0) (hid xb wg wu inb_S1024x2816_S1024x256_0_256) (hid xb wg wu inb_S1024x2816_S1024x256_0_512) (hid xb wg wu inb_S1024x2816_S1024x256_0_768) (hid xb wg wu inb_S1024x2816_S1024x256_0_1024) (hid xb wg wu inb_S1024x2816_S1024x256_0_1280) (hid xb wg wu inb_S1024x2816_S1024x256_0_1536) (hid xb wg wu inb_S1024x2816_S1024x256_0_1792) (hid xb wg wu inb_S1024x2816_S1024x256_0_2048) (hid xb wg wu inb_S1024x2816_S1024x256_0_2304)
    (k0_pay40 xb (View.ld wg (Rect.unit _ _ inb_S1024x2816_S1024x256_0_2560)) (View.ld wu (Rect.unit _ _ inb_S1024x2816_S1024x256_0_2560)))
    wd x1 g b

/-- A tile's attention and gated heads through the output projection. -/
def mixedV (x0 x1 x2 x3 : Vec F S512x512 .bf16) (x5 : Vec F S1024x1024 .bf16) (x6 : Vec F S1x128 .f32) : FVec F S512x1024 .f32 :=
  k0_pay26 (k0_pay8 (View.ld x1 (Rect.unit _ _ inb_S512x512_S512x128_0_0)) (View.ld x2 (Rect.unit _ _ inb_S512x512_S512x128_0_0)) x6 (View.ld x3 (Rect.unit _ _ inb_S512x512_S512x128_0_0))) (k0_pay8 (View.ld x1 (Rect.unit _ _ inb_S512x512_S512x128_0_128)) (View.ld x2 (Rect.unit _ _ inb_S512x512_S512x128_0_128)) x6 (View.ld x3 (Rect.unit _ _ inb_S512x512_S512x128_0_128))) (k0_pay8 (View.ld x1 (Rect.unit _ _ inb_S512x512_S512x128_0_256)) (View.ld x2 (Rect.unit _ _ inb_S512x512_S512x128_0_256)) x6 (View.ld x3 (Rect.unit _ _ inb_S512x512_S512x128_0_256))) (k0_pay8 (View.ld x1 (Rect.unit _ _ inb_S512x512_S512x128_0_384)) (View.ld x2 (Rect.unit _ _ inb_S512x512_S512x128_0_384)) x6 (View.ld x3 (Rect.unit _ _ inb_S512x512_S512x128_0_384))) x0 x5

/-- The merged tile as the two scratch buffers keep it. -/
def merged (x0 x1 x2 x3 : Vec F S512x512 .bf16) (x4 : Vec F S512x1024 .f32) (x5 : Vec F S1024x1024 .bf16) (x6 : Vec F S1x128 .f32)
    (x7 x8 : Vec F S1x1024 .f32) : FVec F S1x512x1024 .f32 := k0_pay33 (mixedV x0 x1 x2 x3 x5 x6) x4 x7 x8
def mergedB (x0 x1 x2 x3 : Vec F S512x512 .bf16) (x4 : Vec F S512x1024 .f32) (x5 : Vec F S1024x1024 .bf16) (x6 : Vec F S1x128 .f32)
    (x7 x8 : Vec F S1x1024 .f32) : FVec F S1x512x1024 .bf16 := k0_pay34 (k0_pay32 (mixedV x0 x1 x2 x3 x5 x6) x4 x7 x8)

/-- What the point finds in the previous tile's slots: the zeros written there at the first point, else what is kept. -/
def foundX (i : grid0.Coords) (xs0 : Vec F S2x512x1024 .f32) : Vec F S1x512x1024 .f32 :=
  if (i 0).val = 0 then k0_pay1 else View.ld xs0 (Rect.unit (k0_off1 i) S1x512x1024.size (k0_off1_inb i))
def foundB (i : grid0.Coords) (xs1 : Vec F S2x512x1024 .bf16) : Vec F S1x512x1024 .bf16 :=
  if (i 0).val = 0 then k0_pay2 else View.ld xs1 (Rect.unit (k0_off1 i) S1x512x1024.size (k0_off1_inb i))

/-- The first point's test, decided by the point's coordinate. -/
theorem first_iff : ∀ i : grid0.Coords, bodyRun.sl.v23 i = 1#1 ↔ (i 0).val = 0 := by decide +kernel

/-- At the first point the previous tile's slot is the second one. -/
theorem first_slot (i : grid0.Coords) (h : (i 0).val = 0) : (![1, 0, 0] : Fin 3 → ℕ) = k0_off1 i := by
  rw [off_prev, h]

/-- The two slots of a point lie apart on the first axis. -/
theorem slots_apart (i : grid0.Coords) :
    k0_off1 i 0 + S1x512x1024.size 0 ≤ k0_off2 i 0 ∨ k0_off2 i 0 + S1x512x1024.size 0 ≤ k0_off1 i 0 := by
  rw [off_prev, off_cur]
  show ((i 0).val + 1) % 2 + 1 ≤ (i 0).val % 2 ∨ (i 0).val % 2 + 1 ≤ ((i 0).val + 1) % 2
  omega

section Run

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x1024 .f32) (harg15 : arg15.IsWhole) (arg16 : Memref sig .tc .vmem S2x512x1024 .f32) (harg16 : arg16.IsWhole) (arg17 : Memref sig .tc .vmem S2x512x1024 .bf16) (harg17 : arg17.IsWhole)
    (x0 : Vec F S512x512 .bf16) (x1 : Vec F S512x512 .bf16) (x2 : Vec F S512x512 .bf16) (x3 : Vec F S512x512 .bf16) (x4 : Vec F S512x1024 .f32) (x5 : Vec F S1024x1024 .bf16) (x6 : Vec F S1x128 .f32) (x7 : Vec F S1x1024 .f32) (x8 : Vec F S1x1024 .f32) (x9 : Vec F S1024x2816 .bf16) (x10 : Vec F S1024x2816 .bf16) (x11 : Vec F S2816x1024 .bf16) (x12 : Vec F S1x1024 .f32) (x13 : Vec F S1x1024 .f32)
    (xo : Vec F S512x1024 .f32) (xs0 : Vec F S2x512x1024 .f32) (xs1 : Vec F S2x512x1024 .bf16)

/-- The early loads of the previous tile's slot, and the late ones, read what the point finds there. -/
theorem early_found : bodyRun.sl.v25 c i arg17 harg17 xs1 = foundB i xs1 := by
  unfold bodyRun.sl.v25 foundB
  rw [View.readAt_eq_ld]
  by_cases h : (i 0).val = 0
  · rw [dif_pos ((first_iff i).2 h), if_pos h]
    exact Slots.ld_written _ _ _ _ (first_slot i h) _ _
  · rw [dif_neg (fun e => h ((first_iff i).1 e)), if_neg h, harg17.read_unread]

theorem late_found : bodyRun.sl.v317 c i arg1 harg1 arg2 harg2 arg3 harg3 arg4 harg4 arg5 harg5 arg6 harg6 arg7 harg7 arg8 harg8 arg9 harg9 arg17 harg17 x0 x1 x2 x3 x4 x5 x6 x7 x8 xs1 = foundB i xs1 := by
  unfold bodyRun.sl.v317 foundB bodyRun.sl.H16_1
  rw [View.readAt_eq_ld]
  refine (Slots.ld_kept _ _ _ _ 0 (slots_apart i) _ _).trans ?_
  rw [View.writes_nil]
  by_cases h : (i 0).val = 0
  · rw [dif_pos ((first_iff i).2 h), if_pos h]
    exact Slots.ld_written _ _ _ _ (first_slot i h) _ _
  · rw [dif_neg (fun e => h ((first_iff i).1 e)), if_neg h, harg17.read_unread]

theorem late_foundX : bodyRun.sl.v388 c i arg1 harg1 arg2 harg2 arg3 harg3 arg4 harg4 arg5 harg5 arg6 harg6 arg7 harg7 arg8 harg8 arg9 harg9 arg16 harg16 x0 x1 x2 x3 x4 x5 x6 x7 x8 xs0 = foundX i xs0 := by
  unfold bodyRun.sl.v388 foundX bodyRun.sl.H15_1
  rw [View.readAt_eq_ld]
  refine (Slots.ld_kept _ _ _ _ 0 (slots_apart i) _ _).trans ?_
  rw [View.writes_nil]
  by_cases h : (i 0).val = 0
  · rw [dif_pos ((first_iff i).2 h), if_pos h]
    exact Slots.ld_written _ _ _ _ (first_slot i h) _ _
  · rw [dif_neg (fun e => h ((first_iff i).1 e)), if_neg h, harg16.read_unread]

/-- The merged tile's projection, named by the run, from the blocks. -/
theorem mixed_eq : bodyRun.sl.r_20 c arg1 harg1 arg2 harg2 arg3 harg3 arg4 harg4 arg6 harg6 arg7 harg7 x0 x1 x2 x3 x5 x6 = mixedV x0 x1 x2 x3 x5 x6 := by
  unfold mixedV
  simp only [bodyRun.sl.r, bodyRun.sl.r_1, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, View.readAt_eq_ld, harg1.read_unread, harg2.read_unread, harg3.read_unread, harg4.read_unread, harg6.read_unread, harg7.read_unread]
  rw [View.ld_unit_zero (by funext a; fin_cases a <;> rfl) _ x0, View.ld_unit_zero (by funext a; fin_cases a <;> rfl) _ x5, View.ld_unit_zero (by funext a; fin_cases a <;> rfl) _ x6]
  rfl

/-- The output block the point leaves. -/
theorem run_out : (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xo xs0 xs1).1 = ffnOut (foundX i xs0) (foundB i xs1) x9 x10 x11 x12 x13 := by
  unfold bodyRun; dsimp only
  refine (View.read_writes_full _ _ inb_S512x1024_S512x1024_0_0 _ _).trans ?_
  unfold ffnOut
  simp only [bodyRun.sl.r, bodyRun.sl.r_1, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, early_found, late_found, late_foundX, View.readAt_eq_ld, harg10.read_unread, harg11.read_unread, harg12.read_unread, harg13.read_unread, harg14.read_unread]
  rw [View.ld_unit_zero (by funext a; fin_cases a <;> rfl) _ x11, View.ld_unit_zero (by funext a; fin_cases a <;> rfl) _ x12, View.ld_unit_zero (by funext a; fin_cases a <;> rfl) _ x13]
  rfl

/-- And the current tile's slots, as it leaves them. -/
theorem run_cur : View.ld (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xo xs0 xs1).2.1 (Rect.unit (k0_off2 i) S1x512x1024.size (k0_off2_inb i)) = merged x0 x1 x2 x3 x4 x5 x6 x7 x8 := by
  unfold bodyRun bodyRun.sl.H15_1; dsimp only
  refine (Slots.ld_written _ _ _ _ rfl _ _).trans ?_
  unfold merged bodyRun.sl.r_27
  rw [mixed_eq]
  simp only [View.readAt_eq_ld, harg5.read_unread, harg8.read_unread, harg9.read_unread]
  rw [View.ld_unit_zero (by funext a; fin_cases a <;> rfl) _ x4, View.ld_unit_zero (by funext a; fin_cases a <;> rfl) _ x7, View.ld_unit_zero (by funext a; fin_cases a <;> rfl) _ x8]

theorem run_curB : View.ld (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 xo xs0 xs1).2.2.1 (Rect.unit (k0_off2 i) S1x512x1024.size (k0_off2_inb i)) = mergedB x0 x1 x2 x3 x4 x5 x6 x7 x8 := by
  unfold bodyRun bodyRun.sl.H16_1; dsimp only
  refine (Slots.ld_written _ _ _ _ rfl _ _).trans ?_
  unfold mergedB bodyRun.sl.r_26
  rw [mixed_eq]
  simp only [View.readAt_eq_ld, harg5.read_unread, harg8.read_unread, harg9.read_unread]
  rw [View.ld_unit_zero (by funext a; fin_cases a <;> rfl) _ x4, View.ld_unit_zero (by funext a; fin_cases a <;> rfl) _ x7, View.ld_unit_zero (by funext a; fin_cases a <;> rfl) _ x8]

end Run

end Cert.FfnIdeal.Mix

end
-- ==== Proof.Mix.FfnIdealFrame.lean ====
module

public import proofs.«01_k».proof.Proof.Gen.FfnIdeal.Frame
public import proofs.«01_k».proof.Proof.Gen.FfnIdeal.Frame
public import proofs.«01_k».proof.Proof.Mix.FfnIdealSpec

@[expose] public section

set_option maxRecDepth 16384

noncomputable section

namespace Cert.FfnIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two scratch buffers between points -/

/-- The merged tiles' two copies, each as a whole memref. -/
abbrev keptM : Memref sig .tc .vmem S2x512x1024 .f32 := Memref.whole cc0_scratch0
abbrev keptBM : Memref sig .tc .vmem S2x512x1024 .bf16 := Memref.whole cc0_scratch1

/-- What the launch hands the region: both scratch buffers at some contents, and the generator register. -/
theorem rest_eq (c : Dev nD) :
    (Pipeline.ΦA spec0 c : sProp 𝕄)
      = iprop(iprop((∃ d, owns (c : Thread nD τ) keptM fullShare d) ∗ (∃ d, owns (c : Thread nD τ) keptBM fullShare d)) ∗ (∃ r, prngReg c r)) := by
  unfold Pipeline.ΦA; rw [scopedRest0_eq]; simp only [keptM, keptBM, owns_whole]; try rfl

/-- A point's one coordinate is its number. -/
theorem coord_val : ∀ t : Fin cfg0.N, (grid0.coords t 0).val = t.val := by decide +kernel

/-- The merged tile of a point, in both formats. -/
def keptX (c : Dev nD) (t : Fin cfg0.N) : FVec F S1x512x1024 .f32 := merged (iblk m c 0 t) (iblk m c 1 t) (iblk m c 2 t) (iblk m c 3 t) (iblk m c 4 t) (iblk m c 5 t) (iblk m c 6 t) (iblk m c 7 t) (iblk m c 8 t)
def keptB (c : Dev nD) (t : Fin cfg0.N) : FVec F S1x512x1024 .bf16 := mergedB (iblk m c 0 t) (iblk m c 1 t) (iblk m c 2 t) (iblk m c 3 t) (iblk m c 4 t) (iblk m c 5 t) (iblk m c 6 t) (iblk m c 7 t) (iblk m c 8 t)

/-- What a point's output block holds after it: the tile of the point before through the second half (zeros at the first). -/
def outAt (c : Dev nD) (t : Fin cfg0.N) : FVec F S512x1024 .f32 :=
  if h : t.val = 0 then ffnOut k0_pay1 k0_pay2 (iblk m c 9 t) (iblk m c 10 t) (iblk m c 11 t) (iblk m c 12 t) (iblk m c 13 t)
  else ffnOut (keptX m c ⟨t.val - 1, (Nat.sub_le _ _).trans_lt t.isLt⟩) (keptB m c ⟨t.val - 1, (Nat.sub_le _ _).trans_lt t.isLt⟩) (iblk m c 9 t) (iblk m c 10 t) (iblk m c 11 t) (iblk m c 12 t) (iblk m c 13 t)

/-- The scratch buffers before point `n`: both hold the merged tile of the point before in its slot. -/
def Kept (c : Dev nD) (n : ℕ) (d0 : Vec F S2x512x1024 .f32) (d1 : Vec F S2x512x1024 .bf16) : Prop :=
  ∀ p : Fin cfg0.N, p.val + 1 = n →
    View.ld d0 (Rect.unit (k0_off2 (grid0.coords p)) S1x512x1024.size (k0_off2_inb _)) = keptX m c p
    ∧ View.ld d1 (Rect.unit (k0_off2 (grid0.coords p)) S1x512x1024.size (k0_off2_inb _)) = keptB m c p

/-- A point's output from what it finds in the slots. -/
theorem out_found (c : Dev nD) (t : Fin cfg0.N) (d0 : Vec F S2x512x1024 .f32) (d1 : Vec F S2x512x1024 .bf16) (h : Kept m c t.val d0 d1) :
    ffnOut (foundX (grid0.coords t) d0) (foundB (grid0.coords t) d1) (iblk m c 9 t) (iblk m c 10 t) (iblk m c 11 t) (iblk m c 12 t) (iblk m c 13 t) = outAt m c t := by
  unfold outAt foundX foundB
  rw [coord_val]
  by_cases h0 : t.val = 0
  · rw [if_pos h0, if_pos h0, dif_pos h0]
  · rw [if_neg h0, if_neg h0, dif_neg h0]
    obtain ⟨hx, hb⟩ := h ⟨t.val - 1, (Nat.sub_le _ _).trans_lt t.isLt⟩ (by show t.val - 1 + 1 = t.val; omega)
    have ho : k0_off1 (grid0.coords t) = k0_off2 (grid0.coords ⟨t.val - 1, (Nat.sub_le _ _).trans_lt t.isLt⟩) := by
      rw [off_prev, off_cur, coord_val, coord_val]
      have : (t.val + 1) % 2 = (t.val - 1) % 2 := by omega
      show ![(t.val + 1) % 2, 0, 0] = ![(t.val - 1) % 2, 0, 0]
      rw [this]
    rw [Slots.ld_respell d0 _ (k0_off2_inb _) ho, Slots.ld_respell d1 _ (k0_off2_inb _) ho, hx, hb]

/-! ## The proof data -/

/-- Every input's block stays in place, the output's block is `outAt`, the scratch buffers keep the last merged tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outAt m c t
  Φ t := iprop((∃ d0 d1, owns (c : Thread nD τ) keptM fullShare d0 ∗ owns (c : Thread nD τ) keptBM fullShare d1 ∗ ⌜Kept m c t.val d0 d1⌝) ∗ (∃ r, prngReg c r))
  q _ := fullShare
  owed _ := 0

theorem dats_A (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (dats_A m c 0) (after0 m c) t d

theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (dats_A m c 1) (after1 m c) t d

theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (dats_A m c 2) (after2 m c) t d

theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (dats_A m c 3) (after3 m c) t d

theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (dats_A m c 4) (after4 m c) t d

theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (dats_A m c 5) (after5 m c) t d

theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (dats_A m c 6) (after6 m c) t d

theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (dats_A m c 7) (after7 m c) t d

theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (dats_A m c 8) (after8 m c) t d

theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (dats_A m c 9) (after9 m c) t d

theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before0_10_of m (dats m 0 c) (dats_A m c 10) (after10 m c) t d

theorem after11 (c : Dev nD) (t : Fin cfg0.N) : (dats m 0 c).after 11 t = iblk m c 11 t := by dsimp only [dats]
theorem before11 (c : Dev nD) (t : Fin cfg0.N) (d) : (dats m 0 c).before 11 t d = iblk m c 11 t :=
  before0_11_of m (dats m 0 c) (dats_A m c 11) (after11 m c) t d

theorem after12 (c : Dev nD) (t : Fin cfg0.N) : (dats m 0 c).after 12 t = iblk m c 12 t := by dsimp only [dats]
theorem before12 (c : Dev nD) (t : Fin cfg0.N) (d) : (dats m 0 c).before 12 t d = iblk m c 12 t :=
  before0_12_of m (dats m 0 c) (dats_A m c 12) (after12 m c) t d

theorem after13 (c : Dev nD) (t : Fin cfg0.N) : (dats m 0 c).after 13 t = iblk m c 13 t := by dsimp only [dats]
theorem before13 (c : Dev nD) (t : Fin cfg0.N) (d) : (dats m 0 c).before 13 t d = iblk m c 13 t :=
  before0_13_of m (dats m 0 c) (dats_A m c 13) (after13 m c) t d

theorem after14 (c : Dev nD) (t : Fin cfg0.N) : (dats m 0 c).after 14 t = outAt m c t := by dsimp only [dats]

theorem state_eq (c : Dev nD) (t : Fin (cfg0.N + 1)) : (dats m 0 c).Φ t =
    iprop((∃ d0 d1, owns (c : Thread nD τ) keptM fullShare d0 ∗ owns (c : Thread nD τ) keptBM fullShare d1 ∗ ⌜Kept m c t.val d0 d1⌝) ∗ (∃ r, prngReg c r)) := rfl

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 4000000 in
/-- The body at any point, from its one run. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl,
    after0, after1, after2, after3, after4, after5, after6, after7, after8, after9, after10, after11, after12, after13, after14, state_eq, state_eq]
  iintro ⟨⟨⟨%s0, %s1, HS0, HS1, %hk⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hout := (run_out c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) keptM (Memref.isWhole_whole _) keptBM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) s0 s1).trans (out_found m c t s0 s1 hk)
  have hcur := run_cur c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) keptM (Memref.isWhole_whole _) keptBM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) s0 s1
  have hcurB := run_curB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) keptM (Memref.isWhole_whole _) keptBM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) s0 s1
  iapply ((bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) keptM (Memref.isWhole_whole _) keptBM (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m 0 c).before 14 t d14) s0 s1).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  iintro ⟨H0, H1, H2, H3, H4, H5, H6, H7, H8, H9, H10, H11, H12, H13, H14, HS0, HS1⟩
  isplitl [HS0 HS1 Hg]
  · isplitl [HS0 HS1]
    · iexists _, _
      isplitl [HS0]; · iexact HS0
      isplitl [HS1]; · iexact HS1
      ipureintro
      intro p hp
      obtain rfl : p = t := Fin.ext (by have : p.val + 1 = t.val + 1 := hp; omega)
      exact ⟨hcur, hcurB⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (Idealize.SL.BI.BIBase.Entails.of_eq (congrArg (fun y => owns (c : Thread nD τ) (st0_14 t) fullShare y) hout)); iexact H14

/-- The table's row at a point is the body at that point. -/
theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

theorem enter (c : Dev nD) : Pipeline.ΦA spec0 c ⊢ (dats (F := F) m 0 c).Φ 0 := by
  rw [rest_eq, state_eq]
  iintro ⟨⟨⟨%d0, H0⟩, ⟨%d1, H1⟩⟩, Hg⟩
  isplitl [H0 H1]
  · iexists d0, d1
    isplitl [H0]; · iexact H0
    isplitl [H1]; · iexact H1
    ipureintro
    intro p hp
    exact absurd hp (by show p.val + 1 ≠ 0; omega)
  iexact Hg

theorem leave (c : Dev nD) : (dats (F := F) m 0 c).Φ (Fin.last cfg0.N) ⊢ Pipeline.ΦA spec0 c := by
  rw [rest_eq, state_eq]
  iintro ⟨⟨%d0, %d1, H0, H1, -⟩, Hg⟩
  isplitl [H0 H1]
  · isplitl [H0]
    · iexists d0; iexact H0
    iexists d1; iexact H1
  iexact Hg

/-- The launch: every window's array at its contents after every write-back, and every counter at zero. -/
theorem run : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := enter m) (hout := leave m) (Q' := _) (hQ' := fun _ h => h)

/-- The argument arrays end as launched. -/
theorem args_of (r : PUnit × MemSt nD τ sig (Elt F)) (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) :=
  ⟨((h c).2 main_arg0 (Pipeline.mem_restRefs_of main_arg0 (by decide) (by decide))).trans (W_main_arg0 m (dats m) c), ((h c).2 main_arg1 (Pipeline.mem_restRefs_of main_arg1 (by decide) (by decide))).trans (W_main_arg1 m (dats m) c), ((h c).2 main_arg2 (Pipeline.mem_restRefs_of main_arg2 (by decide) (by decide))).trans (W_main_arg2 m (dats m) c), ((h c).2 main_arg3 (Pipeline.mem_restRefs_of main_arg3 (by decide) (by decide))).trans (W_main_arg3 m (dats m) c), ((h c).2 main_arg4 (Pipeline.mem_restRefs_of main_arg4 (by decide) (by decide))).trans (W_main_arg4 m (dats m) c), ((h c).1 5).trans (((dats m 0 c).arrAt_in 5 rfl _).trans ((dats_A m c 5).trans (V_main_arg5 m c))), ((h c).1 6).trans (((dats m 0 c).arrAt_in 6 rfl _).trans ((dats_A m c 6).trans (V_main_arg6 m c))), ((h c).1 7).trans (((dats m 0 c).arrAt_in 7 rfl _).trans ((dats_A m c 7).trans (V_main_arg7 m c))), ((h c).1 8).trans (((dats m 0 c).arrAt_in 8 rfl _).trans ((dats_A m c 8).trans (V_main_arg8 m c))), ((h c).1 9).trans (((dats m 0 c).arrAt_in 9 rfl _).trans ((dats_A m c 9).trans (V_main_arg9 m c))), ((h c).1 10).trans (((dats m 0 c).arrAt_in 10 rfl _).trans ((dats_A m c 10).trans (V_main_arg10 m c))), ((h c).1 11).trans (((dats m 0 c).arrAt_in 11 rfl _).trans ((dats_A m c 11).trans (V_main_arg11 m c))), ((h c).1 12).trans (((dats m 0 c).arrAt_in 12 rfl _).trans ((dats_A m c 12).trans (V_main_arg12 m c))), ((h c).1 13).trans (((dats m 0 c).arrAt_in 13 rfl _).trans ((dats_A m c 13).trans (V_main_arg13 m c)))⟩

/-- THE FRAME: the kernel runs to the end from any memory, its arguments end unchanged and every counter ends at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13))
      ∧ r.2.sem = fun _ => 0) :=
  (θ_run defs _ _).mono (fun r h => ⟨args_of m r h.1, h.2⟩) (run m ρ)

end Cert.FfnIdeal.Mix

end
-- ==== Proof.Mix.Rows.lean ====
module

public import Idealize.ShloMosaic.PureOps.Ideal

@[expose] public section

noncomputable section

/-! # The layer's row functions

One token of the layer, as functions of its rows over the extended reals: root-mean-square norm and sigmoid gate of a head, the
output projection, the two scaled residuals with their norms, and the gated feed-forward product. -/

namespace Cert.Rows

open Idealize.ShloMosaic

/-- The residual's scale, and the norms' constants, as their words. -/
abbrev alpha : EReal := Ideal.ofBits .f32 0x3F9837F0#32
abbrev width : EReal := Ideal.ofBits .f32 0x44800000#32
abbrev headWidth : EReal := Ideal.ofBits .f32 0x43000000#32
abbrev normEps : EReal := Ideal.ofBits .f32 0x3727C5AC#32
abbrev headEps : EReal := Ideal.ofBits .f32 0x358637BD#32

/-- A number times its sigmoid. -/
def silu (x : EReal) : EReal := x * Ideal.div 1 (1 + Ideal.exp (-x))

/-- A row's average. -/
def avg (y : Fin 1024 → EReal) : EReal := Ideal.div (∑ k, y k) width

/-- A row normed to average zero and unit spread, then scaled and shifted. -/
def normed (y g b : Fin 1024 → EReal) (e : Fin 1024) : EReal :=
  (y e - avg y) * Ideal.rsqrt (avg (fun k => (y k - avg y) * (y k - avg y)) + normEps) * g e + b e

/-- One head of the gated sum: normed by its root mean square, scaled, gated. -/
def gated (o g go : Fin 128 → EReal) (d : Fin 128) : EReal :=
  o d * Ideal.rsqrt (Ideal.div (∑ k, o k * o k) headWidth + headEps) * g d * silu (go d)

/-- The row the output projection takes: the attention's 512 numbers, then the four gated heads. -/
def joined (a o1 o2 go : Fin 512 → EReal) (g : Fin 128 → EReal) (e : Fin 1024) : EReal :=
  if h : e.val < 512 then a ⟨e.val, h⟩
  else
    gated (fun d => o1 ⟨(e.val - 512) / 128 * 128 + d.val, by omega⟩ + o2 ⟨(e.val - 512) / 128 * 128 + d.val, by omega⟩) g
      (fun d => go ⟨(e.val - 512) / 128 * 128 + d.val, by omega⟩) ⟨(e.val - 512) % 128, by omega⟩

/-- A scaled residual plus a row's product with a matrix, normed. -/
def step {n : ℕ} (x : Fin 1024 → EReal) (c : Fin n → EReal) (w : Fin n → Fin 1024 → EReal) (g b : Fin 1024 → EReal) :
    Fin 1024 → EReal :=
  normed (fun d => alpha * x d + ∑ e, c e * w e d) g b

/-- One hidden unit: the gate's product through `silu`, times the other product. -/
def unit (x wg wu : Fin 1024 → EReal) : EReal := silu (∑ d, x d * wg d) * ∑ d, x d * wu d

/-- The joined row at a place of head `h`. -/
theorem joined_head (a o1 o2 go : Fin 512 → EReal) (g : Fin 128 → EReal) (h : ℕ) (hh : h < 4) (k : Fin 128) (e : Fin 1024)
    (he : e.val = 512 + 128 * h + k.val) : joined a o1 o2 go g e
      = gated (fun d => o1 ⟨128 * h + d.val, by omega⟩ + o2 ⟨128 * h + d.val, by omega⟩) g (fun d => go ⟨128 * h + d.val, by omega⟩) k := by
  have hk := k.isLt
  have hq : (e.val - 512) / 128 = h := by omega
  have hp : ∀ d : Fin 128, (⟨(e.val - 512) / 128 * 128 + d.val, by omega⟩ : Fin 512) = ⟨128 * h + d.val, by omega⟩ :=
    fun d => Fin.ext (by show (e.val - 512) / 128 * 128 + d.val = 128 * h + d.val; rw [hq]; omega)
  have hr : (⟨(e.val - 512) % 128, by omega⟩ : Fin 128) = k := Fin.ext (by show (e.val - 512) % 128 = k.val; omega)
  unfold joined
  rw [dif_neg (by omega), hr]
  simp only [hp]

theorem joined_attn (a o1 o2 go : Fin 512 → EReal) (g : Fin 128 → EReal) (e : Fin 1024) (he : e.val < 512) :
    joined a o1 o2 go g e = a ⟨e.val, he⟩ := dif_pos he

end Cert.Rows

end
-- ==== Proof.Mix.FfnRows.lean ====
module

public import proofs.«01_k».proof.Proof.Gen.FfnIdeal.Frame
public import proofs.«01_k».proof.Proof.Mix.FfnIdealSpec
public import proofs.«01_k».proof.Proof.Mix.Rows
public import Idealize.ShloMosaic.Lib.Pointwise

@[expose] public section

set_option maxRecDepth 16384

noncomputable section

/-! # What a tile computes, read at one token -/

namespace Cert.FfnIdeal.Mix

open Idealize.ShloMosaic Cert.FfnIdeal Cert.FfnIdeal.Gen Cert.Rows

/-- A gated head at token `r`. -/
theorem head_apply (o1 o2 : Vec Ideal S512x128 .bf16) (g : Vec Ideal S1x128 .f32) (go : Vec Ideal S512x128 .bf16) (r : Fin 512)
    (d : Fin 128) : k0_pay8 o1 o2 g go (ix2 r d)
      = gated (fun k => o1 (ix2 r k) + o2 (ix2 r k)) (fun k => g (ix2 0 k)) (fun k => go (ix2 r k)) d := by
  pointwise [k0_pay8, gated, silu]
  simp only [zero_sub]

theorem residual_apply (m x : Vec Ideal S512x1024 .f32) (g b : Vec Ideal S1x1024 .f32) (r : Fin 512)
    (d : Fin 1024) : k0_pay32 m x g b (ix2 r d)
      = normed (fun k => alpha * x (ix2 r k) + m (ix2 r k)) (fun k => g (ix2 0 k)) (fun k => b (ix2 0 k)) d := by
  pointwise [k0_pay32, normed, avg]

theorem hidden_apply (xb : Vec Ideal S1x512x1024 .bf16) (wg wu : Vec Ideal S1024x256 .bf16) (r : Fin 512)
    (j : Fin 256) : k0_pay9 xb wg wu (ix2 r j)
      = Rows.unit (fun k => xb (ix3 0 r k)) (fun k => wg (ix2 k j)) (fun k => wu (ix2 k j)) := by
  pointwise [k0_pay9, Rows.unit, silu]
  simp only [zero_sub]

theorem hidden_apply' (xb : Vec Ideal S1x512x1024 .bf16) (wg wu : Vec Ideal S1024x256 .bf16) (r : Fin 512)
    (j : Fin 256) : k0_pay40 xb wg wu (ix2 r j)
      = Rows.unit (fun k => xb (ix3 0 r k)) (fun k => wg (ix2 k j)) (fun k => wu (ix2 k j)) := by
  pointwise [k0_pay40, Rows.unit, silu]
  simp only [zero_sub]

/-- The projection's left operand at token `r`: the attention's numbers, then the four heads. -/
theorem mixed_apply (a : Vec Ideal S512x512 .bf16) (h0 h1 h2 h3 : FVec Ideal S512x128 .bf16) (w : Vec Ideal S1024x1024 .bf16)
    (r : Fin 512) (d : Fin 1024) (f : Fin 1024 → EReal) (ha : ∀ k : Fin 512, a (ix2 r k) = f ⟨k.val, by omega⟩)
    (e0 : ∀ k : Fin 128, h0 (ix2 r k) = f ⟨512 + k.val, by omega⟩) (e1 : ∀ k : Fin 128, h1 (ix2 r k) = f ⟨640 + k.val, by omega⟩)
    (e2 : ∀ k : Fin 128, h2 (ix2 r k) = f ⟨768 + k.val, by omega⟩) (e3 : ∀ k : Fin 128, h3 (ix2 r k) = f ⟨896 + k.val, by omega⟩) :
    k0_pay26 h0 h1 h2 h3 a w (ix2 r d) = ∑ e, f e * w (ix2 e d) := by
  pointwise [k0_pay26]
  refine Finset.sum_congr rfl fun e _ => congrArg (· * w (ix2 e d)) ?_
  have he := e.isLt
  by_cases c0 : e.val < 512
  · rw [dif_pos c0, ha]
  rw [dif_neg c0]
  by_cases c1 : e.val - 512 < 128
  · rw [dif_pos c1, e0]; exact congrArg f (Fin.ext (by dsimp only; omega))
  rw [dif_neg c1]
  by_cases c2 : e.val - 512 - 128 < 128
  · rw [dif_pos c2, e1]; exact congrArg f (Fin.ext (by dsimp only; omega))
  rw [dif_neg c2]
  by_cases c3 : e.val - 512 - 128 - 128 < 128
  · rw [dif_pos c3, e2]; exact congrArg f (Fin.ext (by dsimp only; omega))
  rw [dif_neg c3]
  rw [e3]; exact congrArg f (Fin.ext (by dsimp only; omega))

/-- The last product's left operand, and the product. -/
def chunks (h0 h1 h2 h3 h4 h5 h6 h7 h8 h9 h10 : FVec Ideal S512x256 .bf16) : FVec Ideal S512x2816 .bf16 :=
  concatenate S512x2816 1 [⟨S512x256, h0⟩, ⟨S512x256, h1⟩, ⟨S512x256, h2⟩, ⟨S512x256, h3⟩, ⟨S512x256, h4⟩, ⟨S512x256, h5⟩, ⟨S512x256, h6⟩, ⟨S512x256, h7⟩, ⟨S512x256, h8⟩, ⟨S512x256, h9⟩, ⟨S512x256, h10⟩] concatenates_S512x256_S512x256_S512x256_S512x256_S512x256_S512x256_S512x256_S512x256_S512x256_S512x256_S512x256_S512x2816_d1
def product (h0 h1 h2 h3 h4 h5 h6 h7 h8 h9 : FVec Ideal S512x256 .bf16) (h10 : FVec Ideal S512x256 .f32) (w : Vec Ideal S2816x1024 .bf16) : FVec Ideal S512x1024 .f32 :=
  matmul (φ₂ := .bf16) dot_S512x2816_S2816x1024_S512x1024_1_0_0_1_n_n none (chunks h0 h1 h2 h3 h4 h5 h6 h7 h8 h9 (truncf .bf16 h10 bitsLt_bf16_f32)) w (constant S512x1024 .f32 0x00000000#32)

theorem product_apply (h0 h1 h2 h3 h4 h5 h6 h7 h8 h9 : FVec Ideal S512x256 .bf16) (h10 : FVec Ideal S512x256 .f32) (w : Vec Ideal S2816x1024 .bf16) (r : Fin 512) (d : Fin 1024) :
    product h0 h1 h2 h3 h4 h5 h6 h7 h8 h9 h10 w (ix2 r d) = ∑ e, chunks h0 h1 h2 h3 h4 h5 h6 h7 h8 h9 h10 (ix2 r e) * w (ix2 e d) := by
  pointwise [product]
  rfl

theorem closing_apply (h0 h1 h2 h3 h4 h5 h6 h7 h8 h9 : FVec Ideal S512x256 .bf16) (h10 : FVec Ideal S512x256 .f32) (w : Vec Ideal S2816x1024 .bf16)
    (x : Vec Ideal S1x512x1024 .f32) (g b : Vec Ideal S1x1024 .f32) (r : Fin 512) (d : Fin 1024) :
    k0_pay41 h0 h1 h2 h3 h4 h5 h6 h7 h8 h9 h10 w x g b (ix2 r d)
      = normed (fun k => alpha * x (ix3 0 r k) + product h0 h1 h2 h3 h4 h5 h6 h7 h8 h9 h10 w (ix2 r k)) (fun k => g (ix2 0 k)) (fun k => b (ix2 0 k)) d := by
  dsimp only [k0_pay41]
  generalize hM : product h0 h1 h2 h3 h4 h5 h6 h7 h8 h9 h10 w = M
  unfold product chunks at hM
  rw [hM]
  pointwise [normed, avg]

/-- Eleven chunks of one row, each the row's numbers at its own 256 places, are the row. -/
theorem chunks_apply (h0 h1 h2 h3 h4 h5 h6 h7 h8 h9 h10 : FVec Ideal S512x256 .bf16) (r : Fin 512) (f : Fin 2816 → EReal)
    (e0 : ∀ j : Fin 256, h0 (ix2 r j) = f ⟨0 + j.val, by omega⟩)
    (e1 : ∀ j : Fin 256, h1 (ix2 r j) = f ⟨256 + j.val, by omega⟩)
    (e2 : ∀ j : Fin 256, h2 (ix2 r j) = f ⟨512 + j.val, by omega⟩)
    (e3 : ∀ j : Fin 256, h3 (ix2 r j) = f ⟨768 + j.val, by omega⟩)
    (e4 : ∀ j : Fin 256, h4 (ix2 r j) = f ⟨1024 + j.val, by omega⟩)
    (e5 : ∀ j : Fin 256, h5 (ix2 r j) = f ⟨1280 + j.val, by omega⟩)
    (e6 : ∀ j : Fin 256, h6 (ix2 r j) = f ⟨1536 + j.val, by omega⟩)
    (e7 : ∀ j : Fin 256, h7 (ix2 r j) = f ⟨1792 + j.val, by omega⟩)
    (e8 : ∀ j : Fin 256, h8 (ix2 r j) = f ⟨2048 + j.val, by omega⟩)
    (e9 : ∀ j : Fin 256, h9 (ix2 r j) = f ⟨2304 + j.val, by omega⟩)
    (e10 : ∀ j : Fin 256, h10 (ix2 r j) = f ⟨2560 + j.val, by omega⟩) (e : Fin 2816) :
    chunks h0 h1 h2 h3 h4 h5 h6 h7 h8 h9 h10 (ix2 r e) = f e := by
  have he := e.isLt
  pointwise [chunks]
  by_cases c0 : e.val < 256
  · rw [dif_pos c0, e0]; exact congrArg f (Fin.ext (by dsimp only; omega))
  rw [dif_neg c0]
  by_cases c1 : e.val - 256 < 256
  · rw [dif_pos c1, e1]; exact congrArg f (Fin.ext (by dsimp only; omega))
  rw [dif_neg c1]
  by_cases c2 : e.val - 256 - 256 < 256
  · rw [dif_pos c2, e2]; exact congrArg f (Fin.ext (by dsimp only; omega))
  rw [dif_neg c2]
  by_cases c3 : e.val - 256 - 256 - 256 < 256
  · rw [dif_pos c3, e3]; exact congrArg f (Fin.ext (by dsimp only; omega))
  rw [dif_neg c3]
  by_cases c4 : e.val - 256 - 256 - 256 - 256 < 256
  · rw [dif_pos c4, e4]; exact congrArg f (Fin.ext (by dsimp only; omega))
  rw [dif_neg c4]
  by_cases c5 : e.val - 256 - 256 - 256 - 256 - 256 < 256
  · rw [dif_pos c5, e5]; exact congrArg f (Fin.ext (by dsimp only; omega))
  rw [dif_neg c5]
  by_cases c6 : e.val - 256 - 256 - 256 - 256 - 256 - 256 < 256
  · rw [dif_pos c6, e6]; exact congrArg f (Fin.ext (by dsimp only; omega))
  rw [dif_neg c6]
  by_cases c7 : e.val - 256 - 256 - 256 - 256 - 256 - 256 - 256 < 256
  · rw [dif_pos c7, e7]; exact congrArg f (Fin.ext (by dsimp only; omega))
  rw [dif_neg c7]
  by_cases c8 : e.val - 256 - 256 - 256 - 256 - 256 - 256 - 256 - 256 < 256
  · rw [dif_pos c8, e8]; exact congrArg f (Fin.ext (by dsimp only; omega))
  rw [dif_neg c8]
  by_cases c9 : e.val - 256 - 256 - 256 - 256 - 256 - 256 - 256 - 256 - 256 < 256
  · rw [dif_pos c9, e9]; exact congrArg f (Fin.ext (by dsimp only; omega))
  rw [dif_neg c9]
  rw [e10]; exact congrArg f (Fin.ext (by dsimp only; omega))

/-- A head's slice of a 512-wide block, and a chunk's of the weights, read at an index. -/
theorem slice_head (x : Vec Ideal S512x512 .bf16) (n : ℕ) (inb : ∀ a, (![0, n] : Fin 2 → ℕ) a + S512x128.size a ≤ S512x512.size a)
    (r : Fin 512) (k : Fin 128) (hk : n + k.val < 512) :
    View.ld x (Rect.unit ![0, n] S512x128.size inb) (ix2 r k) = x (ix2 r ⟨n + k.val, hk⟩) := by
  pointwise

theorem slice_weight (x : Vec Ideal S1024x2816 .bf16) (n : ℕ) (inb : ∀ a, (![0, n] : Fin 2 → ℕ) a + S1024x256.size a ≤ S1024x2816.size a)
    (r : Fin 1024) (k : Fin 256) (hk : n + k.val < 2816) :
    View.ld x (Rect.unit ![0, n] S1024x256.size inb) (ix2 r k) = x (ix2 r ⟨n + k.val, hk⟩) := by
  pointwise

section Tile

variable (x0 x1 x2 x3 : Vec Ideal S512x512 .bf16) (x4 : Vec Ideal S512x1024 .f32) (x5 : Vec Ideal S1024x1024 .bf16)
  (x6 : Vec Ideal S1x128 .f32) (x7 x8 : Vec Ideal S1x1024 .f32)

/-- The joined row of token `r` of a tile. -/
abbrev joinedAt (r : Fin 512) : Fin 1024 → EReal :=
  joined (fun k => x0 (ix2 r k)) (fun k => x1 (ix2 r k)) (fun k => x2 (ix2 r k)) (fun k => x3 (ix2 r k)) (fun k => x6 (ix2 0 k))

/-- One head's gated slice, at its place of the joined row. -/
theorem head_place (h : ℕ) (hh : h < 4) (n p : ℕ) (hn : n = 128 * h) (hp : p = 512 + 128 * h)
    (inb : ∀ a, (![0, n] : Fin 2 → ℕ) a + S512x128.size a ≤ S512x512.size a) (r : Fin 512) (k : Fin 128) (hk : p + k.val < 1024) :
    k0_pay8 (View.ld x1 (Rect.unit ![0, n] S512x128.size inb)) (View.ld x2 (Rect.unit ![0, n] S512x128.size inb)) x6
      (View.ld x3 (Rect.unit ![0, n] S512x128.size inb)) (ix2 r k) = joinedAt x0 x1 x2 x3 x6 r ⟨p + k.val, hk⟩ := by
  subst hn hp
  rw [head_apply]
  refine Eq.trans ?_ (joined_head _ _ _ _ _ h hh k _ rfl).symm
  have e : ∀ (x : Vec Ideal S512x512 .bf16) (d : Fin 128), View.ld x (Rect.unit ![0, 128 * h] S512x128.size inb) (ix2 r d)
      = x (ix2 r ⟨128 * h + d.val, by omega⟩) := fun x d => slice_head x _ inb r d _
  exact congrArg₂ (fun o go => gated o (fun k => x6 (ix2 0 k)) go k) (funext fun d => congrArg₂ (· + ·) (e x1 d) (e x2 d)) (funext fun d => e x3 d)

/-- A tile's projection at token `r`. -/
theorem mixedV_apply (r : Fin 512) (d : Fin 1024) :
    mixedV x0 x1 x2 x3 x5 x6 (ix2 r d) = ∑ e, joinedAt x0 x1 x2 x3 x6 r e * x5 (ix2 e d) := by
  unfold mixedV
  refine mixed_apply _ _ _ _ _ _ r d _ (fun k => (joined_attn (fun k => x0 (ix2 r k)) _ _ _ _ ⟨k.val, by omega⟩ k.isLt).symm) ?_ ?_ ?_ ?_
  · exact fun k => head_place x0 x1 x2 x3 x6 0 (by decide) _ _ rfl rfl _ r k _
  · exact fun k => head_place x0 x1 x2 x3 x6 1 (by decide) _ _ rfl rfl _ r k _
  · exact fun k => head_place x0 x1 x2 x3 x6 2 (by decide) _ _ rfl rfl _ r k _
  · exact fun k => head_place x0 x1 x2 x3 x6 3 (by decide) _ _ rfl rfl _ r k _

/-- The merged row of token `r` of a tile. -/
abbrev mergedAt (r : Fin 512) : Fin 1024 → EReal :=
  step (fun k => x4 (ix2 r k)) (joinedAt x0 x1 x2 x3 x6 r) (fun e k => x5 (ix2 e k)) (fun k => x7 (ix2 0 k)) (fun k => x8 (ix2 0 k))

theorem merged_apply (r : Fin 512) (d : Fin 1024) :
    merged x0 x1 x2 x3 x4 x5 x6 x7 x8 (ix3 0 r d) = mergedAt x0 x1 x2 x3 x4 x5 x6 x7 x8 r d := by
  unfold merged k0_pay33
  pointwise
  rw [residual_apply]
  simp only [mixedV_apply]
  rfl

theorem mergedB_apply (r : Fin 512) (d : Fin 1024) :
    mergedB x0 x1 x2 x3 x4 x5 x6 x7 x8 (ix3 0 r d) = mergedAt x0 x1 x2 x3 x4 x5 x6 x7 x8 r d := by
  unfold mergedB k0_pay34
  pointwise
  rw [residual_apply]
  simp only [mixedV_apply]
  rfl

end Tile

section Out

variable (x : Vec Ideal S1x512x1024 .f32) (xb : Vec Ideal S1x512x1024 .bf16) (wg wu : Vec Ideal S1024x2816 .bf16)
    (wd : Vec Ideal S2816x1024 .bf16) (g b : Vec Ideal S1x1024 .f32)

/-- Hidden unit `f` of token `r`. -/
abbrev hiddenAt (r : Fin 512) (f : Fin 2816) : EReal :=
  Rows.unit (fun k => xb (ix3 0 r k)) (fun k => wg (ix2 k f)) (fun k => wu (ix2 k f))

theorem hid_place (n : ℕ) (inb : ∀ a, (![0, n] : Fin 2 → ℕ) a + S1024x256.size a ≤ S1024x2816.size a) (r : Fin 512) (j : Fin 256)
    (hj : n + j.val < 2816) : hid xb wg wu inb (ix2 r j) = hiddenAt xb wg wu r ⟨n + j.val, hj⟩ := by
  unfold hid
  rw [hidden_apply]
  have e : ∀ (x : Vec Ideal S1024x2816 .bf16) (d : Fin 1024), View.ld x (Rect.unit ![0, n] S1024x256.size inb) (ix2 d j)
      = x (ix2 d ⟨n + j.val, hj⟩) := fun x d => slice_weight x _ inb d j _
  exact congrArg₂ (fun a b => Rows.unit (fun k => xb (ix3 0 r k)) a b) (funext fun d => e wg d) (funext fun d => e wu d)

theorem hid_place' (n : ℕ) (inb : ∀ a, (![0, n] : Fin 2 → ℕ) a + S1024x256.size a ≤ S1024x2816.size a) (r : Fin 512) (j : Fin 256)
    (hj : n + j.val < 2816) : k0_pay40 xb (View.ld wg (Rect.unit ![0, n] S1024x256.size inb)) (View.ld wu (Rect.unit ![0, n] S1024x256.size inb)) (ix2 r j)
      = hiddenAt xb wg wu r ⟨n + j.val, hj⟩ := by
  rw [hidden_apply']
  have e : ∀ (x : Vec Ideal S1024x2816 .bf16) (d : Fin 1024), View.ld x (Rect.unit ![0, n] S1024x256.size inb) (ix2 d j)
      = x (ix2 d ⟨n + j.val, hj⟩) := fun x d => slice_weight x _ inb d j _
  exact congrArg₂ (fun a b => Rows.unit (fun k => xb (ix3 0 r k)) a b) (funext fun d => e wg d) (funext fun d => e wu d)

/-- The output tile at token `r`. -/
theorem ffnOut_apply (r : Fin 512) (d : Fin 1024) : ffnOut x xb wg wu wd g b (ix2 r d)
    = step (fun k => x (ix3 0 r k)) (hiddenAt xb wg wu r) (fun f k => wd (ix2 f k)) (fun k => g (ix2 0 k)) (fun k => b (ix2 0 k)) d := by
  unfold ffnOut
  rw [closing_apply]
  simp only [product_apply]
  unfold step
  refine congrArg (fun y => normed y _ _ d) (funext fun k => congrArg (alpha * x (ix3 0 r k) + ·) (Finset.sum_congr rfl fun f _ => ?_))
  refine congrArg (· * wd (ix2 f k)) (chunks_apply _ _ _ _ _ _ _ _ _ _ _ r _ ?_ ?_ ?_ ?_ ?_ ?_ ?_ ?_ ?_ ?_ ?_ f)
  all_goals first | exact fun j => hid_place xb wg wu _ _ r j _ | exact fun j => hid_place' xb wg wu _ _ r j _

end Out

end Cert.FfnIdeal.Mix

end
-- ==== Proof.Mix.ReferenceRows.lean ====
module

public import proofs.«01_k».proof.Proof.Gen.FfnReferenceIdeal.Read
public import proofs.«01_k».proof.Proof.Mix.Rows
public import Idealize.ShloMosaic.Lib.Pointwise

@[expose] public section

set_option maxRecDepth 16384

noncomputable section

/-! # The reference's layer, read at one token -/

namespace Cert.FfnReferenceIdeal.Rows

open Idealize.ShloMosaic Cert.FfnReferenceIdeal Cert.FfnReferenceIdeal.Read Cert.Rows

/-- A token's 512 numbers split in four heads. -/
theorem split_heads (v : FVec Ideal S8x4096x512 .f32) (hs : S8x4096x512.ShapeCasts S8x4096x4x128) (b : Fin 8) (s : Fin 4096) (h : Fin 4) (d : Fin 128) :
    shapeCast S8x4096x4x128 v hs (ix4 b s h d) = v (ix3 b s ⟨128 * h.val + d.val, by omega⟩) := by
  pointwise
  exact congrArg (fun k => v (ix3 b s k)) (Fin.ext (by dsimp only; omega))

theorem join_heads (v : FVec Ideal S8x4096x4x128 .f32) (hs : S8x4096x4x128.ShapeCasts S8x4096x512) (b : Fin 8) (s : Fin 4096) (k : Fin 512) :
    shapeCast S8x4096x512 v hs (ix3 b s k) = v (ix4 b s ⟨k.val / 128, by omega⟩ ⟨k.val % 128, by omega⟩) := by
  pointwise

variable (x0 x1 x2 x3 : FVec Ideal S8x4096x512 .bf16) (x4 : FVec Ideal S8x4096x1024 .f32) (x5 : FVec Ideal S1024x1024 .bf16)
  (x6 : FVec Ideal S1x128 .f32) (x7 x8 : FVec Ideal S1x1024 .f32) (x9 x10 : FVec Ideal S1024x2816 .bf16)
  (x11 : FVec Ideal S2816x1024 .bf16) (x12 x13 : FVec Ideal S1x1024 .f32)

theorem sum_heads (b : Fin 8) (s : Fin 4096) (h : Fin 4) (d : Fin 128) : (val_main_v3 (F := Ideal) x1 x2 (ix4 b s h d) : EReal)
    = x1 (ix3 b s ⟨128 * h.val + d.val, by omega⟩) + x2 (ix3 b s ⟨128 * h.val + d.val, by omega⟩) := by
  unfold val_main_v3; rw [split_heads]; pointwise [val_main_v2, val_main_v0, val_main_v1]

theorem gate_heads (b : Fin 8) (s : Fin 4096) (h : Fin 4) (d : Fin 128) : (val_main_v19 (F := Ideal) x3 (ix4 b s h d) : EReal)
    = x3 (ix3 b s ⟨128 * h.val + d.val, by omega⟩) := by
  unfold val_main_v19; rw [split_heads]; pointwise [val_main_v18]

/-- A gated head. -/
theorem head_apply (b : Fin 8) (s : Fin 4096) (h : Fin 4) (d : Fin 128) : (val_main_v21 (F := Ideal) x1 x2 x3 x6 (ix4 b s h d) : EReal)
    = gated (fun k => val_main_v3 (F := Ideal) x1 x2 (ix4 b s h k)) (fun k => x6 (ix2 0 k)) (fun k => val_main_v19 (F := Ideal) x3 (ix4 b s h k)) d := by
  unfold val_main_v21 val_main_v20 val_main_call0_v5 val_main_call0_v3 val_main_call0_v1 val_main_call0_v0 val_main_v17 val_main_v14 val_main_v13 val_main_v12 val_main_v11 val_main_v9 val_main_v7 val_main_v6 val_main_v5
  generalize val_main_v3 (F := Ideal) x1 x2 = o
  generalize val_main_v19 (F := Ideal) x3 = g
  pointwise [val_main_call0_v4, val_main_call0_v2, val_main_call0_cst, val_main_call0_cst_0, val_main_v16, val_main_v15, val_main_v4, val_main_v10, val_main_v8, val_main_cst, val_main_cst_0, val_main_cst_1, gated, silu]

/-- The norm over the second residual, and over the first. -/
theorem norm1_apply (b : Fin 8) (s : Fin 4096) (d : Fin 1024) : (val_main_v55 (F := Ideal) x0 x1 x2 x3 x4 x5 x6 x7 x8 (ix3 b s d) : EReal)
    = normed (fun k => val_main_v29 (F := Ideal) x0 x1 x2 x3 x4 x5 x6 (ix3 b s k)) (fun k => x7 (ix2 0 k)) (fun k => x8 (ix2 0 k)) d := by
  unfold val_main_v55 val_main_v52 val_main_v49 val_main_v44 val_main_v48 val_main_v47 val_main_v46 val_main_v43 val_main_v42 val_main_v40 val_main_v39 val_main_v38 val_main_v37 val_main_v36 val_main_v35 val_main_v33 val_main_v32
  generalize val_main_v29 (F := Ideal) x0 x1 x2 x3 x4 x5 x6 = y
  pointwise [val_main_v54, val_main_v53, val_main_v31, val_main_v51, val_main_v50, val_main_v30, val_main_v45, val_main_cst_7, val_main_v41, val_main_cst_6, val_main_cst_5, val_main_v34, val_main_cst_4, val_main_cst_3, normed, avg]

theorem norm2_apply (b : Fin 8) (s : Fin 4096) (d : Fin 1024) : (val_main_v92 (F := Ideal) x0 x1 x2 x3 x4 x5 x6 x7 x8 x9 x10 x11 x12 x13 (ix3 b s d) : EReal)
    = normed (fun k => val_main_v66 (F := Ideal) x0 x1 x2 x3 x4 x5 x6 x7 x8 x9 x10 x11 (ix3 b s k)) (fun k => x12 (ix2 0 k)) (fun k => x13 (ix2 0 k)) d := by
  unfold val_main_v92 val_main_v89 val_main_v86 val_main_v81 val_main_v85 val_main_v84 val_main_v83 val_main_v80 val_main_v79 val_main_v77 val_main_v76 val_main_v75 val_main_v74 val_main_v73 val_main_v72 val_main_v70 val_main_v69
  generalize val_main_v66 (F := Ideal) x0 x1 x2 x3 x4 x5 x6 x7 x8 x9 x10 x11 = y
  pointwise [val_main_v91, val_main_v90, val_main_v68, val_main_v88, val_main_v87, val_main_v67, val_main_v82, val_main_cst_13, val_main_v78, val_main_cst_12, val_main_cst_11, val_main_v71, val_main_cst_10, val_main_cst_9, normed, avg]

/-- The two products of the feed-forward, and the residual under the last norm. -/
theorem out_apply (b : Fin 8) (s : Fin 4096) (d : Fin 1024) : (val_main_v66 (F := Ideal) x0 x1 x2 x3 x4 x5 x6 x7 x8 x9 x10 x11 (ix3 b s d) : EReal)
    = alpha * val_main_v55 (F := Ideal) x0 x1 x2 x3 x4 x5 x6 x7 x8 (ix3 b s d) + ∑ f, Rows.unit (fun k => val_main_v55 (F := Ideal) x0 x1 x2 x3 x4 x5 x6 x7 x8 (ix3 b s k)) (fun k => x9 (ix2 k f)) (fun k => x10 (ix2 k f)) * x11 (ix2 f d) := by
  unfold val_main_v66 val_main_v65 val_main_v63 val_main_v61 val_main_v60 val_main_v58 val_main_call1_v5 val_main_call1_v3 val_main_call1_v1 val_main_call1_v0 val_main_v57
  generalize val_main_v55 (F := Ideal) x0 x1 x2 x3 x4 x5 x6 x7 x8 = y
  pointwise [val_main_v62, val_main_v59, val_main_v56, val_main_v64, val_main_cst_8, val_main_call1_v4, val_main_call1_v2, val_main_call1_cst, val_main_call1_cst_0, Rows.unit, silu]

/-- The merged residual under the first norm. -/
theorem mix_apply (b : Fin 8) (s : Fin 4096) (d : Fin 1024) : (val_main_v29 (F := Ideal) x0 x1 x2 x3 x4 x5 x6 (ix3 b s d) : EReal)
    = alpha * x4 (ix3 b s d) + ∑ e, val_main_v24 (F := Ideal) x0 x1 x2 x3 x6 (ix3 b s e) * x5 (ix2 e d) := by
  unfold val_main_v29 val_main_v26
  generalize val_main_v24 (F := Ideal) x0 x1 x2 x3 x6 = y
  pointwise [val_main_v28, val_main_v27, val_main_cst_2, val_main_v25]

/-- The gated heads, side by side. -/
theorem heads_apply (b : Fin 8) (s : Fin 4096) (k : Fin 512) (e : Fin 1024) (he : e.val = 512 + k.val) :
    (val_main_v22 (F := Ideal) x1 x2 x3 x6 (ix3 b s k) : EReal)
      = joined (fun k => x0 (ix3 b s k)) (fun k => x1 (ix3 b s k)) (fun k => x2 (ix3 b s k)) (fun k => x3 (ix3 b s k))
          (fun k => x6 (ix2 0 k)) e := by
  unfold val_main_v22
  rw [join_heads, head_apply]
  refine Eq.trans ?_ (joined_head _ _ _ _ _ (k.val / 128) (by omega) ⟨k.val % 128, by omega⟩ e (by dsimp only; omega)).symm
  simp only [sum_heads, gate_heads]

/-- The output projection's left operand. -/
theorem join_apply (b : Fin 8) (s : Fin 4096) (e : Fin 1024) : (val_main_v24 (F := Ideal) x0 x1 x2 x3 x6 (ix3 b s e) : EReal)
    = joined (fun k => x0 (ix3 b s k)) (fun k => x1 (ix3 b s k)) (fun k => x2 (ix3 b s k)) (fun k => x3 (ix3 b s k))
        (fun k => x6 (ix2 0 k)) e := by
  have H := heads_apply x0 x1 x2 x3 x6 b s
  unfold val_main_v24
  generalize val_main_v22 (F := Ideal) x1 x2 x3 x6 = y at H
  pointwise [val_main_v23]
  by_cases h : e.val < 512
  · rw [dif_pos h, joined_attn _ _ _ _ _ e h]
  · rw [dif_neg h]
    exact H _ e (by dsimp only; omega)

/-- A token's merged row, and the layer's result for it. -/
abbrev mergedAt (b : Fin 8) (s : Fin 4096) : Fin 1024 → EReal :=
  step (fun k => x4 (ix3 b s k)) (joined (fun k => x0 (ix3 b s k)) (fun k => x1 (ix3 b s k)) (fun k => x2 (ix3 b s k))
    (fun k => x3 (ix3 b s k)) (fun k => x6 (ix2 0 k))) (fun e k => x5 (ix2 e k)) (fun k => x7 (ix2 0 k)) (fun k => x8 (ix2 0 k))

theorem result_apply (b : Fin 8) (s : Fin 4096) (d : Fin 1024) :
    (val_main_v92 (F := Ideal) x0 x1 x2 x3 x4 x5 x6 x7 x8 x9 x10 x11 x12 x13 (ix3 b s d) : EReal)
      = step (mergedAt x0 x1 x2 x3 x4 x5 x6 x7 x8 b s)
          (fun f => Rows.unit (mergedAt x0 x1 x2 x3 x4 x5 x6 x7 x8 b s) (fun k => x9 (ix2 k f)) (fun k => x10 (ix2 k f)))
          (fun f k => x11 (ix2 f k)) (fun k => x12 (ix2 0 k)) (fun k => x13 (ix2 0 k)) d := by
  have H : ∀ k, (val_main_v55 (F := Ideal) x0 x1 x2 x3 x4 x5 x6 x7 x8 (ix3 b s k) : EReal)
      = mergedAt x0 x1 x2 x3 x4 x5 x6 x7 x8 b s k := fun k => by
    rw [norm1_apply]
    simp only [mix_apply, join_apply]
    rfl
  rw [norm2_apply]
  simp only [out_apply, H]
  rfl

end Cert.FfnReferenceIdeal.Rows

end
-- ==== Proof.Mix.FfnValue.lean ====
module

public import proofs.«01_k».proof.Proof.Mix.FfnIdealFrame
public import proofs.«01_k».proof.Proof.Mix.FfnRows
public import proofs.«01_k».proof.Proof.Mix.ReferenceRows
public import Idealize.ShloMosaic.Lib.Pointwise

@[expose] public section

set_option maxRecDepth 16384

noncomputable section

/-! # The layer's result array, token by token

The blocks of a point are rows of the call's arguments; a point's output block holds the tokens of the tile before it; the
written blocks tile the array, which so ends at the layer's result for every token. -/

namespace Cert.FfnIdeal.Mix

open Idealize.ShloMosaic Idealize.ShloMosaic.TcCoe Idealize.SL.Sem
open Idealize.ShloMosaic.Pipeline (Dat)
open Cert.FfnIdeal Cert.FfnIdeal.Gen Cert.Rows

variable (m : (ℓ : Loc nD τ sig) → Buf (Elt Ideal) ℓ) (ρ : Dev nD → PrngReg)

/-! ## The arguments -/

/-- The call's arguments on a device. -/
abbrev arg0 (c : Dev nD) : FVec Ideal S8x4096x512 .bf16 := m ((c.tc : Thread nD τ).loc main_arg0)
abbrev arg1 (c : Dev nD) : FVec Ideal S8x4096x512 .bf16 := m ((c.tc : Thread nD τ).loc main_arg1)
abbrev arg2 (c : Dev nD) : FVec Ideal S8x4096x512 .bf16 := m ((c.tc : Thread nD τ).loc main_arg2)
abbrev arg3 (c : Dev nD) : FVec Ideal S8x4096x512 .bf16 := m ((c.tc : Thread nD τ).loc main_arg3)
abbrev arg4 (c : Dev nD) : FVec Ideal S8x4096x1024 .f32 := m ((c.tc : Thread nD τ).loc main_arg4)
abbrev arg5 (c : Dev nD) : FVec Ideal S1024x1024 .bf16 := m ((c.tc : Thread nD τ).loc main_arg5)
abbrev arg6 (c : Dev nD) : FVec Ideal S1x128 .f32 := m ((c.tc : Thread nD τ).loc main_arg6)
abbrev arg7 (c : Dev nD) : FVec Ideal S1x1024 .f32 := m ((c.tc : Thread nD τ).loc main_arg7)
abbrev arg8 (c : Dev nD) : FVec Ideal S1x1024 .f32 := m ((c.tc : Thread nD τ).loc main_arg8)
abbrev arg9 (c : Dev nD) : FVec Ideal S1024x2816 .bf16 := m ((c.tc : Thread nD τ).loc main_arg9)
abbrev arg10 (c : Dev nD) : FVec Ideal S1024x2816 .bf16 := m ((c.tc : Thread nD τ).loc main_arg10)
abbrev arg11 (c : Dev nD) : FVec Ideal S2816x1024 .bf16 := m ((c.tc : Thread nD τ).loc main_arg11)
abbrev arg12 (c : Dev nD) : FVec Ideal S1x1024 .f32 := m ((c.tc : Thread nD τ).loc main_arg12)
abbrev arg13 (c : Dev nD) : FVec Ideal S1x1024 .f32 := m ((c.tc : Thread nD τ).loc main_arg13)

/-- Rows of the flattened arguments. -/
theorem flat0 (c : Dev nD) (i : Fin 32768) (k : Fin 512) :
    (V m c main_v0 : FVec Ideal S32768x512 .bf16) (ix2 i k) = arg0 m c (ix3 ⟨i.val / 4096, by omega⟩ ⟨i.val % 4096, by omega⟩ k) := by
  have e : V m c main_v0 = shapeCast S32768x512 (arg0 m c) shapeCasts_S8x4096x512_S32768x512 := by
    show StableHlo.after (List.flatten [hostOps0]) (fun b => m (c, b)) (Proc.devRef .tc main_v0) = _
    simp only [hostOps0, List.flatten_cons, List.flatten_nil, List.append_nil, List.cons_append, List.nil_append]
    after_results
    rfl
  rw [e]
  pointwise

theorem flat1 (c : Dev nD) (i : Fin 32768) (k : Fin 512) :
    (V m c main_v1 : FVec Ideal S32768x512 .bf16) (ix2 i k) = arg1 m c (ix3 ⟨i.val / 4096, by omega⟩ ⟨i.val % 4096, by omega⟩ k) := by
  have e : V m c main_v1 = shapeCast S32768x512 (arg1 m c) shapeCasts_S8x4096x512_S32768x512 := by
    show StableHlo.after (List.flatten [hostOps0]) (fun b => m (c, b)) (Proc.devRef .tc main_v1) = _
    simp only [hostOps0, List.flatten_cons, List.flatten_nil, List.append_nil, List.cons_append, List.nil_append]
    after_results
    rfl
  rw [e]
  pointwise

theorem flat2 (c : Dev nD) (i : Fin 32768) (k : Fin 512) :
    (V m c main_v2 : FVec Ideal S32768x512 .bf16) (ix2 i k) = arg2 m c (ix3 ⟨i.val / 4096, by omega⟩ ⟨i.val % 4096, by omega⟩ k) := by
  have e : V m c main_v2 = shapeCast S32768x512 (arg2 m c) shapeCasts_S8x4096x512_S32768x512 := by
    show StableHlo.after (List.flatten [hostOps0]) (fun b => m (c, b)) (Proc.devRef .tc main_v2) = _
    simp only [hostOps0, List.flatten_cons, List.flatten_nil, List.append_nil, List.cons_append, List.nil_append]
    after_results
    rfl
  rw [e]
  pointwise

theorem flat3 (c : Dev nD) (i : Fin 32768) (k : Fin 512) :
    (V m c main_v3 : FVec Ideal S32768x512 .bf16) (ix2 i k) = arg3 m c (ix3 ⟨i.val / 4096, by omega⟩ ⟨i.val % 4096, by omega⟩ k) := by
  have e : V m c main_v3 = shapeCast S32768x512 (arg3 m c) shapeCasts_S8x4096x512_S32768x512 := by
    show StableHlo.after (List.flatten [hostOps0]) (fun b => m (c, b)) (Proc.devRef .tc main_v3) = _
    simp only [hostOps0, List.flatten_cons, List.flatten_nil, List.append_nil, List.cons_append, List.nil_append]
    after_results
    rfl
  rw [e]
  pointwise

theorem flat4 (c : Dev nD) (i : Fin 32768) (k : Fin 1024) :
    (V m c main_v4 : FVec Ideal S32768x1024 .f32) (ix2 i k) = arg4 m c (ix3 ⟨i.val / 4096, by omega⟩ ⟨i.val % 4096, by omega⟩ k) := by
  have e : V m c main_v4 = shapeCast S32768x1024 (arg4 m c) shapeCasts_S8x4096x1024_S32768x1024 := by
    show StableHlo.after (List.flatten [hostOps0]) (fun b => m (c, b)) (Proc.devRef .tc main_v4) = _
    simp only [hostOps0, List.flatten_cons, List.flatten_nil, List.append_nil, List.cons_append, List.nil_append]
    after_results
    rfl
  rw [e]
  pointwise

/-! ## Where a point's blocks lie -/

theorem index0 : ∀ t : Fin grid0.N, win0_0.index t 0 = min t.val 63 ∧ win0_0.index t 1 = 0 := by decide +kernel
theorem index1 : ∀ t : Fin grid0.N, win0_1.index t 0 = min t.val 63 ∧ win0_1.index t 1 = 0 := by decide +kernel
theorem index2 : ∀ t : Fin grid0.N, win0_2.index t 0 = min t.val 63 ∧ win0_2.index t 1 = 0 := by decide +kernel
theorem index3 : ∀ t : Fin grid0.N, win0_3.index t 0 = min t.val 63 ∧ win0_3.index t 1 = 0 := by decide +kernel
theorem index4 : ∀ t : Fin grid0.N, win0_4.index t 0 = min t.val 63 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel
theorem index12 : ∀ t : Fin grid0.N, win0_12.index t 0 = 0 ∧ win0_12.index t 1 = 0 := by decide +kernel
theorem index13 : ∀ t : Fin grid0.N, win0_13.index t 0 = 0 ∧ win0_13.index t 1 = 0 := by decide +kernel
theorem index14 : ∀ t : Fin grid0.N, win0_14.index t 0 = t.val - 1 ∧ win0_14.index t 1 = 0 := by decide +kernel
theorem flush14 : ∀ t : Fin grid0.N, (cfg0.win 14).flush t = true ↔ 1 ≤ t.val := by decide +kernel

theorem points : ∀ t : Fin cfg0.N, t.val < 65 := fun t => t.isLt

theorem block0 (c : Dev nD) (t : Fin cfg0.N) (r : Fin 512) (k : Fin 512) (i : Fin 32768) (hi : i.val = min t.val 63 * 512 + r.val) :
    (iblk m c 0 t : FVec Ideal S512x512 .bf16) (ix2 r k) = arg0 m c (ix3 ⟨i.val / 4096, by omega⟩ ⟨i.val % 4096, by omega⟩ k) := by
  rw [← flat0]
  refine congrArg (V m c main_v0) (funext fun a => Fin.ext ?_)
  obtain ⟨e0, e1⟩ := index0 t
  match a with
  | ⟨0, _⟩ => show win0_0.index t 0 * 512 + 1 * r.val = i.val; omega
  | ⟨1, _⟩ => show win0_0.index t 1 * 512 + 1 * k.val = k.val; omega

theorem block1 (c : Dev nD) (t : Fin cfg0.N) (r : Fin 512) (k : Fin 512) (i : Fin 32768) (hi : i.val = min t.val 63 * 512 + r.val) :
    (iblk m c 1 t : FVec Ideal S512x512 .bf16) (ix2 r k) = arg1 m c (ix3 ⟨i.val / 4096, by omega⟩ ⟨i.val % 4096, by omega⟩ k) := by
  rw [← flat1]
  refine congrArg (V m c main_v1) (funext fun a => Fin.ext ?_)
  obtain ⟨e0, e1⟩ := index1 t
  match a with
  | ⟨0, _⟩ => show win0_1.index t 0 * 512 + 1 * r.val = i.val; omega
  | ⟨1, _⟩ => show win0_1.index t 1 * 512 + 1 * k.val = k.val; omega

theorem block2 (c : Dev nD) (t : Fin cfg0.N) (r : Fin 512) (k : Fin 512) (i : Fin 32768) (hi : i.val = min t.val 63 * 512 + r.val) :
    (iblk m c 2 t : FVec Ideal S512x512 .bf16) (ix2 r k) = arg2 m c (ix3 ⟨i.val / 4096, by omega⟩ ⟨i.val % 4096, by omega⟩ k) := by
  rw [← flat2]
  refine congrArg (V m c main_v2) (funext fun a => Fin.ext ?_)
  obtain ⟨e0, e1⟩ := index2 t
  match a with
  | ⟨0, _⟩ => show win0_2.index t 0 * 512 + 1 * r.val = i.val; omega
  | ⟨1, _⟩ => show win0_2.index t 1 * 512 + 1 * k.val = k.val; omega

theorem block3 (c : Dev nD) (t : Fin cfg0.N) (r : Fin 512) (k : Fin 512) (i : Fin 32768) (hi : i.val = min t.val 63 * 512 + r.val) :
    (iblk m c 3 t : FVec Ideal S512x512 .bf16) (ix2 r k) = arg3 m c (ix3 ⟨i.val / 4096, by omega⟩ ⟨i.val % 4096, by omega⟩ k) := by
  rw [← flat3]
  refine congrArg (V m c main_v3) (funext fun a => Fin.ext ?_)
  obtain ⟨e0, e1⟩ := index3 t
  match a with
  | ⟨0, _⟩ => show win0_3.index t 0 * 512 + 1 * r.val = i.val; omega
  | ⟨1, _⟩ => show win0_3.index t 1 * 512 + 1 * k.val = k.val; omega

theorem block4 (c : Dev nD) (t : Fin cfg0.N) (r : Fin 512) (k : Fin 1024) (i : Fin 32768) (hi : i.val = min t.val 63 * 512 + r.val) :
    (iblk m c 4 t : FVec Ideal S512x1024 .f32) (ix2 r k) = arg4 m c (ix3 ⟨i.val / 4096, by omega⟩ ⟨i.val % 4096, by omega⟩ k) := by
  rw [← flat4]
  refine congrArg (V m c main_v4) (funext fun a => Fin.ext ?_)
  obtain ⟨e0, e1⟩ := index4 t
  match a with
  | ⟨0, _⟩ => show win0_4.index t 0 * 512 + 1 * r.val = i.val; omega
  | ⟨1, _⟩ => show win0_4.index t 1 * 1024 + 1 * k.val = k.val; omega

theorem block5 (c : Dev nD) (t : Fin cfg0.N) : (iblk m c 5 t : FVec Ideal S1024x1024 .bf16) = arg5 m c := by
  refine Eq.trans ?_ (V_main_arg5 m c)
  refine funext fun j => congrArg (V m c main_arg5) (funext fun a => Fin.ext ?_)
  obtain ⟨e0, e1⟩ := index5 t
  match a with
  | ⟨0, _⟩ => show win0_5.index t 0 * 1024 + 1 * (j 0).val = (j 0).val; omega
  | ⟨1, _⟩ => show win0_5.index t 1 * 1024 + 1 * (j 1).val = (j 1).val; omega

theorem block6 (c : Dev nD) (t : Fin cfg0.N) : (iblk m c 6 t : FVec Ideal S1x128 .f32) = arg6 m c := by
  refine Eq.trans ?_ (V_main_arg6 m c)
  refine funext fun j => congrArg (V m c main_arg6) (funext fun a => Fin.ext ?_)
  obtain ⟨e0, e1⟩ := index6 t
  match a with
  | ⟨0, _⟩ => show win0_6.index t 0 * 1 + 1 * (j 0).val = (j 0).val; omega
  | ⟨1, _⟩ => show win0_6.index t 1 * 128 + 1 * (j 1).val = (j 1).val; omega

theorem block7 (c : Dev nD) (t : Fin cfg0.N) : (iblk m c 7 t : FVec Ideal S1x1024 .f32) = arg7 m c := by
  refine Eq.trans ?_ (V_main_arg7 m c)
  refine funext fun j => congrArg (V m c main_arg7) (funext fun a => Fin.ext ?_)
  obtain ⟨e0, e1⟩ := index7 t
  match a with
  | ⟨0, _⟩ => show win0_7.index t 0 * 1 + 1 * (j 0).val = (j 0).val; omega
  | ⟨1, _⟩ => show win0_7.index t 1 * 1024 + 1 * (j 1).val = (j 1).val; omega

theorem block8 (c : Dev nD) (t : Fin cfg0.N) : (iblk m c 8 t : FVec Ideal S1x1024 .f32) = arg8 m c := by
  refine Eq.trans ?_ (V_main_arg8 m c)
  refine funext fun j => congrArg (V m c main_arg8) (funext fun a => Fin.ext ?_)
  obtain ⟨e0, e1⟩ := index8 t
  match a with
  | ⟨0, _⟩ => show win0_8.index t 0 * 1 + 1 * (j 0).val = (j 0).val; omega
  | ⟨1, _⟩ => show win0_8.index t 1 * 1024 + 1 * (j 1).val = (j 1).val; omega

theorem block9 (c : Dev nD) (t : Fin cfg0.N) : (iblk m c 9 t : FVec Ideal S1024x2816 .bf16) = arg9 m c := by
  refine Eq.trans ?_ (V_main_arg9 m c)
  refine funext fun j => congrArg (V m c main_arg9) (funext fun a => Fin.ext ?_)
  obtain ⟨e0, e1⟩ := index9 t
  match a with
  | ⟨0, _⟩ => show win0_9.index t 0 * 1024 + 1 * (j 0).val = (j 0).val; omega
  | ⟨1, _⟩ => show win0_9.index t 1 * 2816 + 1 * (j 1).val = (j 1).val; omega

theorem block10 (c : Dev nD) (t : Fin cfg0.N) : (iblk m c 10 t : FVec Ideal S1024x2816 .bf16) = arg10 m c := by
  refine Eq.trans ?_ (V_main_arg10 m c)
  refine funext fun j => congrArg (V m c main_arg10) (funext fun a => Fin.ext ?_)
  obtain ⟨e0, e1⟩ := index10 t
  match a with
  | ⟨0, _⟩ => show win0_10.index t 0 * 1024 + 1 * (j 0).val = (j 0).val; omega
  | ⟨1, _⟩ => show win0_10.index t 1 * 2816 + 1 * (j 1).val = (j 1).val; omega

theorem block11 (c : Dev nD) (t : Fin cfg0.N) : (iblk m c 11 t : FVec Ideal S2816x1024 .bf16) = arg11 m c := by
  refine Eq.trans ?_ (V_main_arg11 m c)
  refine funext fun j => congrArg (V m c main_arg11) (funext fun a => Fin.ext ?_)
  obtain ⟨e0, e1⟩ := index11 t
  match a with
  | ⟨0, _⟩ => show win0_11.index t 0 * 2816 + 1 * (j 0).val = (j 0).val; omega
  | ⟨1, _⟩ => show win0_11.index t 1 * 1024 + 1 * (j 1).val = (j 1).val; omega

theorem block12 (c : Dev nD) (t : Fin cfg0.N) : (iblk m c 12 t : FVec Ideal S1x1024 .f32) = arg12 m c := by
  refine Eq.trans ?_ (V_main_arg12 m c)
  refine funext fun j => congrArg (V m c main_arg12) (funext fun a => Fin.ext ?_)
  obtain ⟨e0, e1⟩ := index12 t
  match a with
  | ⟨0, _⟩ => show win0_12.index t 0 * 1 + 1 * (j 0).val = (j 0).val; omega
  | ⟨1, _⟩ => show win0_12.index t 1 * 1024 + 1 * (j 1).val = (j 1).val; omega

theorem block13 (c : Dev nD) (t : Fin cfg0.N) : (iblk m c 13 t : FVec Ideal S1x1024 .f32) = arg13 m c := by
  refine Eq.trans ?_ (V_main_arg13 m c)
  refine funext fun j => congrArg (V m c main_arg13) (funext fun a => Fin.ext ?_)
  obtain ⟨e0, e1⟩ := index13 t
  match a with
  | ⟨0, _⟩ => show win0_13.index t 0 * 1 + 1 * (j 0).val = (j 0).val; omega
  | ⟨1, _⟩ => show win0_13.index t 1 * 1024 + 1 * (j 1).val = (j 1).val; omega

/-! ## The result -/

/-- The layer's result for a token, from the call's arguments. -/
def token (c : Dev nD) (b : Fin 8) (s : Fin 4096) : Fin 1024 → EReal :=
  step (FfnReferenceIdeal.Rows.mergedAt (arg0 m c) (arg1 m c) (arg2 m c) (arg3 m c) (arg4 m c) (arg5 m c) (arg6 m c) (arg7 m c) (arg8 m c) b s)
    (fun f => Rows.unit (FfnReferenceIdeal.Rows.mergedAt (arg0 m c) (arg1 m c) (arg2 m c) (arg3 m c) (arg4 m c) (arg5 m c) (arg6 m c) (arg7 m c) (arg8 m c) b s)
      (fun k => arg9 m c (ix2 k f)) (fun k => arg10 m c (ix2 k f)))
    (fun f k => arg11 m c (ix2 f k)) (fun k => arg12 m c (ix2 0 k)) (fun k => arg13 m c (ix2 0 k))

/-- The flat result array. -/
def flatResult (c : Dev nD) : FVec Ideal S32768x1024 .f32 :=
  fun i => token m c ⟨(i 0).val / 4096, by have h : (i 0).val < 32768 := (i 0).isLt; omega⟩ ⟨(i 0).val % 4096, by omega⟩ (i 1)

/-- A tile's merged row is the token's. -/
theorem kept_row (c : Dev nD) (t : Fin cfg0.N) (r : Fin 512) (i : Fin 32768) (hi : i.val = min t.val 63 * 512 + r.val) :
    mergedAt (iblk m c 0 t) (iblk m c 1 t) (iblk m c 2 t) (iblk m c 3 t) (iblk m c 4 t) (iblk m c 5 t) (iblk m c 6 t) (iblk m c 7 t) (iblk m c 8 t) r
      = FfnReferenceIdeal.Rows.mergedAt (arg0 m c) (arg1 m c) (arg2 m c) (arg3 m c) (arg4 m c) (arg5 m c) (arg6 m c) (arg7 m c) (arg8 m c) ⟨i.val / 4096, by omega⟩ ⟨i.val % 4096, by omega⟩ := by
  unfold mergedAt joinedAt FfnReferenceIdeal.Rows.mergedAt
  rw [block5, block6, block7, block8]
  simp only [block0 m c t r _ i hi, block1 m c t r _ i hi, block2 m c t r _ i hi, block3 m c t r _ i hi, block4 m c t r _ i hi]

/-- A point after the first leaves the tokens of the tile before it. -/
theorem out_row (c : Dev nD) (t : Fin cfg0.N) (ht : 1 ≤ t.val) (r : Fin 512) (d : Fin 1024) (i : Fin 32768)
    (hi : i.val = (t.val - 1) * 512 + r.val) :
    outAt m c t (ix2 r d) = token m c ⟨i.val / 4096, by omega⟩ ⟨i.val % 4096, by omega⟩ d := by
  have hN := points t
  have hk : ∀ k, _ = _ := fun k => congrFun (kept_row m c ⟨t.val - 1, (Nat.sub_le _ _).trans_lt t.isLt⟩ r i (by
    show i.val = min (t.val - 1) 63 * 512 + r.val
    rw [Nat.min_eq_left (by omega)]; exact hi)) k
  unfold outAt
  rw [dif_neg (by omega), ffnOut_apply]
  unfold hiddenAt keptX keptB token
  simp only [merged_apply, mergedB_apply, hk]
  rw [block9, block10, block11, block12, block13]

theorem flushed (c : Dev nD) (t : Fin cfg0.N) (hf : (cfg0.win 14).flush t = true) :
    (dats m 0 c).flushed 14 t = ((cfg0.win 14).blk t).view.read (Elt Ideal) (flatResult m c) := by
  show (cfg0.win 14).cut (grid0.coords t) ((dats m 0 c).after 14 t) = _
  rw [after14]
  have ht := (flush14 t).1 hf
  have hN := points t
  obtain ⟨e0, e1⟩ := index14 t
  funext j
  have h0 : (j 0).val < 512 := (j 0).isLt
  have h1 : (j 1).val < 1024 := (j 1).isLt
  have hj : j = ix2 (⟨(j 0).val, h0⟩ : Fin 512) (⟨(j 1).val, h1⟩ : Fin 1024) := funext fun a => by
    match a with
    | ⟨0, _⟩ => rfl
    | ⟨1, _⟩ => rfl
  show outAt m c t j = flatResult m c (((cfg0.win 14).blk t).view.emb j)
  have he : ((cfg0.win 14).blk t).view.emb j = ix2 (⟨(t.val - 1) * 512 + (j 0).val, by omega⟩ : Fin 32768) (⟨(j 1).val, h1⟩ : Fin 1024) := by
    funext a; apply Fin.ext
    match a with
    | ⟨0, _⟩ => show win0_14.index t 0 * 512 + 1 * (j 0).val = (t.val - 1) * 512 + (j 0).val; omega
    | ⟨1, _⟩ => show win0_14.index t 1 * 1024 + 1 * (j 1).val = (j 1).val; omega
  rw [he]
  exact (congrArg (outAt m c t) hj).trans (out_row m c t ht _ _ ⟨(t.val - 1) * 512 + (j 0).val, by omega⟩ rfl)

theorem cover (i : S32768x1024.Idx) : ∃ t : Fin cfg0.N, (cfg0.win 14).flush t = true ∧ i ∈ ((cfg0.win 14).blk t).view.set := by
  have h0 : (i 0).val < 32768 := (i 0).isLt
  have h1 : (i 1).val < 1024 := (i 1).isLt
  have hN : (i 0).val / 512 + 1 < grid0.N := by show (i 0).val / 512 + 1 < 65; omega
  refine ⟨⟨(i 0).val / 512 + 1, hN⟩, (flush14 _).2 (by dsimp only; omega), ?_⟩
  obtain ⟨e0, e1⟩ := index14 ⟨(i 0).val / 512 + 1, hN⟩
  show i ∈ ((View.whole main_v5).slice (win0_14.rect (⟨(i 0).val / 512 + 1, hN⟩ : Fin grid0.N))).set
  rw [View.set_slice_whole, Rect.mem_set_unit]
  intro a
  match a with
  | ⟨0, _⟩ =>
    show win0_14.index _ 0 * 512 ≤ (i 0).val ∧ (i 0).val < win0_14.index _ 0 * 512 + 512
    rw [e0]; dsimp only; omega
  | ⟨1, _⟩ =>
    show win0_14.index _ 1 * 1024 ≤ (i 1).val ∧ (i 1).val < win0_14.index _ 1 * 1024 + 1024
    rw [e1]; omega

theorem final (c : Dev nD) : (dats m 0 c).arrAt 14 cfg0.N = flatResult m c :=
  (dats m 0 c).arrAt_eq_of_cover 14 (flatResult m c) (flushed m c) cover

/-- The result array as the program returns it. -/
theorem result_eq (c : Dev nD) : Pipeline.afterTail₀ cfgs (dats m) 0 (V0 m) [hostOps1] c main_v6
    = shapeCast S8x4096x1024 (flatResult m c) shapeCasts_S32768x1024_S8x4096x1024 := by
  unfold Pipeline.afterTail₀
  after_results
  exact congrArg (fun y => shapeCast S8x4096x1024 y shapeCasts_S32768x1024_S8x4096x1024)
    ((Pipeline.withArrays_arr spec0 (by decide) c (V0 m c) (fun w => (dats m 0 c).arrAt w cfg0.N) 14).trans (final m c))

theorem result_apply (c : Dev nD) (b : Fin 8) (s : Fin 4096) (d : Fin 1024) :
    shapeCast S8x4096x1024 (flatResult m c) shapeCasts_S32768x1024_S8x4096x1024 (ix3 b s d) = token m c b s d := by
  pointwise [flatResult]
  congr 1 <;> exact Fin.ext (by dsimp only; omega)

end Cert.FfnIdeal.Mix

end
-- ==== Proof.Mix.Algebraic.lean ====
module

public import proofs.«01_k».proof.Defs
public import Idealize.ShloMosaic.Lib.Claim
public import proofs.«01_k».proof.Proof.Mix.FfnValue
public import proofs.«01_k».proof.Proof.Gen.FfnReferenceIdeal.Run
public import proofs.«01_k».proof.Proof.Gen.FfnReferenceIdeal.Read

@[expose] public section

set_option maxRecDepth 16384

noncomputable section

/-! # The layer's call computes the reference -/

namespace Cert.FfnIdeal.Mix

open Idealize.ShloMosaic Idealize.ShloMosaic.TcCoe Idealize.SL.Sem
open Cert.FfnIdeal Cert.FfnIdeal.Gen

/-- The kernel's result array, as the program returns it. -/
abbrev returned (m : (ℓ : Loc nD τ sig) → Buf (Elt Ideal) ℓ) (c : Dev nD) : Buf (Elt Ideal) ((c.tc : Thread nD τ).loc main_v6) :=
  shapeCast S8x4096x1024 (flatResult m c) shapeCasts_S32768x1024_S8x4096x1024

/-- The reference's result over arguments equal to the kernel's is the kernel's. -/
theorem reference_eq (m : (ℓ : Loc nD τ sig) → Buf (Elt Ideal) ℓ) (c : Dev nD) :
    FfnReferenceIdeal.Read.val_main_v92 (F := Ideal) (arg0 m c) (arg1 m c) (arg2 m c) (arg3 m c) (arg4 m c) (arg5 m c) (arg6 m c) (arg7 m c) (arg8 m c) (arg9 m c) (arg10 m c) (arg11 m c) (arg12 m c) (arg13 m c) = returned m c := by
  funext i
  rw [eq_ix3 i]
  exact (FfnReferenceIdeal.Rows.result_apply _ _ _ _ _ _ _ _ _ _ _ _ _ _ (i 0) (i 1) (i 2)).trans (result_apply m c (i 0) (i 1) (i 2)).symm

/-- THE VALUE CLAIM: from memories agreeing on the arguments both programs end with equal results. -/
theorem algebraic : algebraic_FfnIdeal_FfnReferenceIdeal := by
  intro m g m' g' _ hag
  refine ⟨returned m, ?_, ?_⟩
  · refine (θ_run defs _ _).mono (fun r h c => ⟨?_, args_of m r h.1 c⟩) (run m g)
    exact ((h.1 c).2 main_v6 (Pipeline.mem_restRefs_of main_v6 (by decide) (by decide))).trans (result_eq m c)
  · refine (θ_run FfnReferenceIdeal.defs _ _).mono (fun r h c => ⟨(h c).1.trans ?_, (h c).2⟩) (FfnReferenceIdeal.Value.run m' g')
    refine (FfnReferenceIdeal.Read.val_main_v92_eq (StableHlo.launchContents m' c)).trans ?_
    show FfnReferenceIdeal.Read.val_main_v92 (F := Ideal)
      (m' ((c.tc : Thread FfnReferenceIdeal.nD FfnReferenceIdeal.τ).loc FfnReferenceIdeal.main_arg0))
      (m' ((c.tc : Thread FfnReferenceIdeal.nD FfnReferenceIdeal.τ).loc FfnReferenceIdeal.main_arg1))
      (m' ((c.tc : Thread FfnReferenceIdeal.nD FfnReferenceIdeal.τ).loc FfnReferenceIdeal.main_arg2))
      (m' ((c.tc : Thread FfnReferenceIdeal.nD FfnReferenceIdeal.τ).loc FfnReferenceIdeal.main_arg3))
      (m' ((c.tc : Thread FfnReferenceIdeal.nD FfnReferenceIdeal.τ).loc FfnReferenceIdeal.main_arg4))
      (m' ((c.tc : Thread FfnReferenceIdeal.nD FfnReferenceIdeal.τ).loc FfnReferenceIdeal.main_arg5))
      (m' ((c.tc : Thread FfnReferenceIdeal.nD FfnReferenceIdeal.τ).loc FfnReferenceIdeal.main_arg6))
      (m' ((c.tc : Thread FfnReferenceIdeal.nD FfnReferenceIdeal.τ).loc FfnReferenceIdeal.main_arg7))
      (m' ((c.tc : Thread FfnReferenceIdeal.nD FfnReferenceIdeal.τ).loc FfnReferenceIdeal.main_arg8))
      (m' ((c.tc : Thread FfnReferenceIdeal.nD FfnReferenceIdeal.τ).loc FfnReferenceIdeal.main_arg9))
      (m' ((c.tc : Thread FfnReferenceIdeal.nD FfnReferenceIdeal.τ).loc FfnReferenceIdeal.main_arg10))
      (m' ((c.tc : Thread FfnReferenceIdeal.nD FfnReferenceIdeal.τ).loc FfnReferenceIdeal.main_arg11))
      (m' ((c.tc : Thread FfnReferenceIdeal.nD FfnReferenceIdeal.τ).loc FfnReferenceIdeal.main_arg12))
      (m' ((c.tc : Thread FfnReferenceIdeal.nD FfnReferenceIdeal.τ).loc FfnReferenceIdeal.main_arg13)) = _
    obtain ⟨a0, a1, a2, a3, a4, a5, a6, a7, a8, a9, a10, a11, a12, a13⟩ := hag c
    rw [a0, a1, a2, a3, a4, a5, a6, a7, a8, a9, a10, a11, a12, a13]
    exact reference_eq m c

end Cert.FfnIdeal.Mix

end
-- ==== Proof.Attn.KernelIdealSpec.lean ====
module

public import proofs.«01_k».proof.Proof.Attn.KernelIdealRun
public import proofs.«01_k».proof.Proof.Mix.Slots
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! # What a point of the attention's grid computes, from its blocks and the slots -/

/-! ## The scores' two factors, by chunks of 256 keys -/

theorem keys_inb (j : Fin 16) : ∀ a, (![0, 0, 0, 256 * j.val] : Fin 4 → ℕ) a + S1x1x64x256.size a ≤ S1x1x64x4096.size a := by
  intro a
  fin_cases a
  · show 0 + 1 ≤ 1; omega
  · show 0 + 1 ≤ 1; omega
  · show 0 + 64 ≤ 64; omega
  · show 256 * j.val + 256 ≤ 4096; omega

theorem values_inb (j : Fin 16) : ∀ a, (![0, 0, 0, 256 * j.val] : Fin 4 → ℕ) a + S1x1x64x256.size a ≤ S1x1x128x4096.size a := by
  intro a
  fin_cases a
  · show 0 + 1 ≤ 1; omega
  · show 0 + 1 ≤ 1; omega
  · show 0 + 64 ≤ 128; omega
  · show 256 * j.val + 256 ≤ 4096; omega

theorem rows_inb (j : Fin 16) : ∀ a, (![0, 0, 0, 256 * j.val] : Fin 4 → ℕ) a + S1x1x80x256.size a ≤ S1x1x128x4096.size a := by
  intro a
  fin_cases a
  · show 0 + 1 ≤ 1; omega
  · show 0 + 1 ≤ 1; omega
  · show 0 + 80 ≤ 128; omega
  · show 256 * j.val + 256 ≤ 4096; omega

/-- A chunk of keys, of values, and of values with the row of ones that follows them. -/
abbrev keysAt (x2 : Vec F S1x1x64x4096 .bf16) (j : Fin 16) : Vec F S1x1x64x256 .bf16 := View.ld x2 (Rect.unit _ S1x1x64x256.size (keys_inb j))
abbrev valuesAt (x3 : Vec F S1x1x128x4096 .bf16) (j : Fin 16) : Vec F S1x1x64x256 .bf16 := View.ld x3 (Rect.unit _ S1x1x64x256.size (values_inb j))
abbrev rowsAt (x3 : Vec F S1x1x128x4096 .bf16) (j : Fin 16) : Vec F S1x1x80x256 .bf16 := View.ld x3 (Rect.unit _ S1x1x80x256.size (rows_inb j))

/-- The four heads' queries side by side. -/
def queries (x1 : Vec F S1x4x64x512 .bf16) : FVec F S64x2048 .bf16 :=
  k0_pay330 (View.ld x1 (Rect.unit _ S1x1x64x512.size inb_S1x4x64x512_S1x1x64x512_0_0_0_0)) (View.ld x1 (Rect.unit _ S1x1x64x512.size inb_S1x4x64x512_S1x1x64x512_0_1_0_0))
    (View.ld x1 (Rect.unit _ S1x1x64x512.size inb_S1x4x64x512_S1x1x64x512_0_2_0_0)) (View.ld x1 (Rect.unit _ S1x1x64x512.size inb_S1x4x64x512_S1x1x64x512_0_3_0_0))

/-- One head's queries among them. -/
def headOf (q : FVec F S64x2048 .bf16) : Fin 4 → FVec F S64x512 .bf16
  | 0 => extractStridedSlice S64x512 ![0, 0] q slices_S64x2048_o0_0_S64x512
  | 1 => extractStridedSlice S64x512 ![0, 512] q slices_S64x2048_o0_512_S64x512
  | 2 => extractStridedSlice S64x512 ![0, 1024] q slices_S64x2048_o0_1024_S64x512
  | 3 => extractStridedSlice S64x512 ![0, 1536] q slices_S64x2048_o0_1536_S64x512

/-! ## Where the scores are bounded: head by head, no shift -/

/-- One chunk's scores of one head. -/
def scoresU (q : FVec F S64x512 .bf16) (k : Vec F S1x1x64x256 .bf16) : FVec F S256x512 .f32 :=
  matmul dot_S256x64_S64x512_S256x512_1_0_0_1_n_n none (k0_pay5 k) q (constant S256x512 .f32 0x00000000#32)

/-- The weighted sum of the values after chunk `n`, and the weights' sums by the key's remainder modulo eight. -/
def accU (q : FVec F S64x512 .bf16) (x2 : Vec F S1x1x64x4096 .bf16) (x3 : Vec F S1x1x128x4096 .bf16) : (n : ℕ) → n < 16 → FVec F S64x512 .f32
  | 0, h => k0_pay25 (scoresU q (keysAt x2 ⟨0, h⟩)) (valuesAt x3 ⟨0, h⟩)
  | n + 1, h => k0_pay48 (accU q x2 x3 n (Nat.lt_of_succ_lt h)) (scoresU q (keysAt x2 ⟨n + 1, h⟩)) (valuesAt x3 ⟨n + 1, h⟩)
def denU (q : FVec F S64x512 .bf16) (x2 : Vec F S1x1x64x4096 .bf16) : (n : ℕ) → n < 16 → FVec F S8x512 .f32
  | 0, h => k0_pay26 (scoresU q (keysAt x2 ⟨0, h⟩))
  | n + 1, h => k0_pay49 (denU q x2 n (Nat.lt_of_succ_lt h)) (scoresU q (keysAt x2 ⟨n + 1, h⟩))

/-- The four heads' sums side by side. -/
def accWide (q : FVec F S64x2048 .bf16) (x2 : Vec F S1x1x64x4096 .bf16) (x3 : Vec F S1x1x128x4096 .bf16) : FVec F S1x64x2048 .f32 :=
  shapeCast S1x64x2048 (concatenate S64x2048 1 [⟨S64x512, accU (headOf q 0) x2 x3 15 (by decide)⟩, ⟨S64x512, accU (headOf q 1) x2 x3 15 (by decide)⟩, ⟨S64x512, accU (headOf q 2) x2 x3 15 (by decide)⟩, ⟨S64x512, accU (headOf q 3) x2 x3 15 (by decide)⟩] concatenates_S64x512_S64x512_S64x512_S64x512_S64x2048_d1) shapeCasts_S64x2048_S1x64x2048
def denWide (q : FVec F S64x2048 .bf16) (x2 : Vec F S1x1x64x4096 .bf16) : FVec F S1x1x2048 .f32 :=
  k0_pay3 (shapeCast S1x2048 (multiReduction .add [0] S2048 (concatenate S8x2048 1 [⟨S8x512, denU (headOf q 0) x2 15 (by decide)⟩, ⟨S8x512, denU (headOf q 1) x2 15 (by decide)⟩, ⟨S8x512, denU (headOf q 2) x2 15 (by decide)⟩, ⟨S8x512, denU (headOf q 3) x2 15 (by decide)⟩] concatenates_S8x512_S8x512_S8x512_S8x512_S8x2048_d1) 0x00000000#32 reduces_S8x2048_S2048 (.inl rfl) rfl) shapeCasts_S2048_S1x2048)

/-! ## Where they are not: all heads at once, shifted by the running maximum -/

/-- One chunk's scores. -/
abbrev scoresS (q : FVec F S64x2048 .bf16) (k : Vec F S1x1x64x256 .bf16) : FVec F S256x2048 .f32 := k0_pay300 q k

/-- The greatest score of each query after chunk `n`. -/
def maxS (q : FVec F S64x2048 .bf16) (x2 : Vec F S1x1x64x4096 .bf16) : (n : ℕ) → n < 16 → FVec F S1x2048 .f32
  | 0, h => shapeCast S1x2048 (multiReduction .maximumf [0] S2048 (scoresS q (keysAt x2 ⟨0, h⟩)) 0xFF800000#32 reduces_S256x2048_S2048 (.inl rfl) rfl) shapeCasts_S2048_S1x2048
  | n + 1, h => k0_pay298 q (maxS q x2 n (Nat.lt_of_succ_lt h)) (keysAt x2 ⟨n + 1, h⟩)

/-- A chunk's weights through its values and their row of ones. -/
def pvS (s : FVec F S256x2048 .f32) (top : FVec F S1x2048 .f32) (v : Vec F S1x1x80x256 .bf16) : FVec F S80x2048 .f32 :=
  matmul dot_S80x256_S256x2048_S80x2048_1_0_0_1_n_n none (shapeCast S80x256 v shapeCasts_S1x1x80x256_S80x256)
    (truncf .bf16 (exp2 (subf s (broadcastTo S256x2048 top broadcasts_S1x2048_S256x2048))) bitsLt_bf16_f32) (constant S80x2048 .f32 0x00000000#32)

/-- The sums kept so far, moved from one maximum to the next, and a chunk's added. -/
def stepS (acc : FVec F S80x2048 .f32) (old top : FVec F S1x2048 .f32) (pv : FVec F S80x2048 .f32) : FVec F S80x2048 .f32 :=
  addf (mulf (broadcastTo S80x2048 (exp2 (subf old top)) broadcasts_S1x2048_S80x2048) acc) pv

/-- The shifted sums after chunk `n`. -/
def accS (q : FVec F S64x2048 .bf16) (x2 : Vec F S1x1x64x4096 .bf16) (x3 : Vec F S1x1x128x4096 .bf16) : (n : ℕ) → n < 16 → FVec F S80x2048 .f32
  | 0, h => pvS (scoresS q (keysAt x2 ⟨0, h⟩)) (maxS q x2 0 h) (rowsAt x3 ⟨0, h⟩)
  | n + 1, h => stepS (accS q x2 x3 n (Nat.lt_of_succ_lt h)) (maxS q x2 n (Nat.lt_of_succ_lt h)) (maxS q x2 (n + 1) h)
      (pvS (scoresS q (keysAt x2 ⟨n + 1, h⟩)) (maxS q x2 (n + 1) h) (rowsAt x3 ⟨n + 1, h⟩))

/-- The values' rows of the last sums, and their row of ones. -/
def accShift (q : FVec F S64x2048 .bf16) (x2 : Vec F S1x1x64x4096 .bf16) (x3 : Vec F S1x1x128x4096 .bf16) : FVec F S1x64x2048 .f32 :=
  shapeCast S1x64x2048 (extractStridedSlice S64x2048 ![0, 0] (accS q x2 x3 15 (by decide)) slices_S80x2048_o0_0_S64x2048) shapeCasts_S64x2048_S1x64x2048
def denShift (q : FVec F S64x2048 .bf16) (x2 : Vec F S1x1x64x4096 .bf16) (x3 : Vec F S1x1x128x4096 .bf16) : FVec F S1x1x2048 .f32 :=
  k0_pay4 (extractStridedSlice S1x2048 ![64, 0] (accS q x2 x3 15 (by decide)) slices_S80x2048_o64_0_S1x2048)

/-! ## The point -/

/-- Whether the bound on the scores says that no shift is needed. -/
def Bounded (x0 : Vec F S1 .f32) : Prop :=
  Scalar.cmpf .olt (View.ld x0 (Rect.unit ![0] ![1] inb_S1_S1_0) (Shape.Idx.first (by decide))) (FloatOps.ofBits .f32 1114636288#32) = 1#1

open Classical in
/-- The sums that a point leaves in its slots. -/
def accV (x0 : Vec F S1 .f32) (x1 : Vec F S1x4x64x512 .bf16) (x2 : Vec F S1x1x64x4096 .bf16) (x3 : Vec F S1x1x128x4096 .bf16) : FVec F S1x64x2048 .f32 :=
  if Bounded x0 then accWide (queries x1) x2 x3 else accShift (queries x1) x2 x3
open Classical in
def denV (x0 : Vec F S1 .f32) (x1 : Vec F S1x4x64x512 .bf16) (x2 : Vec F S1x1x64x4096 .bf16) (x3 : Vec F S1x1x128x4096 .bf16) : FVec F S1x1x2048 .f32 :=
  if Bounded x0 then denWide (queries x1) x2 else denShift (queries x1) x2 x3

/-- The output block from the sums found in the other slots, one head beside the other. -/
def band (a : Vec F S1x64x2048 .f32) (d : Vec F S1x1x2048 .f32) : Fin 4 → FVec F S1x512x64 .bf16
  | 0 => k0_pay43 a d
  | 1 => k0_pay44 a d
  | 2 => k0_pay45 a d
  | 3 => k0_pay46 a d
def outV (a : Vec F S1x64x2048 .f32) (d : Vec F S1x1x2048 .f32) : Vec F S1x512x256 .bf16 := fun x =>
  band a d ⟨(x 2).val / 64, by have : (x 2).val < 256 := (x 2).isLt; omega⟩ (ix3 (x 0) (x 1) ⟨(x 2).val % 64, Nat.mod_lt _ (by decide)⟩)

/-- The first point's test, decided by the point's coordinate. -/
theorem first_iff : ∀ i : grid0.Coords, Scalar.cmpi .ne (Scalar.extui (Scalar.cmpi .eq (BitVec.ofNat 32 (i 0).val) 0#32)) 0#32 = 1#1 ↔ (i 0).val = 0 := by decide +kernel

/-- The slot of a point's parity, and the other one. -/
theorem off_prev : ∀ i : grid0.Coords, k0_off1 i = ![((i 0).val + 1) % 2, 0, 0] ∧ k0_off2 i = ![((i 0).val + 1) % 2, 0, 0] ∧ k0_off5 i = ![((i 0).val + 1) % 2, 0, 0] ∧ k0_off6 i = ![((i 0).val + 1) % 2, 0, 0] := by decide +kernel
theorem off_cur : ∀ i : grid0.Coords, k0_off3 i = ![(i 0).val % 2, 0, 0] ∧ k0_off4 i = ![(i 0).val % 2, 0, 0] ∧ k0_off7 i = ![(i 0).val % 2, 0, 0] ∧ k0_off8 i = ![(i 0).val % 2, 0, 0] := by decide +kernel

/-- What a point finds in the other slots: what the first point puts there, else what is kept. -/
def foundA (i : grid0.Coords) (xs0 : Vec F S2x64x2048 .f32) : Vec F S1x64x2048 .f32 :=
  if (i 0).val = 0 then k0_pay1 else View.ld xs0 (Rect.unit (k0_off1 i) S1x64x2048.size (k0_off1_inb i))
def foundD (i : grid0.Coords) (xs1 : Vec F S2x1x2048 .f32) : Vec F S1x1x2048 .f32 :=
  if (i 0).val = 0 then k0_pay2 else View.ld xs1 (Rect.unit (k0_off2 i) S1x1x2048.size (k0_off2_inb i))

/-- The two tests on the bound exclude each other. -/
theorem tests_apart : ∀ b : BitVec 1, Iff (Scalar.cmpi .ne (Scalar.extui b) 0#32 = 1#1) (b = 1#1)
    ∧ Iff (Scalar.cmpi .ne (Scalar.extui (Scalar.xori b 1#1)) 0#32 = 1#1) (b ≠ 1#1) := by decide

/-- The output block at a column of one head's band. -/
theorem outV_band (a : Vec F S1x64x2048 .f32) (d : Vec F S1x1x2048 .f32) (x : S1x512x256.Idx) (r : Fin 4) (h : (x 2).val / 64 = r.val) :
    outV a d x = band a d r (ix3 (x 0) (x 1) ⟨(x 2).val % 64, Nat.mod_lt _ (by decide)⟩) := by
  have e : (⟨(x 2).val / 64, by have : (x 2).val < 256 := (x 2).isLt; omega⟩ : Fin 4) = r := Fin.ext h
  unfold outV; rw [e]

/-- A write of one band puts the block's columns there. -/
theorem band_in {κ : Kind} {sp : Space} (v : View sig κ sp S1x512x256 .bf16) (f : v.ty.Contents (Elt F)) (a : Vec F S1x64x2048 .f32) (d : Vec F S1x1x2048 .f32)
    (r : Fin 4) {off : Fin 3 → ℕ} (inb : ∀ k, off k + S1x512x64.size k ≤ S1x512x256.size k) (ho : off = ![0, 0, 64 * r.val])
    (L : List (View.Piece (Elt F) S1x512x256 .bf16)) (x : S1x512x256.Idx) (h : (x 2).val / 64 = r.val) :
    v.read (Elt F) (v.writes (Elt F) f (⟨Rect.unit off S1x512x64.size inb, band a d r⟩ :: L)) x = outV a d x := by
  rw [outV_band a d x r h]
  refine View.read_writes_cons_unit_of_mem v f inb (band a d r) L x _ ho fun k => ?_
  fin_cases k
  · exact (Nat.zero_add _).symm
  · exact (Nat.zero_add _).symm
  · show (x 2).val = 64 * r.val + (x 2).val % 64; omega

/-- And leaves the others. -/
theorem band_out {κ : Kind} {sp : Space} (v : View sig κ sp S1x512x256 .bf16) (f : v.ty.Contents (Elt F)) (w : FVec F S1x512x64 .bf16)
    (r : Fin 4) {off : Fin 3 → ℕ} (inb : ∀ k, off k + S1x512x64.size k ≤ S1x512x256.size k) (ho : off = ![0, 0, 64 * r.val])
    (L : List (View.Piece (Elt F) S1x512x256 .bf16)) (x : S1x512x256.Idx) (h : (x 2).val / 64 ≠ r.val) :
    v.read (Elt F) (v.writes (Elt F) f (⟨Rect.unit off S1x512x64.size inb, w⟩ :: L)) x = v.read (Elt F) (v.writes (Elt F) f L) x := by
  refine View.read_writes_cons_unit_of_not_mem v f inb w L x ho 2 ?_
  show (x 2).val < 64 * r.val ∨ 64 * r.val + 64 ≤ (x 2).val
  omega

/-- The four writes make up the block. -/
theorem bands {κ : Kind} {sp : Space} (v : View sig κ sp S1x512x256 .bf16) (f : v.ty.Contents (Elt F)) (a : Vec F S1x64x2048 .f32) (d : Vec F S1x1x2048 .f32)
    (i0 : ∀ k, (![0, 0, 0] : Fin 3 → ℕ) k + S1x512x64.size k ≤ S1x512x256.size k) (i1 : ∀ k, (![0, 0, 64] : Fin 3 → ℕ) k + S1x512x64.size k ≤ S1x512x256.size k)
    (i2 : ∀ k, (![0, 0, 128] : Fin 3 → ℕ) k + S1x512x64.size k ≤ S1x512x256.size k) (i3 : ∀ k, (![0, 0, 192] : Fin 3 → ℕ) k + S1x512x64.size k ≤ S1x512x256.size k) :
    v.read (Elt F) (v.writes (Elt F) f [⟨Rect.unit ![0, 0, 192] S1x512x64.size i3, band a d 3⟩, ⟨Rect.unit ![0, 0, 128] S1x512x64.size i2, band a d 2⟩, ⟨Rect.unit ![0, 0, 64] S1x512x64.size i1, band a d 1⟩, ⟨Rect.unit ![0, 0, 0] S1x512x64.size i0, band a d 0⟩]) = outV a d := by
  funext x
  have hx : (x 2).val < 256 := (x 2).isLt
  by_cases h3 : (x 2).val / 64 = 3
  · exact band_in v f a d 3 i3 rfl _ x h3
  refine (band_out v f _ 3 i3 rfl _ x h3).trans ?_
  by_cases h2 : (x 2).val / 64 = 2
  · exact band_in v f a d 2 i2 rfl _ x h2
  refine (band_out v f _ 2 i2 rfl _ x h2).trans ?_
  by_cases h1 : (x 2).val / 64 = 1
  · exact band_in v f a d 1 i1 rfl _ x h1
  refine (band_out v f _ 1 i1 rfl _ x h1).trans ?_
  exact band_in v f a d 0 i0 rfl _ x (by show (x 2).val / 64 = 0; omega)

section Run

variable (c : Dev nD) (i : grid0.Coords) (arg1 : Memref sig .tc .smem S1 .f32) (harg1 : arg1.IsWhole) (arg2 : Memref sig .tc .vmem S1x4x64x512 .bf16) (harg2 : arg2.IsWhole) (arg3 : Memref sig .tc .vmem S1x1x64x4096 .bf16) (harg3 : arg3.IsWhole) (arg4 : Memref sig .tc .vmem S1x1x128x4096 .bf16) (harg4 : arg4.IsWhole) (arg5 : Memref sig .tc .vmem S1x512x256 .bf16) (harg5 : arg5.IsWhole) (arg6 : Memref sig .tc .vmem S2x64x2048 .f32) (harg6 : arg6.IsWhole) (arg7 : Memref sig .tc .vmem S2x1x2048 .f32) (harg7 : arg7.IsWhole)
    (x0 : Vec F S1 .f32) (x1 : Vec F S1x4x64x512 .bf16) (x2 : Vec F S1x1x64x4096 .bf16) (x3 : Vec F S1x1x128x4096 .bf16)
    (xo : Vec F S1x512x256 .bf16) (xs0 : Vec F S2x64x2048 .f32) (xs1 : Vec F S2x1x2048 .f32)

/-- The run's names for the sums, where no shift is needed, -/
theorem wide_acc : k0_pay283 (bodyRun.sl.r_212 c arg2 harg2 arg3 harg3 arg4 harg4 x1 x2 x3) (bodyRun.sl.r_214 c arg2 harg2 arg3 harg3 x1 x2) (bodyRun.sl.r_215 c arg2 harg2 arg3 harg3 arg4 harg4 x1 x2 x3) (bodyRun.sl.r_217 c arg2 harg2 arg3 harg3 x1 x2) (bodyRun.sl.r_218 c arg2 harg2 arg3 harg3 arg4 harg4 x1 x2 x3) (bodyRun.sl.r_220 c arg2 harg2 arg3 harg3 x1 x2) (bodyRun.sl.r_221 c arg2 harg2 arg3 harg3 arg4 harg4 x1 x2 x3)
    (View.readAt (Elt F) arg4.view (Rect.unit (s := S1x1x128x4096) ![0, 0, 0, 3840] S1x1x64x256.size inb_S1x1x128x4096_S1x1x64x256_0_0_0_3840).toLoadRect (harg4.unread x3)) (View.readAt (Elt F) arg4.view (Rect.unit (s := S1x1x128x4096) ![0, 0, 0, 3840] S1x1x64x256.size inb_S1x1x128x4096_S1x1x64x256_0_0_0_3840).toLoadRect (harg4.unread x3)) (View.readAt (Elt F) arg4.view (Rect.unit (s := S1x1x128x4096) ![0, 0, 0, 3840] S1x1x64x256.size inb_S1x1x128x4096_S1x1x64x256_0_0_0_3840).toLoadRect (harg4.unread x3)) = accWide (queries x1) x2 x3 := by
  simp only [bodyRun.sl.r, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.r_103, bodyRun.sl.r_104, bodyRun.sl.r_105, bodyRun.sl.r_106, bodyRun.sl.r_107, bodyRun.sl.r_108, bodyRun.sl.r_109, bodyRun.sl.r_110, bodyRun.sl.r_111, bodyRun.sl.r_112, bodyRun.sl.r_113, bodyRun.sl.r_114, bodyRun.sl.r_115, bodyRun.sl.r_116, bodyRun.sl.r_117, bodyRun.sl.r_118, bodyRun.sl.r_119, bodyRun.sl.r_120, bodyRun.sl.r_121, bodyRun.sl.r_122, bodyRun.sl.r_123, bodyRun.sl.r_124, bodyRun.sl.r_125, bodyRun.sl.r_126, bodyRun.sl.r_127, bodyRun.sl.r_128, bodyRun.sl.r_129, bodyRun.sl.r_130, bodyRun.sl.r_131, bodyRun.sl.r_132, bodyRun.sl.r_133, bodyRun.sl.r_134, bodyRun.sl.r_135, bodyRun.sl.r_136, bodyRun.sl.r_137, bodyRun.sl.r_138, bodyRun.sl.r_139, bodyRun.sl.r_140, bodyRun.sl.r_141, bodyRun.sl.r_142, bodyRun.sl.r_143, bodyRun.sl.r_144, bodyRun.sl.r_145, bodyRun.sl.r_146, bodyRun.sl.r_147, bodyRun.sl.r_148, bodyRun.sl.r_149, bodyRun.sl.r_150, bodyRun.sl.r_151, bodyRun.sl.r_152, bodyRun.sl.r_153, bodyRun.sl.r_154, bodyRun.sl.r_155, bodyRun.sl.r_156, bodyRun.sl.r_157, bodyRun.sl.r_158, bodyRun.sl.r_159, bodyRun.sl.r_160, bodyRun.sl.r_161, bodyRun.sl.r_162, bodyRun.sl.r_163, bodyRun.sl.r_164, bodyRun.sl.r_165, bodyRun.sl.r_166, bodyRun.sl.r_167, bodyRun.sl.r_168, bodyRun.sl.r_169, bodyRun.sl.r_170, bodyRun.sl.r_171, bodyRun.sl.r_172, bodyRun.sl.r_173, bodyRun.sl.r_174, bodyRun.sl.r_175, bodyRun.sl.r_176, bodyRun.sl.r_177, bodyRun.sl.r_178, bodyRun.sl.r_179, bodyRun.sl.r_180, bodyRun.sl.r_181, bodyRun.sl.r_182, bodyRun.sl.r_183, bodyRun.sl.r_184, bodyRun.sl.r_185, bodyRun.sl.r_186, bodyRun.sl.r_187, bodyRun.sl.r_188, bodyRun.sl.r_189, bodyRun.sl.r_190, bodyRun.sl.r_191, bodyRun.sl.r_192, bodyRun.sl.r_193, bodyRun.sl.r_194, bodyRun.sl.r_195, bodyRun.sl.r_196, bodyRun.sl.r_197, bodyRun.sl.r_198, bodyRun.sl.r_199, bodyRun.sl.r_200, bodyRun.sl.r_201, bodyRun.sl.r_202, bodyRun.sl.r_203, bodyRun.sl.r_204, bodyRun.sl.r_205, bodyRun.sl.r_206, bodyRun.sl.r_207, bodyRun.sl.r_208, bodyRun.sl.r_209, bodyRun.sl.r_210, bodyRun.sl.r_211, bodyRun.sl.r_212, bodyRun.sl.r_213, bodyRun.sl.r_214, bodyRun.sl.r_215, bodyRun.sl.r_216, bodyRun.sl.r_217, bodyRun.sl.r_218, bodyRun.sl.r_219, bodyRun.sl.r_220, bodyRun.sl.r_221, bodyRun.sl.r_222, bodyRun.sl.r_223, bodyRun.sl.r_224, bodyRun.sl.r_225, bodyRun.sl.r_226, bodyRun.sl.r_227, bodyRun.sl.r_228, bodyRun.sl.r_229, bodyRun.sl.r_230, bodyRun.sl.r_231, bodyRun.sl.r_232, bodyRun.sl.r_233, bodyRun.sl.r_234, bodyRun.sl.r_235, bodyRun.sl.r_236, bodyRun.sl.r_237, bodyRun.sl.r_238, bodyRun.sl.r_239, bodyRun.sl.r_240, bodyRun.sl.r_241, bodyRun.sl.r_242, bodyRun.sl.r_243, bodyRun.sl.r_244, bodyRun.sl.r_245, bodyRun.sl.r_246, bodyRun.sl.r_247, bodyRun.sl.r_248, bodyRun.sl.r_249, bodyRun.sl.r_250, bodyRun.sl.r_251, bodyRun.sl.r_252, bodyRun.sl.r_253, bodyRun.sl.cst_44, bodyRun.sl.cst_78, View.readAt_eq_ld, harg2.read_unread, harg3.read_unread, harg4.read_unread]
  rfl

theorem wide_den : k0_pay3 (bodyRun.sl.r_223 c arg2 harg2 arg3 harg3 x1 x2) = denWide (queries x1) x2 := by
  simp only [bodyRun.sl.r, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.r_103, bodyRun.sl.r_104, bodyRun.sl.r_105, bodyRun.sl.r_106, bodyRun.sl.r_107, bodyRun.sl.r_108, bodyRun.sl.r_109, bodyRun.sl.r_110, bodyRun.sl.r_111, bodyRun.sl.r_112, bodyRun.sl.r_113, bodyRun.sl.r_114, bodyRun.sl.r_115, bodyRun.sl.r_116, bodyRun.sl.r_117, bodyRun.sl.r_118, bodyRun.sl.r_119, bodyRun.sl.r_120, bodyRun.sl.r_121, bodyRun.sl.r_122, bodyRun.sl.r_123, bodyRun.sl.r_124, bodyRun.sl.r_125, bodyRun.sl.r_126, bodyRun.sl.r_127, bodyRun.sl.r_128, bodyRun.sl.r_129, bodyRun.sl.r_130, bodyRun.sl.r_131, bodyRun.sl.r_132, bodyRun.sl.r_133, bodyRun.sl.r_134, bodyRun.sl.r_135, bodyRun.sl.r_136, bodyRun.sl.r_137, bodyRun.sl.r_138, bodyRun.sl.r_139, bodyRun.sl.r_140, bodyRun.sl.r_141, bodyRun.sl.r_142, bodyRun.sl.r_143, bodyRun.sl.r_144, bodyRun.sl.r_145, bodyRun.sl.r_146, bodyRun.sl.r_147, bodyRun.sl.r_148, bodyRun.sl.r_149, bodyRun.sl.r_150, bodyRun.sl.r_151, bodyRun.sl.r_152, bodyRun.sl.r_153, bodyRun.sl.r_154, bodyRun.sl.r_155, bodyRun.sl.r_156, bodyRun.sl.r_157, bodyRun.sl.r_158, bodyRun.sl.r_159, bodyRun.sl.r_160, bodyRun.sl.r_161, bodyRun.sl.r_162, bodyRun.sl.r_163, bodyRun.sl.r_164, bodyRun.sl.r_165, bodyRun.sl.r_166, bodyRun.sl.r_167, bodyRun.sl.r_168, bodyRun.sl.r_169, bodyRun.sl.r_170, bodyRun.sl.r_171, bodyRun.sl.r_172, bodyRun.sl.r_173, bodyRun.sl.r_174, bodyRun.sl.r_175, bodyRun.sl.r_176, bodyRun.sl.r_177, bodyRun.sl.r_178, bodyRun.sl.r_179, bodyRun.sl.r_180, bodyRun.sl.r_181, bodyRun.sl.r_182, bodyRun.sl.r_183, bodyRun.sl.r_184, bodyRun.sl.r_185, bodyRun.sl.r_186, bodyRun.sl.r_187, bodyRun.sl.r_188, bodyRun.sl.r_189, bodyRun.sl.r_190, bodyRun.sl.r_191, bodyRun.sl.r_192, bodyRun.sl.r_193, bodyRun.sl.r_194, bodyRun.sl.r_195, bodyRun.sl.r_196, bodyRun.sl.r_197, bodyRun.sl.r_198, bodyRun.sl.r_199, bodyRun.sl.r_200, bodyRun.sl.r_201, bodyRun.sl.r_202, bodyRun.sl.r_203, bodyRun.sl.r_204, bodyRun.sl.r_205, bodyRun.sl.r_206, bodyRun.sl.r_207, bodyRun.sl.r_208, bodyRun.sl.r_209, bodyRun.sl.r_210, bodyRun.sl.r_211, bodyRun.sl.r_212, bodyRun.sl.r_213, bodyRun.sl.r_214, bodyRun.sl.r_215, bodyRun.sl.r_216, bodyRun.sl.r_217, bodyRun.sl.r_218, bodyRun.sl.r_219, bodyRun.sl.r_220, bodyRun.sl.r_221, bodyRun.sl.r_222, bodyRun.sl.r_223, bodyRun.sl.r_224, bodyRun.sl.r_225, bodyRun.sl.r_226, bodyRun.sl.r_227, bodyRun.sl.r_228, bodyRun.sl.r_229, bodyRun.sl.r_230, bodyRun.sl.r_231, bodyRun.sl.r_232, bodyRun.sl.r_233, bodyRun.sl.r_234, bodyRun.sl.r_235, bodyRun.sl.r_236, bodyRun.sl.r_237, bodyRun.sl.r_238, bodyRun.sl.r_239, bodyRun.sl.r_240, bodyRun.sl.r_241, bodyRun.sl.r_242, bodyRun.sl.r_243, bodyRun.sl.r_244, bodyRun.sl.r_245, bodyRun.sl.r_246, bodyRun.sl.r_247, bodyRun.sl.r_248, bodyRun.sl.r_249, bodyRun.sl.r_250, bodyRun.sl.r_251, bodyRun.sl.r_252, bodyRun.sl.r_253, bodyRun.sl.cst_44, bodyRun.sl.cst_78, View.readAt_eq_ld, harg2.read_unread, harg3.read_unread]
  rfl

/-- and where it is. -/
theorem shift_acc : k0_pay329 (bodyRun.sl.r c arg2 harg2 x1) (bodyRun.sl.r_249 c arg2 harg2 arg3 harg3 x1 x2) (bodyRun.sl.r_250 c arg2 harg2 arg3 harg3 arg4 harg4 x1 x2 x3) (bodyRun.sl.r_251 c arg2 harg2 arg3 harg3 x1 x2) (bodyRun.sl.r_252 c arg2 harg2 arg3 harg3 x1 x2)
    (View.readAt (Elt F) arg4.view (Rect.unit (s := S1x1x128x4096) ![0, 0, 0, 3584] S1x1x80x256.size inb_S1x1x128x4096_S1x1x80x256_0_0_0_3584).toLoadRect (harg4.unread x3))
    (View.readAt (Elt F) arg3.view (Rect.unit (s := S1x1x64x4096) ![0, 0, 0, 3840] S1x1x64x256.size inb_S1x1x64x4096_S1x1x64x256_0_0_0_3840).toLoadRect (harg3.unread x2))
    (View.readAt (Elt F) arg4.view (Rect.unit (s := S1x1x128x4096) ![0, 0, 0, 3840] S1x1x80x256.size inb_S1x1x128x4096_S1x1x80x256_0_0_0_3840).toLoadRect (harg4.unread x3)) = accShift (queries x1) x2 x3 := by
  simp only [bodyRun.sl.r, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.r_103, bodyRun.sl.r_104, bodyRun.sl.r_105, bodyRun.sl.r_106, bodyRun.sl.r_107, bodyRun.sl.r_108, bodyRun.sl.r_109, bodyRun.sl.r_110, bodyRun.sl.r_111, bodyRun.sl.r_112, bodyRun.sl.r_113, bodyRun.sl.r_114, bodyRun.sl.r_115, bodyRun.sl.r_116, bodyRun.sl.r_117, bodyRun.sl.r_118, bodyRun.sl.r_119, bodyRun.sl.r_120, bodyRun.sl.r_121, bodyRun.sl.r_122, bodyRun.sl.r_123, bodyRun.sl.r_124, bodyRun.sl.r_125, bodyRun.sl.r_126, bodyRun.sl.r_127, bodyRun.sl.r_128, bodyRun.sl.r_129, bodyRun.sl.r_130, bodyRun.sl.r_131, bodyRun.sl.r_132, bodyRun.sl.r_133, bodyRun.sl.r_134, bodyRun.sl.r_135, bodyRun.sl.r_136, bodyRun.sl.r_137, bodyRun.sl.r_138, bodyRun.sl.r_139, bodyRun.sl.r_140, bodyRun.sl.r_141, bodyRun.sl.r_142, bodyRun.sl.r_143, bodyRun.sl.r_144, bodyRun.sl.r_145, bodyRun.sl.r_146, bodyRun.sl.r_147, bodyRun.sl.r_148, bodyRun.sl.r_149, bodyRun.sl.r_150, bodyRun.sl.r_151, bodyRun.sl.r_152, bodyRun.sl.r_153, bodyRun.sl.r_154, bodyRun.sl.r_155, bodyRun.sl.r_156, bodyRun.sl.r_157, bodyRun.sl.r_158, bodyRun.sl.r_159, bodyRun.sl.r_160, bodyRun.sl.r_161, bodyRun.sl.r_162, bodyRun.sl.r_163, bodyRun.sl.r_164, bodyRun.sl.r_165, bodyRun.sl.r_166, bodyRun.sl.r_167, bodyRun.sl.r_168, bodyRun.sl.r_169, bodyRun.sl.r_170, bodyRun.sl.r_171, bodyRun.sl.r_172, bodyRun.sl.r_173, bodyRun.sl.r_174, bodyRun.sl.r_175, bodyRun.sl.r_176, bodyRun.sl.r_177, bodyRun.sl.r_178, bodyRun.sl.r_179, bodyRun.sl.r_180, bodyRun.sl.r_181, bodyRun.sl.r_182, bodyRun.sl.r_183, bodyRun.sl.r_184, bodyRun.sl.r_185, bodyRun.sl.r_186, bodyRun.sl.r_187, bodyRun.sl.r_188, bodyRun.sl.r_189, bodyRun.sl.r_190, bodyRun.sl.r_191, bodyRun.sl.r_192, bodyRun.sl.r_193, bodyRun.sl.r_194, bodyRun.sl.r_195, bodyRun.sl.r_196, bodyRun.sl.r_197, bodyRun.sl.r_198, bodyRun.sl.r_199, bodyRun.sl.r_200, bodyRun.sl.r_201, bodyRun.sl.r_202, bodyRun.sl.r_203, bodyRun.sl.r_204, bodyRun.sl.r_205, bodyRun.sl.r_206, bodyRun.sl.r_207, bodyRun.sl.r_208, bodyRun.sl.r_209, bodyRun.sl.r_210, bodyRun.sl.r_211, bodyRun.sl.r_212, bodyRun.sl.r_213, bodyRun.sl.r_214, bodyRun.sl.r_215, bodyRun.sl.r_216, bodyRun.sl.r_217, bodyRun.sl.r_218, bodyRun.sl.r_219, bodyRun.sl.r_220, bodyRun.sl.r_221, bodyRun.sl.r_222, bodyRun.sl.r_223, bodyRun.sl.r_224, bodyRun.sl.r_225, bodyRun.sl.r_226, bodyRun.sl.r_227, bodyRun.sl.r_228, bodyRun.sl.r_229, bodyRun.sl.r_230, bodyRun.sl.r_231, bodyRun.sl.r_232, bodyRun.sl.r_233, bodyRun.sl.r_234, bodyRun.sl.r_235, bodyRun.sl.r_236, bodyRun.sl.r_237, bodyRun.sl.r_238, bodyRun.sl.r_239, bodyRun.sl.r_240, bodyRun.sl.r_241, bodyRun.sl.r_242, bodyRun.sl.r_243, bodyRun.sl.r_244, bodyRun.sl.r_245, bodyRun.sl.r_246, bodyRun.sl.r_247, bodyRun.sl.r_248, bodyRun.sl.r_249, bodyRun.sl.r_250, bodyRun.sl.r_251, bodyRun.sl.r_252, bodyRun.sl.r_253, bodyRun.sl.cst_44, bodyRun.sl.cst_78, View.readAt_eq_ld, harg2.read_unread, harg3.read_unread, harg4.read_unread]
  rfl

theorem shift_den : k0_pay4 (bodyRun.sl.r_253 c arg2 harg2 arg3 harg3 arg4 harg4 x1 x2 x3) = denShift (queries x1) x2 x3 := by
  simp only [bodyRun.sl.r, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_30, bodyRun.sl.r_31, bodyRun.sl.r_32, bodyRun.sl.r_33, bodyRun.sl.r_34, bodyRun.sl.r_35, bodyRun.sl.r_36, bodyRun.sl.r_37, bodyRun.sl.r_38, bodyRun.sl.r_39, bodyRun.sl.r_40, bodyRun.sl.r_41, bodyRun.sl.r_42, bodyRun.sl.r_43, bodyRun.sl.r_44, bodyRun.sl.r_45, bodyRun.sl.r_46, bodyRun.sl.r_47, bodyRun.sl.r_48, bodyRun.sl.r_49, bodyRun.sl.r_50, bodyRun.sl.r_51, bodyRun.sl.r_52, bodyRun.sl.r_53, bodyRun.sl.r_54, bodyRun.sl.r_55, bodyRun.sl.r_56, bodyRun.sl.r_57, bodyRun.sl.r_58, bodyRun.sl.r_59, bodyRun.sl.r_60, bodyRun.sl.r_61, bodyRun.sl.r_62, bodyRun.sl.r_63, bodyRun.sl.r_64, bodyRun.sl.r_65, bodyRun.sl.r_66, bodyRun.sl.r_67, bodyRun.sl.r_68, bodyRun.sl.r_69, bodyRun.sl.r_70, bodyRun.sl.r_71, bodyRun.sl.r_72, bodyRun.sl.r_73, bodyRun.sl.r_74, bodyRun.sl.r_75, bodyRun.sl.r_76, bodyRun.sl.r_77, bodyRun.sl.r_78, bodyRun.sl.r_79, bodyRun.sl.r_80, bodyRun.sl.r_81, bodyRun.sl.r_82, bodyRun.sl.r_83, bodyRun.sl.r_84, bodyRun.sl.r_85, bodyRun.sl.r_86, bodyRun.sl.r_87, bodyRun.sl.r_88, bodyRun.sl.r_89, bodyRun.sl.r_90, bodyRun.sl.r_91, bodyRun.sl.r_92, bodyRun.sl.r_93, bodyRun.sl.r_94, bodyRun.sl.r_95, bodyRun.sl.r_96, bodyRun.sl.r_97, bodyRun.sl.r_98, bodyRun.sl.r_99, bodyRun.sl.r_100, bodyRun.sl.r_101, bodyRun.sl.r_102, bodyRun.sl.r_103, bodyRun.sl.r_104, bodyRun.sl.r_105, bodyRun.sl.r_106, bodyRun.sl.r_107, bodyRun.sl.r_108, bodyRun.sl.r_109, bodyRun.sl.r_110, bodyRun.sl.r_111, bodyRun.sl.r_112, bodyRun.sl.r_113, bodyRun.sl.r_114, bodyRun.sl.r_115, bodyRun.sl.r_116, bodyRun.sl.r_117, bodyRun.sl.r_118, bodyRun.sl.r_119, bodyRun.sl.r_120, bodyRun.sl.r_121, bodyRun.sl.r_122, bodyRun.sl.r_123, bodyRun.sl.r_124, bodyRun.sl.r_125, bodyRun.sl.r_126, bodyRun.sl.r_127, bodyRun.sl.r_128, bodyRun.sl.r_129, bodyRun.sl.r_130, bodyRun.sl.r_131, bodyRun.sl.r_132, bodyRun.sl.r_133, bodyRun.sl.r_134, bodyRun.sl.r_135, bodyRun.sl.r_136, bodyRun.sl.r_137, bodyRun.sl.r_138, bodyRun.sl.r_139, bodyRun.sl.r_140, bodyRun.sl.r_141, bodyRun.sl.r_142, bodyRun.sl.r_143, bodyRun.sl.r_144, bodyRun.sl.r_145, bodyRun.sl.r_146, bodyRun.sl.r_147, bodyRun.sl.r_148, bodyRun.sl.r_149, bodyRun.sl.r_150, bodyRun.sl.r_151, bodyRun.sl.r_152, bodyRun.sl.r_153, bodyRun.sl.r_154, bodyRun.sl.r_155, bodyRun.sl.r_156, bodyRun.sl.r_157, bodyRun.sl.r_158, bodyRun.sl.r_159, bodyRun.sl.r_160, bodyRun.sl.r_161, bodyRun.sl.r_162, bodyRun.sl.r_163, bodyRun.sl.r_164, bodyRun.sl.r_165, bodyRun.sl.r_166, bodyRun.sl.r_167, bodyRun.sl.r_168, bodyRun.sl.r_169, bodyRun.sl.r_170, bodyRun.sl.r_171, bodyRun.sl.r_172, bodyRun.sl.r_173, bodyRun.sl.r_174, bodyRun.sl.r_175, bodyRun.sl.r_176, bodyRun.sl.r_177, bodyRun.sl.r_178, bodyRun.sl.r_179, bodyRun.sl.r_180, bodyRun.sl.r_181, bodyRun.sl.r_182, bodyRun.sl.r_183, bodyRun.sl.r_184, bodyRun.sl.r_185, bodyRun.sl.r_186, bodyRun.sl.r_187, bodyRun.sl.r_188, bodyRun.sl.r_189, bodyRun.sl.r_190, bodyRun.sl.r_191, bodyRun.sl.r_192, bodyRun.sl.r_193, bodyRun.sl.r_194, bodyRun.sl.r_195, bodyRun.sl.r_196, bodyRun.sl.r_197, bodyRun.sl.r_198, bodyRun.sl.r_199, bodyRun.sl.r_200, bodyRun.sl.r_201, bodyRun.sl.r_202, bodyRun.sl.r_203, bodyRun.sl.r_204, bodyRun.sl.r_205, bodyRun.sl.r_206, bodyRun.sl.r_207, bodyRun.sl.r_208, bodyRun.sl.r_209, bodyRun.sl.r_210, bodyRun.sl.r_211, bodyRun.sl.r_212, bodyRun.sl.r_213, bodyRun.sl.r_214, bodyRun.sl.r_215, bodyRun.sl.r_216, bodyRun.sl.r_217, bodyRun.sl.r_218, bodyRun.sl.r_219, bodyRun.sl.r_220, bodyRun.sl.r_221, bodyRun.sl.r_222, bodyRun.sl.r_223, bodyRun.sl.r_224, bodyRun.sl.r_225, bodyRun.sl.r_226, bodyRun.sl.r_227, bodyRun.sl.r_228, bodyRun.sl.r_229, bodyRun.sl.r_230, bodyRun.sl.r_231, bodyRun.sl.r_232, bodyRun.sl.r_233, bodyRun.sl.r_234, bodyRun.sl.r_235, bodyRun.sl.r_236, bodyRun.sl.r_237, bodyRun.sl.r_238, bodyRun.sl.r_239, bodyRun.sl.r_240, bodyRun.sl.r_241, bodyRun.sl.r_242, bodyRun.sl.r_243, bodyRun.sl.r_244, bodyRun.sl.r_245, bodyRun.sl.r_246, bodyRun.sl.r_247, bodyRun.sl.r_248, bodyRun.sl.r_249, bodyRun.sl.r_250, bodyRun.sl.r_251, bodyRun.sl.r_252, bodyRun.sl.r_253, bodyRun.sl.cst_44, bodyRun.sl.cst_78, View.readAt_eq_ld, harg2.read_unread, harg3.read_unread, harg4.read_unread]
  rfl

/-- The run's tests on the bound. -/
theorem test_wide : Iff (Scalar.cmpi .ne (Scalar.extui (Scalar.cmpf .olt (bodyRun.sl.r_1 c arg1 harg1 x0) (FloatOps.ofBits .f32 1114636288#32))) 0#32 = 1#1) (Bounded x0) := by
  unfold bodyRun.sl.r_1 Bounded
  rw [View.readAt_eq_ld, harg1.read_unread]
  exact (tests_apart _).1

theorem test_shift : Iff (Scalar.cmpi .ne (Scalar.extui (Scalar.xori (Scalar.cmpf .olt (bodyRun.sl.r_1 c arg1 harg1 x0) (FloatOps.ofBits .f32 1114636288#32)) 1#1)) 0#32 = 1#1) (¬ Bounded x0) := by
  unfold bodyRun.sl.r_1 Bounded
  rw [View.readAt_eq_ld, harg1.read_unread]
  exact (tests_apart _).2

/-- At the first point the previous tile's slot is the second one. -/
theorem first_slot (h : (i 0).val = 0) : (![1, 0, 0] : Fin 3 → ℕ) = k0_off1 i ∧ (![1, 0, 0] : Fin 3 → ℕ) = k0_off2 i ∧ (![1, 0, 0] : Fin 3 → ℕ) = k0_off5 i ∧ (![1, 0, 0] : Fin 3 → ℕ) = k0_off6 i := by
  obtain ⟨h1, h2, h5, h6⟩ := off_prev i
  rw [h1, h2, h5, h6, h]; exact ⟨rfl, rfl, rfl, rfl⟩

/-- The loads of the previous tile's slots read what the point finds there. -/
theorem wide_foundA : bodyRun.sl.v133 c i arg6 harg6 xs0 = foundA i xs0 := by
  unfold bodyRun.sl.v133 foundA
  rw [View.readAt_eq_ld]
  by_cases h : (i 0).val = 0
  · rw [dif_pos ((first_iff i).2 h), if_pos h]
    exact Slots.ld_written _ _ _ _ (first_slot i h).1 _ _
  · rw [dif_neg (fun e => h ((first_iff i).1 e)), if_neg h, harg6.read_unread]

theorem wide_foundD : bodyRun.sl.v136 c i arg7 harg7 xs1 = foundD i xs1 := by
  unfold bodyRun.sl.v136 foundD
  rw [View.readAt_eq_ld]
  by_cases h : (i 0).val = 0
  · rw [dif_pos ((first_iff i).2 h), if_pos h]
    exact Slots.ld_written _ _ _ _ (first_slot i h).2.1 _ _
  · rw [dif_neg (fun e => h ((first_iff i).1 e)), if_neg h, harg7.read_unread]

theorem shift_foundA (hb : ¬ Bounded x0) : bodyRun.sl.v41 c i arg1 harg1 arg2 harg2 arg3 harg3 arg4 harg4 arg6 harg6 x0 x1 x2 x3 xs0 = foundA i xs0 := by
  unfold bodyRun.sl.v41 foundA
  rw [View.readAt_eq_ld, dif_neg (fun e => hb ((test_wide c arg1 harg1 x0).1 e))]
  by_cases h : (i 0).val = 0
  · rw [dif_pos ((first_iff i).2 h), if_pos h]
    exact Slots.ld_written _ _ _ _ (first_slot i h).2.2.1 _ _
  · rw [dif_neg (fun e => h ((first_iff i).1 e)), if_neg h, harg6.read_unread]
    exact Slots.ld_respell _ _ _ ((off_prev i).2.2.1.trans (off_prev i).1.symm)

theorem shift_foundD (hb : ¬ Bounded x0) : bodyRun.sl.v44 c i arg1 harg1 arg2 harg2 arg3 harg3 arg7 harg7 x0 x1 x2 xs1 = foundD i xs1 := by
  unfold bodyRun.sl.v44 foundD
  rw [View.readAt_eq_ld, dif_neg (fun e => hb ((test_wide c arg1 harg1 x0).1 e))]
  by_cases h : (i 0).val = 0
  · rw [dif_pos ((first_iff i).2 h), if_pos h]
    exact Slots.ld_written _ _ _ _ (first_slot i h).2.2.2 _ _
  · rw [dif_neg (fun e => h ((first_iff i).1 e)), if_neg h, harg7.read_unread]
    exact Slots.ld_respell _ _ _ ((off_prev i).2.2.2.trans (off_prev i).2.1.symm)

/-- The output block the point leaves. -/
theorem run_out : (bodyRun c i arg1 harg1 arg2 harg2 arg3 harg3 arg4 harg4 arg5 harg5 arg6 harg6 arg7 harg7 x0 x1 x2 x3 xo xs0 xs1).1 = outV (foundA i xs0) (foundD i xs1) := by
  unfold bodyRun; dsimp only
  by_cases hb : Bounded x0
  · rw [dif_neg (fun e => (test_shift c arg1 harg1 x0).1 e hb), dif_pos ((test_wide c arg1 harg1 x0).2 hb), wide_foundA, wide_foundD]
    exact bands _ _ _ _ _ _ _ _
  · rw [dif_pos ((test_shift c arg1 harg1 x0).2 hb), shift_foundA (hb := hb), shift_foundD (hb := hb)]
    exact bands _ _ _ _ _ _ _ _

/-- And the current tile's slots, as it leaves them. -/
theorem run_acc : View.ld (bodyRun c i arg1 harg1 arg2 harg2 arg3 harg3 arg4 harg4 arg5 harg5 arg6 harg6 arg7 harg7 x0 x1 x2 x3 xo xs0 xs1).2.1 (Rect.unit (k0_off3 i) S1x64x2048.size (k0_off3_inb i)) = accV x0 x1 x2 x3 := by
  unfold bodyRun accV; dsimp only
  by_cases hb : Bounded x0
  · rw [dif_neg (fun e => (test_shift c arg1 harg1 x0).1 e hb), dif_pos ((test_wide c arg1 harg1 x0).2 hb), if_pos hb, wide_acc]
    exact Slots.ld_written _ _ _ _ rfl _ _
  · rw [dif_pos ((test_shift c arg1 harg1 x0).2 hb), if_neg hb, shift_acc]
    exact Slots.ld_written _ _ _ _ ((off_cur i).2.2.1.trans (off_cur i).1.symm) _ _

theorem run_den : View.ld (bodyRun c i arg1 harg1 arg2 harg2 arg3 harg3 arg4 harg4 arg5 harg5 arg6 harg6 arg7 harg7 x0 x1 x2 x3 xo xs0 xs1).2.2.1 (Rect.unit (k0_off4 i) S1x1x2048.size (k0_off4_inb i)) = denV x0 x1 x2 x3 := by
  unfold bodyRun denV; dsimp only
  by_cases hb : Bounded x0
  · rw [dif_neg (fun e => (test_shift c arg1 harg1 x0).1 e hb), dif_pos ((test_wide c arg1 harg1 x0).2 hb), if_pos hb, wide_den]
    exact Slots.ld_written _ _ _ _ rfl _ _
  · rw [dif_pos ((test_shift c arg1 harg1 x0).2 hb), if_neg hb, shift_den]
    exact Slots.ld_written _ _ _ _ ((off_cur i).2.2.2.trans (off_cur i).2.1.symm) _ _

end Run

end Cert.KernelIdeal.Attn

end
-- ==== Proof.Attn.KernelIdealKept.lean ====
module

public import proofs.«01_k».proof.Proof.Attn.KernelIdealFrame
public import proofs.«01_k».proof.Proof.Attn.KernelIdealSpec

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The attention's run, with what its buffers hold between points -/

/-- A point's one coordinate is its number. -/
theorem coord_val : ∀ t : Fin cfg0.N, (grid0.coords t 0).val = t.val := by decide +kernel

/-- The point before. -/
abbrev before (t : Fin cfg0.N) : Fin cfg0.N := ⟨t.val - 1, (Nat.sub_le _ _).trans_lt t.isLt⟩

/-- The sums of a point, from its blocks. -/
def keptA (c : Dev nD) (t : Fin cfg0.N) : FVec F S1x64x2048 .f32 := accV (iblk m c 0 t) (iblk m c 1 t) (iblk m c 2 t) (iblk m c 3 t)
def keptD (c : Dev nD) (t : Fin cfg0.N) : FVec F S1x1x2048 .f32 := denV (iblk m c 0 t) (iblk m c 1 t) (iblk m c 2 t) (iblk m c 3 t)

/-- What a point's output block holds after it: the quotient of the point before's sums (of zeros and ones at the first). -/
def outAt (c : Dev nD) (t : Fin cfg0.N) : Vec F S1x512x256 .bf16 :=
  if t.val = 0 then outV k0_pay1 k0_pay2 else outV (keptA m c (before t)) (keptD m c (before t))

/-- The scratch buffers before point `n`: both hold the sums of the point before in its slot. -/
def Kept (c : Dev nD) (n : ℕ) (d0 : Vec F S2x64x2048 .f32) (d1 : Vec F S2x1x2048 .f32) : Prop :=
  ∀ p : Fin cfg0.N, p.val + 1 = n →
    View.ld d0 (Rect.unit (k0_off3 (grid0.coords p)) S1x64x2048.size (k0_off3_inb _)) = keptA m c p
    ∧ View.ld d1 (Rect.unit (k0_off4 (grid0.coords p)) S1x1x2048.size (k0_off4_inb _)) = keptD m c p

/-- A point's output from what it finds in the slots. -/
theorem out_found (c : Dev nD) (t : Fin cfg0.N) (d0 : Vec F S2x64x2048 .f32) (d1 : Vec F S2x1x2048 .f32) (h : Kept m c t.val d0 d1) :
    outV (foundA (grid0.coords t) d0) (foundD (grid0.coords t) d1) = outAt m c t := by
  unfold outAt foundA foundD
  rw [coord_val]
  by_cases h0 : t.val = 0
  · rw [if_pos h0, if_pos h0, if_pos h0]
  · rw [if_neg h0, if_neg h0, if_neg h0]
    obtain ⟨hx, hb⟩ := h (before t) (by show t.val - 1 + 1 = t.val; omega)
    have par : ![(t.val + 1) % 2, 0, 0] = ![(t.val - 1) % 2, 0, 0] := by
      have : (t.val + 1) % 2 = (t.val - 1) % 2 := by omega
      rw [this]
    have ha : k0_off1 (grid0.coords t) = k0_off3 (grid0.coords (before t)) := by
      rw [(off_prev _).1, (off_cur _).1, coord_val, coord_val]; exact par
    have hd : k0_off2 (grid0.coords t) = k0_off4 (grid0.coords (before t)) := by
      rw [(off_prev _).2.1, (off_cur _).2.1, coord_val, coord_val]; exact par
    rw [Slots.ld_respell d0 _ (k0_off3_inb _) ha, Slots.ld_respell d1 _ (k0_off4_inb _) hd, hx, hb]

/-! ## The proof data -/

/-- Every input's block stays in place, the output's block is `outAt`, the scratch buffers keep the last sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := iprop((∃ d0 d1, owns (c : Thread nD τ) accM fullShare d0 ∗ owns (c : Thread nD τ) denM fullShare d1 ∗ ⌜Kept m c t.val d0 d1⌝) ∗ (∃ r, prngReg c r))
  q _ := fullShare
  owed _ := 0

theorem dats_A (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (dats_A m c 0) (after0 m c) t d

theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (dats_A m c 1) (after1 m c) t d

theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (dats_A m c 2) (after2 m c) t d

theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (dats_A m c 3) (after3 m c) t d

theorem after4 (c : Dev nD) (t : Fin cfg0.N) : (dats m 0 c).after 4 t = outAt m c t := by dsimp only [dats]

theorem state_eq (c : Dev nD) (t : Fin (cfg0.N + 1)) : (dats m 0 c).Φ t =
    iprop((∃ d0 d1, owns (c : Thread nD τ) accM fullShare d0 ∗ owns (c : Thread nD τ) denM fullShare d1 ∗ ⌜Kept m c t.val d0 d1⌝) ∗ (∃ r, prngReg c r)) := rfl

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
/-- The body at any point, from its one run. -/
theorem body_at (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4, state_eq, state_eq]
  iintro ⟨⟨⟨%s0, %s1, HS0, HS1, %hk⟩, Hg⟩, Ho, ⟨%d0, H0⟩, ⟨%d1, H1⟩, ⟨%d2, H2⟩, ⟨%d3, H3⟩, ⟨%d4, H4⟩⟩
  have hout := (run_out c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) accM (Memref.isWhole_whole _) denM (Memref.isWhole_whole _) (iblk m c 0 t) (iblk m c 1 t) (iblk m c 2 t) (iblk m c 3 t) ((dats m 0 c).before 4 t d4) s0 s1).trans (out_found m c t s0 s1 hk)
  have hacc := run_acc c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) accM (Memref.isWhole_whole _) denM (Memref.isWhole_whole _) (iblk m c 0 t) (iblk m c 1 t) (iblk m c 2 t) (iblk m c 3 t) ((dats m 0 c).before 4 t d4) s0 s1
  have hden := run_den c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) accM (Memref.isWhole_whole _) denM (Memref.isWhole_whole _) (iblk m c 0 t) (iblk m c 1 t) (iblk m c 2 t) (iblk m c 3 t) ((dats m 0 c).before 4 t d4) s0 s1
  iapply ((bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) accM (Memref.isWhole_whole _) denM (Memref.isWhole_whole _) (iblk m c 0 t) (iblk m c 1 t) (iblk m c 2 t) (iblk m c 3 t) ((dats m 0 c).before 4 t d4) s0 s1).2.2.2 Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · iexists _, _
      isplitl [HS0]; · iexact HS0
      isplitl [HS1]; · iexact HS1
      ipureintro
      intro p hp
      obtain rfl : p = t := Fin.ext (by have : p.val + 1 = t.val + 1 := hp; omega)
      exact ⟨hacc, hden⟩
    iexact Hg
  isplitl [Ho]; · iexact Ho
  isplitl [H0]; · iexact H0
  isplitl [H1]; · iexact H1
  isplitl [H2]; · iexact H2
  isplitl [H3]; · iexact H3
  iapply (Idealize.SL.BI.BIBase.Entails.of_eq (congrArg (fun y => owns (c : Thread nD τ) (st0_4 t) fullShare y) hout)); iexact H4

theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

theorem enter (c : Dev nD) : Pipeline.ΦA spec0 c ⊢ (dats (F := F) m 0 c).Φ 0 := by
  rw [rest_eq, state_eq]
  iintro ⟨⟨⟨%d0, H0⟩, ⟨%d1, H1⟩⟩, Hg⟩
  isplitl [H0 H1]
  · iexists d0, d1
    isplitl [H0]; · iexact H0
    isplitl [H1]; · iexact H1
    ipureintro
    intro p hp
    exact absurd hp (by show p.val + 1 ≠ 0; omega)
  iexact Hg

theorem leave (c : Dev nD) : (dats (F := F) m 0 c).Φ (Fin.last cfg0.N) ⊢ Pipeline.ΦA spec0 c := by
  rw [rest_eq, state_eq]
  iintro ⟨⟨%d0, %d1, H0, H1, -⟩, Hg⟩
  isplitl [H0 H1]
  · isplitl [H0]
    · iexists d0; iexact H0
    iexists d1; iexact H1
  iexact Hg

set_option backward.isDefEq.respectTransparency.types false in
/-- The launch: every window's array at its contents after every write-back, and every counter at zero. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hin := enter m) (hout := leave m)

/-- The argument arrays end as launched. -/
theorem args_of (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(((h c).1 0).trans ((dats m 0 c).arrAt_in 0 rfl _)).trans (dats_A m c 0), (((h c).1 1).trans ((dats m 0 c).arrAt_in 1 rfl _)).trans (dats_A m c 1), (((h c).1 2).trans ((dats m 0 c).arrAt_in 2 rfl _)).trans (dats_A m c 2), (((h c).1 3).trans ((dats m 0 c).arrAt_in 3 rfl _)).trans (dats_A m c 3)⟩

end Cert.KernelIdeal.Attn

end
-- ==== Proof.Attn.KernelIdealBlocks.lean ====
module

public import proofs.«01_k».proof.Proof.Attn.KernelIdealKept

@[expose] public section

set_option maxRecDepth 16384

noncomputable section

/-! # Which parts of the call's arguments a point's blocks are -/

namespace Cert.KernelIdeal.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The call's arguments on a device. -/
abbrev arg0 (c : Dev nD) : FVec Ideal S1 .f32 := m ((c.tc : Thread nD τ).loc main_arg0)
abbrev arg1 (c : Dev nD) : FVec Ideal S8x8x64x4096 .bf16 := m ((c.tc : Thread nD τ).loc main_arg1)
abbrev arg2 (c : Dev nD) : FVec Ideal S8x2x64x4096 .bf16 := m ((c.tc : Thread nD τ).loc main_arg2)
abbrev arg3 (c : Dev nD) : FVec Ideal S8x2x128x4096 .bf16 := m ((c.tc : Thread nD τ).loc main_arg3)

/-! ## Where a point's blocks lie -/

theorem index1 : ∀ t : Fin grid0.N, win0_1.index t 0 = min t.val 127 / 16 ∧ win0_1.index t 1 = min t.val 127 / 8 % 2
    ∧ win0_1.index t 2 = 0 ∧ win0_1.index t 3 = min t.val 127 % 8 := by decide +kernel
theorem index2 : ∀ t : Fin grid0.N, win0_2.index t 0 = min t.val 127 / 16 ∧ win0_2.index t 1 = min t.val 127 / 8 % 2
    ∧ win0_2.index t 2 = 0 ∧ win0_2.index t 3 = 0 := by decide +kernel
theorem index3 : ∀ t : Fin grid0.N, win0_3.index t 0 = min t.val 127 / 16 ∧ win0_3.index t 1 = min t.val 127 / 8 % 2
    ∧ win0_3.index t 2 = 0 ∧ win0_3.index t 3 = 0 := by decide +kernel
theorem index4 : ∀ t : Fin grid0.N, win0_4.index t 0 = (t.val - 1) / 16 ∧ win0_4.index t 1 = (t.val - 1) % 8
    ∧ win0_4.index t 2 = (t.val - 1) / 8 % 2 := by decide +kernel
theorem flush4 : ∀ t : Fin grid0.N, (cfg0.win 4).flush t = true ↔ 1 ≤ t.val := by decide +kernel

theorem points : ∀ t : Fin cfg0.N, t.val < 129 := fun t => t.isLt

theorem block1 (c : Dev nD) (t : Fin cfg0.N) (r : Fin 4) (e : Fin 64) (p : Fin 512) (b h : Fin 8) (q : Fin 4096)
    (hb : b.val = min t.val 127 / 16) (hh : h.val = min t.val 127 / 8 % 2 * 4 + r.val) (hq : q.val = min t.val 127 % 8 * 512 + p.val) :
    (iblk m c 1 t : FVec Ideal S1x4x64x512 .bf16) (ix4 0 r e p) = arg1 m c (ix4 b h e q) := by
  refine congrArg (V m c main_arg1) (funext fun a => Fin.ext ?_)
  obtain ⟨e0, e1, e2, e3⟩ := index1 t
  match a with
  | ⟨0, _⟩ => show win0_1.index t 0 * 1 + 1 * 0 = b.val; omega
  | ⟨1, _⟩ => show win0_1.index t 1 * 4 + 1 * r.val = h.val; omega
  | ⟨2, _⟩ => show win0_1.index t 2 * 64 + 1 * e.val = e.val; omega
  | ⟨3, _⟩ => show win0_1.index t 3 * 512 + 1 * p.val = q.val; omega

theorem block2 (c : Dev nD) (t : Fin cfg0.N) (e : Fin 64) (k : Fin 4096) (b : Fin 8) (g : Fin 2)
    (hb : b.val = min t.val 127 / 16) (hg : g.val = min t.val 127 / 8 % 2) :
    (iblk m c 2 t : FVec Ideal S1x1x64x4096 .bf16) (ix4 0 0 e k) = arg2 m c (ix4 b g e k) := by
  refine congrArg (V m c main_arg2) (funext fun a => Fin.ext ?_)
  obtain ⟨e0, e1, e2, e3⟩ := index2 t
  match a with
  | ⟨0, _⟩ => show win0_2.index t 0 * 1 + 1 * 0 = b.val; omega
  | ⟨1, _⟩ => show win0_2.index t 1 * 1 + 1 * 0 = g.val; omega
  | ⟨2, _⟩ => show win0_2.index t 2 * 64 + 1 * e.val = e.val; omega
  | ⟨3, _⟩ => show win0_2.index t 3 * 4096 + 1 * k.val = k.val; omega

theorem block3 (c : Dev nD) (t : Fin cfg0.N) (d : Fin 128) (k : Fin 4096) (b : Fin 8) (g : Fin 2)
    (hb : b.val = min t.val 127 / 16) (hg : g.val = min t.val 127 / 8 % 2) :
    (iblk m c 3 t : FVec Ideal S1x1x128x4096 .bf16) (ix4 0 0 d k) = arg3 m c (ix4 b g d k) := by
  refine congrArg (V m c main_arg3) (funext fun a => Fin.ext ?_)
  obtain ⟨e0, e1, e2, e3⟩ := index3 t
  match a with
  | ⟨0, _⟩ => show win0_3.index t 0 * 1 + 1 * 0 = b.val; omega
  | ⟨1, _⟩ => show win0_3.index t 1 * 1 + 1 * 0 = g.val; omega
  | ⟨2, _⟩ => show win0_3.index t 2 * 128 + 1 * d.val = d.val; omega
  | ⟨3, _⟩ => show win0_3.index t 3 * 4096 + 1 * k.val = k.val; omega

end Cert.KernelIdeal.Attn

end
-- ==== Proof.Attn.Weights.lean ====
module

public import Idealize.ShloMosaic.Lib.Pointwise

@[expose] public section

set_option maxRecDepth 16384

noncomputable section

/-! # Weighted means by powers of two

The kernel sums values weighted by `2 ^ (s - m)`, for some shift `m`, and divides by the weights' sum; the reference weighs by
natural exponentials, shifted too, divides each weight, and sums afterwards. Over real scores all of these are one number, the
values being arbitrary. -/

namespace Cert.Weights

open Idealize.ShloMosaic

/-- The weight of a score over a shift. -/
def weight (s m : ℝ) : EReal := (((2 : ℝ) ^ (s - m) : ℝ) : EReal)

theorem exp2_sub (s m : ℝ) : Ideal.exp2 ((s : EReal) - (m : EReal)) = weight s m := by
  rw [← EReal.coe_sub, Ideal.exp2_coe]; rfl

theorem exp2_only (s : ℝ) : Ideal.exp2 (s : EReal) = weight s 0 := by
  rw [Ideal.exp2_coe, weight, sub_zero]; rfl

theorem weight_mul (s m m' : ℝ) : weight m m' * weight s m = weight s m' := by
  unfold weight
  rw [← EReal.coe_mul, ← Real.rpow_add (by norm_num)]
  congr 2; ring

/-- A positive number moves into a sum of any values. -/
theorem mul_sum_real {ι : Type} (t : Finset ι) (f : ι → EReal) (c : ℝ) (hc : 0 ≤ c) : (c : EReal) * ∑ k ∈ t, f k = ∑ k ∈ t, (c : EReal) * f k := by
  classical
  induction t using Finset.induction_on with
  | empty => simp
  | insert a t ha ih =>
    rw [Finset.sum_insert ha, Finset.sum_insert ha, EReal.left_distrib_of_nonneg_of_ne_top (by exact_mod_cast hc) (EReal.coe_ne_top c), ih]

theorem weight_mul_sum {ι : Type} (t : Finset ι) (f : ι → EReal) (m m' : ℝ) : weight m m' * ∑ k ∈ t, f k = ∑ k ∈ t, weight m m' * f k :=
  mul_sum_real t f _ (Real.rpow_nonneg (by norm_num) _)

/-- The mean of `v` weighted by powers of two. -/
def mean (s : Fin 4096 → ℝ) (v : Fin 4096 → EReal) : EReal :=
  Ideal.div (∑ k, v k * weight (s k) 0) (∑ k, weight (s k) 0)

theorem real_sum {ι : Type} [Fintype ι] (f : ι → ℝ) : ∑ k, ((f k : ℝ) : EReal) = ((∑ k, f k : ℝ) : EReal) := by
  classical
  refine Finset.induction_on (Finset.univ : Finset ι) (by simp) fun a t ha ih => ?_
  rw [Finset.sum_insert ha, Finset.sum_insert ha, ih, EReal.coe_add]

theorem total_pos (s : Fin 4096 → ℝ) (m : ℝ) : 0 < ∑ k, (2 : ℝ) ^ (s k - m) :=
  Finset.sum_pos (fun k _ => Real.rpow_pos_of_pos (by norm_num) _) ⟨0, Finset.mem_univ _⟩

theorem total_eq (s : Fin 4096 → ℝ) (m : ℝ) : ∑ k, weight (s k) m = ((∑ k, (2 : ℝ) ^ (s k - m) : ℝ) : EReal) := real_sum _

/-- Division by a positive number is multiplication by its inverse. -/
theorem div_real (x : EReal) (d : ℝ) (h : 0 < d) : Ideal.div x (d : EReal) = x * ((d⁻¹ : ℝ) : EReal) := by
  unfold Ideal.div
  rw [if_neg (by exact_mod_cast h.ne'), EReal.coe_inv]

/-- The shift is immaterial. -/
theorem mean_shift (s : Fin 4096 → ℝ) (v : Fin 4096 → EReal) (m : ℝ) :
    Ideal.div (∑ k, v k * weight (s k) m) (∑ k, weight (s k) m) = mean s v := by
  have hn : ∑ k, v k * weight (s k) m = weight 0 m * ∑ k, v k * weight (s k) 0 := by
    rw [weight_mul_sum]
    refine Finset.sum_congr rfl fun k _ => ?_
    rw [mul_left_comm, weight_mul]
  have hd : ∑ k, (2 : ℝ) ^ (s k - m) = (2 : ℝ) ^ (0 - m) * ∑ k, (2 : ℝ) ^ (s k - 0) := by
    rw [Finset.mul_sum]
    refine Finset.sum_congr rfl fun k _ => ?_
    rw [← Real.rpow_add (by norm_num)]
    congr 1; ring
  unfold mean
  rw [total_eq, total_eq, div_real _ _ (total_pos s m), div_real _ _ (total_pos s 0), hn, hd]
  have hp : (2 : ℝ) ^ (0 - m) ≠ 0 := (Real.rpow_pos_of_pos (by norm_num) _).ne'
  unfold weight
  rw [mul_comm (((2 : ℝ) ^ (0 - m) : ℝ) : EReal), mul_assoc, ← EReal.coe_mul, mul_inv, ← mul_assoc, mul_inv_cancel₀ hp, one_mul]

/-- The reference's form: natural exponentials, each weight divided before it is used. -/
theorem mean_reference (s : Fin 4096 → ℝ) (v : Fin 4096 → EReal) (M : ℝ) :
    ∑ k, Ideal.div (Ideal.exp ((s k : EReal) * ((Real.log 2 : ℝ) : EReal) - (M : EReal)))
      (∑ j, Ideal.exp ((s j : EReal) * ((Real.log 2 : ℝ) : EReal) - (M : EReal))) * v k = mean s v := by
  have hl : Real.log 2 ≠ 0 := (Real.log_pos (by norm_num)).ne'
  have he : ∀ k, Ideal.exp ((s k : EReal) * ((Real.log 2 : ℝ) : EReal) - (M : EReal)) = weight (s k) (M / Real.log 2) := fun k => by
    rw [← EReal.coe_mul, ← EReal.coe_sub, Ideal.exp_coe, weight, Real.rpow_def_of_pos (by norm_num)]
    congr 2
    field_simp
  simp only [he]
  rw [← mean_shift s v (M / Real.log 2), total_eq, div_real _ _ (total_pos _ _), mul_comm,
    mul_sum_real _ _ _ (inv_nonneg.2 (total_pos _ _).le)]
  refine Finset.sum_congr rfl fun k _ => ?_
  rw [div_real _ _ (total_pos _ _), mul_comm (v k), mul_left_comm, mul_assoc, mul_left_comm]

/-! ## Sums by chunks -/

/-- The key at a place of a chunk. -/
def place (j e : ℕ) : Fin 4096 := ⟨(256 * j + e) % 4096, Nat.mod_lt _ (by decide)⟩

theorem sum_chunks (f : Fin 4096 → EReal) : ∑ j ∈ Finset.range 16, ∑ e : Fin 256, f (place j e) = ∑ k, f k := by
  rw [Finset.sum_range, ← Fintype.sum_prod_type']
  refine Fintype.sum_equiv (finProdFinEquiv (m := 16) (n := 256)) _ _ fun p => congrArg f (Fin.ext ?_)
  have h1 := p.1.isLt; have h2 := p.2.isLt
  show (256 * p.1.val + p.2.val) % 4096 = p.2.val + 256 * p.1.val
  omega

/-- By remainder modulo eight first. -/
theorem sum_eighths (f : Fin 4096 → EReal) : ∑ r : Fin 8, ∑ j ∈ Finset.range 16, ∑ a : Fin 32, f (place j (8 * a + r)) = ∑ k, f k := by
  rw [← sum_chunks, Finset.sum_comm]
  refine Finset.sum_congr rfl fun j _ => ?_
  rw [Finset.sum_comm, ← Fintype.sum_prod_type']
  refine Fintype.sum_equiv (finProdFinEquiv (m := 32) (n := 8)) _ _ fun p => congrArg f (Fin.ext ?_)
  show (256 * j + (8 * p.1.val + p.2.val)) % 4096 = (256 * j + (p.2.val + 8 * p.1.val)) % 4096
  rw [Nat.add_comm (8 * p.1.val)]

/-- The sum over the first chunks, moved from one shift to another. -/
theorem moved (s : Fin 4096 → ℝ) (v : Fin 4096 → EReal) (m m' : ℝ) (n : ℕ) :
    weight m m' * ∑ j ∈ Finset.range n, ∑ e : Fin 256, v (place j e) * weight (s (place j e)) m
      = ∑ j ∈ Finset.range n, ∑ e : Fin 256, v (place j e) * weight (s (place j e)) m' := by
  rw [weight_mul_sum]
  refine Finset.sum_congr rfl fun j _ => ?_
  rw [weight_mul_sum]
  refine Finset.sum_congr rfl fun e _ => ?_
  rw [mul_left_comm, weight_mul]

/-! ## What stays real -/

def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} [Fintype ι] {f : ι → EReal} (h : ∀ k, IsReal (f k)) : IsReal (∑ k, f k) := by
  choose g hg using h
  exact ⟨∑ k, g k, by rw [← real_sum]; exact Finset.sum_congr rfl fun k _ => hg k⟩

/-- The greatest of some real numbers, starting from minus infinity. -/
theorem IsReal.fold {ι : Type} (t : Finset ι) (ht : t.Nonempty) {f : ι → EReal} (h : ∀ k, IsReal (f k)) : IsReal (t.fold Max.max ⊥ f) := by
  classical
  induction ht using Finset.Nonempty.cons_induction with
  | singleton a => rw [Finset.fold_singleton, max_bot_right]; exact h a
  | cons a t ha _ ih => rw [Finset.fold_cons]; exact (h a).max ih

/-- A number smaller in size than infinity. -/
theorem IsReal.of_abs {x : EReal} (h : Max.max x (-x) < ⊤) : IsReal x := by
  induction x using EReal.rec with
  | bot => simp at h
  | coe r => exact ⟨r, rfl⟩
  | top => simp at h

end Cert.Weights

end
-- ==== Proof.Attn.KernelIdealRows.lean ====
module

public import proofs.«01_k».proof.Proof.Attn.KernelIdealSpec
public import proofs.«01_k».proof.Proof.Attn.Weights

@[expose] public section

set_option maxRecDepth 16384

noncomputable section

/-! # What a point of the attention's grid computes, read at one query -/

namespace Cert.KernelIdeal.Attn

open Idealize.ShloMosaic Cert.KernelIdeal Cert.KernelIdeal.Gen Cert.Weights

/-- A chunk's key, by its place. -/
theorem place_eq (j : ℕ) (hj : j < 16) (a : Fin 256) : place j a.val = ⟨256 * j + a.val, by omega⟩ :=
  Fin.ext (Nat.mod_eq_of_lt (by omega))

theorem keysAt_apply (x2 : Vec Ideal S1x1x64x4096 .bf16) (j : ℕ) (hj : j < 16) (e : Fin 64) (a : Fin 256) :
    keysAt x2 ⟨j, hj⟩ (ix4 0 0 e a) = x2 (ix4 0 0 e (place j a.val)) := by
  rw [place_eq j hj]; pointwise [keysAt]

theorem valuesAt_apply (x3 : Vec Ideal S1x1x128x4096 .bf16) (j : ℕ) (hj : j < 16) (d : Fin 64) (a : Fin 256) :
    valuesAt x3 ⟨j, hj⟩ (ix4 0 0 d a) = x3 (ix4 0 0 ⟨d.val, by omega⟩ (place j a.val)) := by
  rw [place_eq j hj]; pointwise [valuesAt]

theorem rowsAt_apply (x3 : Vec Ideal S1x1x128x4096 .bf16) (j : ℕ) (hj : j < 16) (d : Fin 80) (a : Fin 256) :
    rowsAt x3 ⟨j, hj⟩ (ix4 0 0 d a) = x3 (ix4 0 0 ⟨d.val, by omega⟩ (place j a.val)) := by
  rw [place_eq j hj]; pointwise [rowsAt]

/-! ## No shift -/

section Wide

variable (h : FVec Ideal S64x512 .bf16) (x2 : Vec Ideal S1x1x64x4096 .bf16) (x3 : Vec Ideal S1x1x128x4096 .bf16) (p : Fin 512) (s : Fin 4096 → ℝ)
  (hs : ∀ k, ∑ e : Fin 64, x2 (ix4 0 0 e k) * h (ix2 e p) = ((s k : ℝ) : EReal))

include hs in
theorem scoresU_apply (j : ℕ) (hj : j < 16) (a : Fin 256) : scoresU h (keysAt x2 ⟨j, hj⟩) (ix2 a p) = ((s (place j a.val) : ℝ) : EReal) := by
  generalize hk : keysAt x2 ⟨j, hj⟩ = k
  pointwise [scoresU, k0_pay5]
  rw [← hs]
  refine Finset.sum_congr rfl fun e _ => ?_
  rw [← hk, keysAt_apply]

include hs in
theorem accU_apply (d : Fin 64) : ∀ (n : ℕ) (hn : n < 16), accU h x2 x3 n hn (ix2 d p)
    = ∑ j ∈ Finset.range (n + 1), ∑ e : Fin 256, x3 (ix4 0 0 ⟨d.val, by omega⟩ (place j e)) * weight (s (place j e)) 0
  | 0, hn => by
    rw [accU]
    have hw := scoresU_apply h x2 p s hs 0 hn
    have hv := valuesAt_apply x3 0 hn d
    generalize scoresU h (keysAt x2 ⟨0, hn⟩) = S at hw ⊢
    generalize valuesAt x3 ⟨0, hn⟩ = v at hv ⊢
    pointwise [k0_pay25, k0_pay24]
    rw [Finset.sum_range_one]
    refine Finset.sum_congr rfl fun e _ => ?_
    rw [hw, hv]; exact congrArg _ (exp2_only _)
  | n + 1, hn => by
    rw [accU]
    have ih := accU_apply d n (Nat.lt_of_succ_lt hn)
    have hw := scoresU_apply h x2 p s hs (n + 1) hn
    have hv := valuesAt_apply x3 (n + 1) hn d
    generalize scoresU h (keysAt x2 ⟨n + 1, hn⟩) = S at hw ⊢
    generalize valuesAt x3 ⟨n + 1, hn⟩ = v at hv ⊢
    generalize accU h x2 x3 n (Nat.lt_of_succ_lt hn) = A at ih ⊢
    pointwise [k0_pay48, k0_pay47]
    rw [Finset.sum_range_succ, ih]
    refine congrArg _ (Finset.sum_congr rfl fun e _ => ?_)
    rw [hw, hv]; exact congrArg _ (exp2_only _)

include hs in
theorem denU_apply (r : Fin 8) : ∀ (n : ℕ) (hn : n < 16), denU h x2 n hn (ix2 r p)
    = ∑ j ∈ Finset.range (n + 1), ∑ a : Fin 32, weight (s (place j (8 * a + r))) 0
  | 0, hn => by
    rw [denU]
    have hw := scoresU_apply h x2 p s hs 0 hn
    generalize scoresU h (keysAt x2 ⟨0, hn⟩) = S at hw ⊢
    pointwise [k0_pay26, k0_pay24]
    rw [Finset.sum_range_one]
    refine Finset.sum_congr rfl fun a _ => ?_
    rw [hw, Nat.mul_comm 8]; exact exp2_only _
  | n + 1, hn => by
    rw [denU]
    have ih := denU_apply r n (Nat.lt_of_succ_lt hn)
    have hw := scoresU_apply h x2 p s hs (n + 1) hn
    generalize scoresU h (keysAt x2 ⟨n + 1, hn⟩) = S at hw ⊢
    generalize denU h x2 n (Nat.lt_of_succ_lt hn) = A at ih ⊢
    pointwise [k0_pay49, k0_pay47]
    rw [Finset.sum_range_succ, ih]
    refine congrArg _ (Finset.sum_congr rfl fun a _ => ?_)
    rw [hw, Nat.mul_comm 8]; exact exp2_only _

include hs in
theorem accU_total (d : Fin 64) : accU h x2 x3 15 (by decide) (ix2 d p) = ∑ k, x3 (ix4 0 0 ⟨d.val, by omega⟩ k) * weight (s k) 0 :=
  (accU_apply h x2 x3 p s hs d 15 (by decide)).trans (sum_chunks fun k => x3 (ix4 0 0 ⟨d.val, by omega⟩ k) * weight (s k) 0)

include hs in
theorem denU_total : ∑ r : Fin 8, denU h x2 15 (by decide) (ix2 r p) = ∑ k, weight (s k) 0 :=
  (Finset.sum_congr rfl fun r _ => denU_apply h x2 p s hs r 15 (by decide)).trans (sum_eighths fun k => weight (s k) 0)

end Wide

section Tile

variable (q : FVec Ideal S64x2048 .bf16) (x2 : Vec Ideal S1x1x64x4096 .bf16) (x3 : Vec Ideal S1x1x128x4096 .bf16) (b : Fin 2048) (s : Fin 4096 → ℝ)
  (hs : ∀ k, ∑ e : Fin 64, x2 (ix4 0 0 e k) * q (ix2 e b) = ((s k : ℝ) : EReal))

include hs in
/-- A head's scores are the tile's. -/
theorem head_scores (r : Fin 4) (p : Fin 512) (hb : b.val = 512 * r.val + p.val) (k : Fin 4096) :
    ∑ e : Fin 64, x2 (ix4 0 0 e k) * headOf q r (ix2 e p) = ((s k : ℝ) : EReal) := by
  rw [← hs]
  refine Finset.sum_congr rfl fun e _ => congrArg _ ?_
  have hr := r.isLt
  fin_cases r
  all_goals
    dsimp only [headOf]
    pointwise
    exact congrArg (fun i => q (ix2 e i)) (Fin.ext (by dsimp only at hb ⊢; omega))

include hs in
theorem accWide_apply (d : Fin 64) : accWide q x2 x3 (ix3 0 d b) = ∑ k, x3 (ix4 0 0 ⟨d.val, by omega⟩ k) * weight (s k) 0 := by
  have hh : ∀ (r : Fin 4) (p : Fin 512) (hb : b.val = 512 * r.val + p.val), accU (headOf q r) x2 x3 15 (by decide) (ix2 d p) = ∑ k, x3 (ix4 0 0 ⟨d.val, by omega⟩ k) * weight (s k) 0 :=
    fun r p hb => accU_total _ x2 x3 p s (head_scores q x2 b s hs r p hb) d
  have h0 := hh 0; have h1 := hh 1; have h2 := hh 2; have h3 := hh 3
  clear hh
  unfold accWide
  generalize accU (headOf q 0) x2 x3 15 (by decide) = A0 at h0 ⊢
  generalize accU (headOf q 1) x2 x3 15 (by decide) = A1 at h1 ⊢
  generalize accU (headOf q 2) x2 x3 15 (by decide) = A2 at h2 ⊢
  generalize accU (headOf q 3) x2 x3 15 (by decide) = A3 at h3 ⊢
  pointwise
  have hb := b.isLt
  by_cases c0 : b.val < 512
  · rw [dif_pos c0]; exact h0 _ (by show b.val = 512 * 0 + b.val; omega)
  rw [dif_neg c0]
  by_cases c1 : b.val - 512 < 512
  · rw [dif_pos c1]; exact h1 _ (by show b.val = 512 * 1 + (b.val - 512); omega)
  rw [dif_neg c1]
  by_cases c2 : b.val - 512 - 512 < 512
  · rw [dif_pos c2]; exact h2 _ (by show b.val = 512 * 2 + (b.val - 512 - 512); omega)
  rw [dif_neg c2]
  exact h3 _ (by show b.val = 512 * 3 + (b.val - 512 - 512 - 512); omega)

include hs in
theorem denWide_apply : denWide q x2 (ix3 0 0 b) = ∑ k, weight (s k) 0 := by
  have hh : ∀ (r : Fin 4) (p : Fin 512) (hb : b.val = 512 * r.val + p.val), ∑ i : Fin 8, denU (headOf q r) x2 15 (by decide) (ix2 i p) = ∑ k, weight (s k) 0 :=
    fun r p hb => denU_total _ x2 p s (head_scores q x2 b s hs r p hb)
  have h0 := hh 0; have h1 := hh 1; have h2 := hh 2; have h3 := hh 3
  clear hh
  unfold denWide
  generalize denU (headOf q 0) x2 15 (by decide) = A0 at h0 ⊢
  generalize denU (headOf q 1) x2 15 (by decide) = A1 at h1 ⊢
  generalize denU (headOf q 2) x2 15 (by decide) = A2 at h2 ⊢
  generalize denU (headOf q 3) x2 15 (by decide) = A3 at h3 ⊢
  pointwise [k0_pay3]
  have hb := b.isLt
  by_cases c0 : b.val < 512
  · simp only [dif_pos c0]; exact h0 _ (by show b.val = 512 * 0 + b.val; omega)
  by_cases c1 : b.val - 512 < 512
  · simp only [dif_neg c0, dif_pos c1]; exact h1 _ (by show b.val = 512 * 1 + (b.val - 512); omega)
  by_cases c2 : b.val - 512 - 512 < 512
  · simp only [dif_neg c0, dif_neg c1, dif_pos c2]; exact h2 _ (by show b.val = 512 * 2 + (b.val - 512 - 512); omega)
  simp only [dif_neg c0, dif_neg c1, dif_neg c2]
  exact h3 _ (by show b.val = 512 * 3 + (b.val - 512 - 512 - 512); omega)

/-! ## Shifted -/

include hs in
theorem scoresS_apply (j : ℕ) (hj : j < 16) (a : Fin 256) : scoresS q (keysAt x2 ⟨j, hj⟩) (ix2 a b) = ((s (place j a.val) : ℝ) : EReal) := by
  generalize hk : keysAt x2 ⟨j, hj⟩ = k
  pointwise [scoresS, k0_pay300]
  rw [← hs]
  refine Finset.sum_congr rfl fun e _ => ?_
  rw [← hk, keysAt_apply]

theorem lowest : Ideal.ofBits .f32 0xFF800000#32 = ⊥ := by
  rw [Ideal.ofBits]; simp [Ideal.ieee]

/-- The greatest of a chunk's scores is a real number. -/
theorem chunk_max (S : FVec Ideal S256x2048 .f32) (hS : ∀ a : Fin 256, IsReal (S (ix2 a b))) :
    IsReal (shapeCast S1x2048 (multiReduction .maximumf [0] S2048 S 0xFF800000#32 reduces_S256x2048_S2048 (.inl rfl) rfl) shapeCasts_S2048_S1x2048 (ix2 0 b)) := by
  have e : shapeCast S1x2048 (multiReduction .maximumf [0] S2048 S 0xFF800000#32 reduces_S256x2048_S2048 (.inl rfl) rfl) shapeCasts_S2048_S1x2048 (ix2 0 b)
      = Finset.fold max (Ideal.ofBits .f32 0xFF800000#32) (fun a : Fin 256 => (S (ix2 a b) : EReal)) Finset.univ := by
    pointwise
  rw [e, lowest]
  exact IsReal.fold _ ⟨0, Finset.mem_univ _⟩ hS

include hs in
theorem maxS_real : ∀ (n : ℕ) (hn : n < 16), IsReal (maxS q x2 n hn (ix2 0 b))
  | 0, hn => by
    rw [maxS]
    exact chunk_max b _ fun a => ⟨_, scoresS_apply q x2 b s hs 0 hn a⟩
  | n + 1, hn => by
    rw [maxS]
    exact (maxS_real n (Nat.lt_of_succ_lt hn)).max (chunk_max b _ fun a => ⟨_, scoresS_apply q x2 b s hs (n + 1) hn a⟩)

theorem pvS_apply (S : FVec Ideal S256x2048 .f32) (top : FVec Ideal S1x2048 .f32) (v : Vec Ideal S1x1x80x256 .bf16) (d : Fin 80) :
    pvS S top v (ix2 d b) = ∑ e : Fin 256, v (ix4 0 0 d e) * Ideal.exp2 (S (ix2 e b) - top (ix2 0 b)) := by
  pointwise [pvS]
  rfl

theorem stepS_apply (A : FVec Ideal S80x2048 .f32) (old top : FVec Ideal S1x2048 .f32) (P : FVec Ideal S80x2048 .f32) (d : Fin 80) :
    stepS A old top P (ix2 d b) = Ideal.exp2 (old (ix2 0 b) - top (ix2 0 b)) * A (ix2 d b) + P (ix2 d b) := by
  pointwise [stepS]
  rfl

include hs in
theorem chunkS_apply (m : ℝ) (n : ℕ) (hn : n < 16) (top : FVec Ideal S1x2048 .f32) (hm : top (ix2 0 b) = ((m : ℝ) : EReal)) (d : Fin 80) :
    pvS (scoresS q (keysAt x2 ⟨n, hn⟩)) top (rowsAt x3 ⟨n, hn⟩) (ix2 d b)
      = ∑ e : Fin 256, x3 (ix4 0 0 ⟨d.val, by omega⟩ (place n e)) * weight (s (place n e)) m := by
  rw [pvS_apply]
  refine Finset.sum_congr rfl fun e _ => ?_
  rw [scoresS_apply q x2 b s hs n hn, rowsAt_apply, hm, exp2_sub]

include hs in
theorem accS_apply (m : ℕ → ℝ) (hm : ∀ (n : ℕ) (hn : n < 16), maxS q x2 n hn (ix2 0 b) = ((m n : ℝ) : EReal)) (d : Fin 80) :
    ∀ (n : ℕ) (hn : n < 16), accS q x2 x3 n hn (ix2 d b)
      = ∑ j ∈ Finset.range (n + 1), ∑ e : Fin 256, x3 (ix4 0 0 ⟨d.val, by omega⟩ (place j e)) * weight (s (place j e)) (m n)
  | 0, hn => by
    rw [accS, chunkS_apply q x2 x3 b s hs (m 0) 0 hn _ (hm 0 hn), Finset.sum_range_one]
  | n + 1, hn => by
    rw [accS, stepS_apply, chunkS_apply q x2 x3 b s hs (m (n + 1)) (n + 1) hn _ (hm (n + 1) hn), accS_apply m hm d n (Nat.lt_of_succ_lt hn), hm, hm,
      exp2_sub, Finset.sum_range_succ _ (n + 1)]
    exact congrArg (· + _) (moved s (fun k => x3 (ix4 0 0 ⟨d.val, by omega⟩ k)) (m n) (m (n + 1)) (n + 1))

include hs in
theorem accS_total (d : Fin 80) (m : ℕ → ℝ) (hm : ∀ (n : ℕ) (hn : n < 16), maxS q x2 n hn (ix2 0 b) = ((m n : ℝ) : EReal)) :
    accS q x2 x3 15 (by decide) (ix2 d b) = ∑ k, x3 (ix4 0 0 ⟨d.val, by omega⟩ k) * weight (s k) (m 15) :=
  (accS_apply q x2 x3 b s hs m hm d 15 (by decide)).trans (sum_chunks fun k => x3 (ix4 0 0 ⟨d.val, by omega⟩ k) * weight (s k) (m 15))

theorem accShift_apply (d : Fin 64) : accShift q x2 x3 (ix3 0 d b) = accS q x2 x3 15 (by decide) (ix2 (⟨d.val, by omega⟩ : Fin 80) b) := by
  unfold accShift
  generalize accS q x2 x3 15 (by decide) = A
  pointwise

theorem denShift_apply : denShift q x2 x3 (ix3 0 0 b) = accS q x2 x3 15 (by decide) (ix2 (64 : Fin 80) b) := by
  unfold denShift
  generalize accS q x2 x3 15 (by decide) = A
  pointwise [k0_pay4]

end Tile

/-- THE POINT: the quotient of its sums is the values' mean over the query's scores. -/
theorem quotient (x0 : Vec Ideal S1 .f32) (x1 : Vec Ideal S1x4x64x512 .bf16) (x2 : Vec Ideal S1x1x64x4096 .bf16) (x3 : Vec Ideal S1x1x128x4096 .bf16)
    (b : Fin 2048) (s : Fin 4096 → ℝ) (hs : ∀ k, ∑ e : Fin 64, x2 (ix4 0 0 e k) * queries x1 (ix2 e b) = ((s k : ℝ) : EReal))
    (ones : ∀ k, x3 (ix4 0 0 ⟨64, by decide⟩ k) = 1) (d : Fin 64) :
    Ideal.div (accV x0 x1 x2 x3 (ix3 0 d b)) (denV x0 x1 x2 x3 (ix3 0 0 b)) = mean s (fun k => x3 (ix4 0 0 ⟨d.val, by omega⟩ k)) := by
  unfold accV denV
  by_cases hb : Bounded x0
  · rw [if_pos hb, if_pos hb, accWide_apply _ x2 x3 b s hs, denWide_apply _ x2 b s hs]
    rfl
  · rw [if_neg hb, if_neg hb, accShift_apply, denShift_apply]
    obtain ⟨m, hm⟩ : ∃ m : ℕ → ℝ, ∀ (n : ℕ) (hn : n < 16), maxS (queries x1) x2 n hn (ix2 0 b) = ((m n : ℝ) : EReal) := by
      choose m hm using maxS_real (queries x1) x2 b s hs
      exact ⟨fun n => if h : n < 16 then m n h else 0, fun n hn => (hm n hn).trans (congrArg _ (dif_pos hn).symm)⟩
    rw [accS_total _ x2 x3 b s hs _ m hm, accS_total _ x2 x3 b s hs _ m hm]
    have e : ∑ k, x3 (ix4 0 0 ⟨(64 : Fin 80).val, by decide⟩ k) * weight (s k) (m 15) = ∑ k, weight (s k) (m 15) :=
      Finset.sum_congr rfl fun k _ => (congrArg (· * weight (s k) (m 15)) (ones k)).trans (one_mul _)
    exact (congrArg (Ideal.div _) e).trans (mean_shift s _ (m 15))

/-- One head's query among the four. -/
theorem queries_apply (x1 : Vec Ideal S1x4x64x512 .bf16) (r : Fin 4) (p : Fin 512) (b : Fin 2048) (hb : b.val = 512 * r.val + p.val) (e : Fin 64) :
    queries x1 (ix2 e b) = x1 (ix4 0 r e p) := by
  pointwise [queries, k0_pay330]
  have hp := p.isLt
  fin_cases r <;> dsimp only at hb
  · rw [dif_pos (by omega)]; exact congrArg (fun i => x1 (ix4 0 0 e i)) (Fin.ext (by dsimp only; omega))
  · rw [dif_neg (by omega), dif_pos (by omega)]; exact congrArg (fun i => x1 (ix4 0 1 e i)) (Fin.ext (by dsimp only; omega))
  · rw [dif_neg (by omega), dif_neg (by omega), dif_pos (by omega)]; exact congrArg (fun i => x1 (ix4 0 2 e i)) (Fin.ext (by dsimp only; omega))
  · rw [dif_neg (by omega), dif_neg (by omega), dif_neg (by omega)]; exact congrArg (fun i => x1 (ix4 0 3 e i)) (Fin.ext (by dsimp only; omega))

/-- The output block at a head's place. -/
theorem outV_apply (a : Vec Ideal S1x64x2048 .f32) (dn : Vec Ideal S1x1x2048 .f32) (r : Fin 4) (p : Fin 512) (d : Fin 64) (x : Fin 256) (hx : x.val = 64 * r.val + d.val) (b : Fin 2048)
    (hb : b.val = 512 * r.val + p.val) : outV a dn (ix3 0 p x) = Ideal.div (a (ix3 0 d b)) (dn (ix3 0 0 b)) := by
  refine (outV_band a dn _ r (by show x.val / 64 = r.val; omega)).trans ?_
  have hd : (ix3 ((ix3 0 p x : S1x512x256.Idx) 0) ((ix3 0 p x : S1x512x256.Idx) 1) ⟨((ix3 0 p x : S1x512x256.Idx) 2).val % 64, Nat.mod_lt _ (by decide)⟩ : S1x512x64.Idx) = ix3 (0 : Fin 1) p d := by
    funext k
    match k with
    | ⟨0, _⟩ => rfl
    | ⟨1, _⟩ => rfl
    | ⟨2, _⟩ => exact Fin.ext (by show x.val % 64 = d.val; omega)
  refine (congrArg (band a dn r) hd).trans ?_
  have e : ∀ i : Fin 2048, i.val = b.val → Ideal.div (a (ix3 0 d i)) (dn (ix3 0 0 i)) = Ideal.div (a (ix3 0 d b)) (dn (ix3 0 0 b)) := fun i hi => by
    rw [Fin.ext hi]
  fin_cases r <;> dsimp only at hb <;> dsimp only [band]
  · pointwise [k0_pay43, k0_pay42]; exact e _ (by dsimp only; omega)
  · pointwise [k0_pay44, k0_pay42]; exact e _ (by dsimp only; omega)
  · pointwise [k0_pay45, k0_pay42]; exact e _ (by dsimp only; omega)
  · pointwise [k0_pay46, k0_pay42]; exact e _ (by dsimp only; omega)

end Cert.KernelIdeal.Attn

end
-- ==== Proof.Attn.ReferenceRows.lean ====
module

public import proofs.«01_k».proof.Proof.Gen.ReferenceIdeal.Read
public import proofs.«01_k».proof.Proof.Attn.Weights
public import Idealize.ShloMosaic.Lib.Pointwise

@[expose] public section

set_option maxRecDepth 16384

noncomputable section

/-! # The reference's attention, read at one query -/

namespace Cert.ReferenceIdeal.Rows

open Idealize.ShloMosaic Cert.ReferenceIdeal Cert.ReferenceIdeal.Gen Cert.ReferenceIdeal.Read Cert.Weights

/-- The greatest of real numbers along an axis, starting from minus infinity, is real. -/
theorem reduce_real {s t u : Shape} {a : Fin s.rank} (x : FVec Ideal s .f32) (init : FVec Ideal u .f32) (h' : s.ReducesTo [a] t) (h : s.Reduces [a] t)
    (hu : 0 < u.numel) (j : t.Idx) (hi : (init (Shape.Idx.first hu) : EReal) = ⊥) (ha : 0 < s.size a) (hx : ∀ i, IsReal (x i)) :
    IsReal (Host.reduce (FloatOps.maximumf (F := Ideal) (φ := .f32)) x init h' hu j) := by
  show IsReal (Host.reduce (Max.max : EReal → EReal → EReal) x init h' hu j)
  rw [Host.reduce_eq_fold_single _ x init h' h hu j, hi]
  exact IsReal.fold _ ⟨⟨0, ha⟩, Finset.mem_univ _⟩ fun k => hx _

theorem keys_reduced : S8x2x4x4096x4096.Reduces [4] S8x2x4x4096 := by decide

theorem greatest_real (y : FVec Ideal S8x2x4x4096x4096 .f32) (z : FVec Ideal S_ .f32) (hz : (z (Shape.Idx.first h_S_) : EReal) = ⊥) (h : ∀ i, IsReal (y i)) (i : S8x2x4x4096.Idx) :
    IsReal (Host.reduce (FloatOps.maximumf (F := Ideal) (φ := .f32)) y z reducesTo_S8x2x4x4096x4096_S8x2x4x4096_d4 h_S_ i) :=
  reduce_real y z reducesTo_S8x2x4x4096x4096_S8x2x4x4096_d4 keys_reduced h_S_ i hz (by decide) h

theorem lowest : Ideal.ofBits .f32 0xFF800000#32 = ⊥ := by
  rw [Ideal.ofBits]; simp [Ideal.ieee]

theorem log_two : Ideal.log (Ideal.ofBits .f32 0x40000000#32) = ((Real.log 2 : ℝ) : EReal) := by
  have e : Ideal.ofBits .f32 0x40000000#32 = ((2 : ℝ) : EReal) := by
    rw [Ideal.ofBits]; simp [Ideal.ieee]; rw [← EReal.coe_mul]; norm_num
  rw [e, Ideal.log_coe, if_neg (by norm_num)]

variable (x1 : FVec Ideal S8x8x64x4096 .bf16) (x2 : FVec Ideal S8x2x64x4096 .bf16) (x3 : FVec Ideal S8x2x128x4096 .bf16)

/-- The scores, in natural units. -/
theorem scores_apply (b : Fin 8) (g : Fin 2) (r : Fin 4) (p k : Fin 4096) : (val_main_v8 (F := Ideal) x1 x2 (ix5 b g r p k) : EReal)
    = (∑ e : Fin 64, x1 (ix4 b ⟨g.val * 4 + r.val, by omega⟩ e p) * x2 (ix4 b g e k)) * ((Real.log 2 : ℝ) : EReal) := by
  unfold val_main_v8 val_main_v5 val_main_v1
  pointwise [val_main_v0, val_main_v2, val_main_v7, val_main_v6, val_main_cst]
  rw [← log_two]

/-- The weights: exponentials less the greatest score, over their sum. -/
theorem weights_apply (b : Fin 8) (g : Fin 2) (r : Fin 4) (p k : Fin 4096) : (val_main_v19 (F := Ideal) x1 x2 (ix5 b g r p k) : EReal)
    = Ideal.div (Ideal.exp (val_main_v8 (F := Ideal) x1 x2 (ix5 b g r p k) - val_main_v11 (F := Ideal) x1 x2 (ix4 b g r p)))
      (∑ j : Fin 4096, Ideal.exp (val_main_v8 (F := Ideal) x1 x2 (ix5 b g r p j) - val_main_v11 (F := Ideal) x1 x2 (ix4 b g r p))) := by
  unfold val_main_v19 val_main_v18 val_main_v17 val_main_v16 val_main_v15 val_main_v14 val_main_v13 val_main_v12
  generalize val_main_v8 (F := Ideal) x1 x2 = y
  generalize val_main_v11 (F := Ideal) x1 x2 = z
  pointwise [val_main_cst_2]

theorem weighted_apply (b : Fin 8) (p : Fin 4096) (c : Fin 512) : (val_main_v23 (F := Ideal) x1 x2 x3 (ix3 b p c) : EReal)
    = ∑ k : Fin 4096, val_main_v19 (F := Ideal) x1 x2 (ix5 b ⟨c.val / 256, by omega⟩ ⟨c.val / 64 % 4, by omega⟩ p k)
      * x3 (ix4 b ⟨c.val / 256, by omega⟩ ⟨c.val % 64, by omega⟩ k) := by
  unfold val_main_v23 val_main_v22 val_main_v21 val_main_v20
  generalize val_main_v19 (F := Ideal) x1 x2 = y
  pointwise [val_main_v4, val_main_v3]

theorem greatest_eq (i : S8x2x4x4096.Idx) : val_main_v9 (F := Ideal) x1 x2 i = Host.reduce (FloatOps.maximumf (F := Ideal) (φ := .f32)) (val_main_v8 (F := Ideal) x1 x2)
    (val_main_cst_0 (F := Ideal)) reducesTo_S8x2x4x4096x4096_S8x2x4x4096_d4 h_S_ i := rfl

theorem top_eq (i : S8x2x4x4096.Idx) : (val_main_v11 (F := Ideal) x1 x2 i : EReal) = Max.max (val_main_v10 (F := Ideal) i : EReal) (val_main_v9 (F := Ideal) x1 x2 i) :=
  val_main_v11_apply (F := Ideal) x1 x2 i

/-- With real scores the greatest is real. -/
theorem top_real (h : ∀ i, IsReal (val_main_v8 (F := Ideal) x1 x2 i)) (i : S8x2x4x4096.Idx) : IsReal (val_main_v11 (F := Ideal) x1 x2 i) := by
  have e : IsReal (val_main_v9 (F := Ideal) x1 x2 i) := by
    rw [greatest_eq]
    exact greatest_real _ _ ((val_main_cst_0_apply (F := Ideal) _).trans lowest) h i
  have hb : (val_main_v10 (F := Ideal) i : EReal) = ⊥ := (val_main_v10_apply (F := Ideal) i).trans lowest
  rw [top_eq, hb, max_bot_left]; exact e

/-- A query, a head and a key, from an index. -/
theorem of_places (P : S8x2x4x4096x4096.Idx → Prop) (h : ∀ (b : Fin 8) (g : Fin 2) (r : Fin 4) (p k : Fin 4096), P (ix5 b g r p k)) (i : S8x2x4x4096x4096.Idx) : P i := by
  have e : ix5 (⟨(i 0).val, (i 0).isLt⟩ : Fin 8) (⟨(i 1).val, (i 1).isLt⟩ : Fin 2) (⟨(i 2).val, (i 2).isLt⟩ : Fin 4) (⟨(i 3).val, (i 3).isLt⟩ : Fin 4096) (⟨(i 4).val, (i 4).isLt⟩ : Fin 4096) = i := funext fun a => by
    match a with
    | ⟨0, _⟩ => rfl
    | ⟨1, _⟩ => rfl
    | ⟨2, _⟩ => rfl
    | ⟨3, _⟩ => rfl
    | ⟨4, _⟩ => rfl
  exact e ▸ h _ _ _ _ _

/-- THE REFERENCE at a query and a place of its heads: the values' mean over the query's scores. -/
theorem result_apply (hq : ∀ i, IsReal (x1 i)) (hk : ∀ i, IsReal (x2 i)) (b : Fin 8) (p : Fin 4096) (c : Fin 512) (g : Fin 2) (r : Fin 4) (d : Fin 64)
    (hc : c.val = 256 * g.val + 64 * r.val + d.val) (s : Fin 4096 → ℝ)
    (hs : ∀ k, ∑ e : Fin 64, x1 (ix4 b ⟨g.val * 4 + r.val, by omega⟩ e p) * x2 (ix4 b g e k) = ((s k : ℝ) : EReal)) :
    (val_main_v23 (F := Ideal) x1 x2 x3 (ix3 b p c) : EReal) = mean s (fun k => x3 (ix4 b g ⟨d.val, by omega⟩ k)) := by
  have eg : (⟨c.val / 256, by omega⟩ : Fin 2) = g := Fin.ext (by dsimp only; omega)
  have er : (⟨c.val / 64 % 4, by omega⟩ : Fin 4) = r := Fin.ext (by dsimp only; omega)
  have ed : (⟨c.val % 64, by omega⟩ : Fin 128) = ⟨d.val, by omega⟩ := Fin.ext (by dsimp only; omega)
  have h8 : ∀ i, IsReal (val_main_v8 (F := Ideal) x1 x2 i) := of_places _ fun b g r p k => by
    rw [scores_apply]
    exact (IsReal.sum fun e => (hq _).mul (hk _)).mul ⟨_, rfl⟩
  obtain ⟨M, hM⟩ := top_real x1 x2 h8 (ix4 b g r p)
  rw [weighted_apply, eg, er, ed, ← mean_reference s _ M]
  refine Finset.sum_congr rfl fun k _ => ?_
  simp only [weights_apply, scores_apply, hs, hM]

end Cert.ReferenceIdeal.Rows

end
-- ==== Proof.Attn.KernelIdealValue.lean ====
module

public import proofs.«01_k».proof.Proof.Attn.KernelIdealBlocks
public import proofs.«01_k».proof.Proof.Attn.KernelIdealRows
public import proofs.«01_k».proof.Proof.Attn.ReferenceRows

@[expose] public section

set_option maxRecDepth 16384

noncomputable section

/-! # The attention's result array, entry by entry

The blocks of a point are parts of the call's arguments; a point's output block holds the quotient of the tile before it;
its entries are the reference's. -/

namespace Cert.KernelIdeal.Attn

open Idealize.ShloMosaic Idealize.ShloMosaic.TcCoe Idealize.SL.Sem
open Idealize.ShloMosaic.Pipeline (Dat)
open Cert.KernelIdeal Cert.KernelIdeal.Gen Cert.Weights

variable (m : (ℓ : Loc nD τ sig) → Buf (Elt Ideal) ℓ)

/-! ## The result -/

/-- The result array: the reference's, over the call's own arguments. -/
def result (c : Dev nD) : FVec Ideal S8x4096x512 .bf16 :=
  Cert.ReferenceIdeal.Read.val_main_v23 (F := Ideal) (arg1 m c) (arg2 m c) (arg3 m c)

/-- What is asked of a device's arguments: real queries and keys, and a row of ones below the values. -/
structure Asked (c : Dev nD) : Prop where
  queries : ∀ i, IsReal (arg1 m c i)
  keys : ∀ i, IsReal (arg2 m c i)
  ones : ∀ (b : Fin 8) (g : Fin 2) (k : Fin 4096), (arg3 m c (ix4 b g ⟨64, by decide⟩ k) : EReal) = 1

/-- A tile's quotient is the reference's entry, when the tile's blocks are the arguments' parts. -/
theorem tile_row (x0 : FVec Ideal S1 .f32) (x1 : FVec Ideal S1x4x64x512 .bf16) (x2 : FVec Ideal S1x1x64x4096 .bf16) (x3 : FVec Ideal S1x1x128x4096 .bf16)
    (y1 : FVec Ideal S8x8x64x4096 .bf16) (y2 : FVec Ideal S8x2x64x4096 .bf16) (y3 : FVec Ideal S8x2x128x4096 .bf16)
    (hy1 : ∀ i, IsReal (y1 i)) (hy2 : ∀ i, IsReal (y2 i))
    (b : Fin 8) (g : Fin 2) (r : Fin 4) (d : Fin 64) (p : Fin 512) (x : Fin 256) (q : Fin 4096) (y : Fin 512) (l : Fin 2048)
    (hx : x.val = 64 * r.val + d.val) (hl : l.val = 512 * r.val + p.val) (hy : y.val = 256 * g.val + 64 * r.val + d.val)
    (ones : ∀ k : Fin 4096, (y3 (ix4 b g ⟨64, by decide⟩ k) : EReal) = 1)
    (h1 : ∀ e : Fin 64, x1 (ix4 0 r e p) = y1 (ix4 b ⟨g.val * 4 + r.val, by omega⟩ e q))
    (h2 : ∀ (e : Fin 64) (k : Fin 4096), x2 (ix4 0 0 e k) = y2 (ix4 b g e k))
    (h3 : ∀ (f : Fin 128) (k : Fin 4096), x3 (ix4 0 0 f k) = y3 (ix4 b g f k)) :
    outV (accV x0 x1 x2 x3) (denV x0 x1 x2 x3) (ix3 0 p x) = Cert.ReferenceIdeal.Read.val_main_v23 (F := Ideal) y1 y2 y3 (ix3 b q y) := by
  have hreal : ∀ k : Fin 4096, IsReal (∑ e : Fin 64, (y1 (ix4 b ⟨g.val * 4 + r.val, by omega⟩ e q) : EReal) * y2 (ix4 b g e k)) :=
    fun k => IsReal.sum fun e => (hy1 _).mul (hy2 _)
  choose s hs using hreal
  have hscore : ∀ k : Fin 4096, ∑ e : Fin 64, x2 (ix4 0 0 e k) * queries x1 (ix2 e l) = ↑(s k) := fun k => by
    rw [← hs k]
    refine Finset.sum_congr rfl fun e _ => ?_
    rw [queries_apply x1 r p l hl e, h1, h2]
    exact mul_comm _ _
  rw [outV_apply _ _ r p d x hx l hl, quotient x0 x1 x2 x3 l s hscore (fun k => (h3 _ k).trans (ones k)) d]
  refine Eq.trans ?_ (Cert.ReferenceIdeal.Rows.result_apply y1 y2 y3 hy1 hy2 b q y g r d hy s hs).symm
  exact congrArg (mean s) (funext fun k => h3 _ k)

/-- A point after the first leaves the entries of the tile before it. -/
theorem out_row (c : Dev nD) (hc : Asked m c) (t : Fin cfg0.N) (ht : 1 ≤ t.val) (p : Fin 512) (x : Fin 256) (b : Fin 8) (q : Fin 4096)
    (y : Fin 512) (hb : b.val = (t.val - 1) / 16) (hq : q.val = (t.val - 1) % 8 * 512 + p.val)
    (hy : y.val = (t.val - 1) / 8 % 2 * 256 + x.val) :
    outAt m c t (ix3 0 p x) = result m c (ix3 b q y) := by
  have hN := points t
  have hu : min (before t).val 127 = t.val - 1 := Nat.min_eq_left (by show t.val - 1 ≤ 127; omega)
  obtain ⟨g, hg⟩ : ∃ g : Fin 2, g.val = (t.val - 1) / 8 % 2 := ⟨⟨_, Nat.mod_lt _ (by decide)⟩, rfl⟩
  obtain ⟨r, hr⟩ : ∃ r : Fin 4, r.val = x.val / 64 := ⟨⟨x.val / 64, by omega⟩, rfl⟩
  obtain ⟨d, hd⟩ : ∃ d : Fin 64, d.val = x.val % 64 := ⟨⟨_, Nat.mod_lt _ (by decide)⟩, rfl⟩
  obtain ⟨l, hl⟩ : ∃ l : Fin 2048, l.val = 512 * r.val + p.val := ⟨⟨512 * r.val + p.val, by omega⟩, rfl⟩
  unfold outAt
  rw [if_neg (by omega)]
  unfold keptA keptD result
  exact tile_row _ _ _ _ _ _ _ hc.queries hc.keys b g r d p x q y l (by omega) hl (by omega) (hc.ones b g)
    (fun e => block1 m c (before t) r e p b ⟨g.val * 4 + r.val, by omega⟩ q (by omega) (by dsimp only; omega) (by omega))
    (fun e k => block2 m c (before t) e k b g (by omega) (by omega)) (fun f k => block3 m c (before t) f k b g (by omega) (by omega))

end Cert.KernelIdeal.Attn

end
-- ==== Proof.Attn.KernelIdealArray.lean ====
module

public import proofs.«01_k».proof.Proof.Attn.KernelIdealValue

@[expose] public section

set_option maxRecDepth 16384

noncomputable section

/-! # The attention's result array: the written blocks tile it -/

namespace Cert.KernelIdeal.Attn

open Idealize.ShloMosaic Idealize.ShloMosaic.TcCoe Idealize.SL.Sem
open Idealize.ShloMosaic.Pipeline (Dat)
open Cert.KernelIdeal Cert.KernelIdeal.Gen Cert.Weights

variable (m : (ℓ : Loc nD τ sig) → Buf (Elt Ideal) ℓ)

/-- The rows an array must hold for the points' blocks to be its parts. -/
def Rowwise (c : Dev nD) (R : FVec Ideal S8x4096x512 .bf16) : Prop :=
  ∀ t : Fin cfg0.N, 1 ≤ t.val → ∀ (p : Fin 512) (x : Fin 256) (b : Fin 8) (q : Fin 4096) (y : Fin 512), b.val = (t.val - 1) / 16 →
    q.val = (t.val - 1) % 8 * 512 + p.val → y.val = (t.val - 1) / 8 % 2 * 256 + x.val → outAt m c t (ix3 0 p x) = R (ix3 b q y)

theorem flushed (c : Dev nD) (R : FVec Ideal S8x4096x512 .bf16) (hR : Rowwise m c R) (t : Fin cfg0.N) (hf : (cfg0.win 4).flush t = true) :
    (dats m 0 c).flushed 4 t = ((cfg0.win 4).blk t).view.read (Elt Ideal) (R) := by
  show (cfg0.win 4).cut (grid0.coords t) ((dats m 0 c).after 4 t) = _
  rw [after4]
  have ht := (flush4 t).1 hf
  have hN := points t
  obtain ⟨e0, e1, e2⟩ := index4 t
  funext j
  have h0 : (j 0).val < 1 := (j 0).isLt
  have h1 : (j 1).val < 512 := (j 1).isLt
  have h2 : (j 2).val < 256 := (j 2).isLt
  have hj : j = ix3 (0 : Fin 1) (⟨(j 1).val, h1⟩ : Fin 512) (⟨(j 2).val, h2⟩ : Fin 256) := funext fun a => by
    match a with
    | ⟨0, _⟩ => exact Fin.ext (by show (j 0).val = 0; omega)
    | ⟨1, _⟩ => rfl
    | ⟨2, _⟩ => rfl
  show outAt m c t j = R (((cfg0.win 4).blk t).view.emb j)
  have he : ((cfg0.win 4).blk t).view.emb j = ix3 (⟨(t.val - 1) / 16, by omega⟩ : Fin 8) (⟨(t.val - 1) % 8 * 512 + (j 1).val, by omega⟩ : Fin 4096)
      (⟨(t.val - 1) / 8 % 2 * 256 + (j 2).val, by omega⟩ : Fin 512) := by
    funext a; apply Fin.ext
    match a with
    | ⟨0, _⟩ => show win0_4.index t 0 * 1 + 1 * (j 0).val = (t.val - 1) / 16; omega
    | ⟨1, _⟩ => show win0_4.index t 1 * 512 + 1 * (j 1).val = (t.val - 1) % 8 * 512 + (j 1).val; omega
    | ⟨2, _⟩ => show win0_4.index t 2 * 256 + 1 * (j 2).val = (t.val - 1) / 8 % 2 * 256 + (j 2).val; omega
  rw [he]
  exact (congrArg (outAt m c t) hj).trans (hR t ht _ _ _ _ _ rfl rfl rfl)

theorem cover (i : S8x4096x512.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 512 := (i 2).isLt
  obtain ⟨u, hu⟩ : ∃ u : ℕ, u = (i 0).val * 16 + (i 2).val / 256 * 8 + (i 1).val / 512 := ⟨_, rfl⟩
  have hN : u + 1 < grid0.N := by show u + 1 < 129; omega
  refine ⟨⟨u + 1, hN⟩, (flush4 _).2 (by dsimp only; omega), ?_⟩
  obtain ⟨e0, e1, e2⟩ := index4 ⟨u + 1, hN⟩
  dsimp only at e0 e1 e2
  show i ∈ ((View.whole main_v0).slice (win0_4.rect (⟨u + 1, hN⟩ : Fin grid0.N))).set
  rw [View.set_slice_whole, Rect.mem_set_unit]
  intro a
  match a with
  | ⟨0, _⟩ =>
    show win0_4.index _ 0 * 1 ≤ (i 0).val ∧ (i 0).val < win0_4.index _ 0 * 1 + 1
    rw [e0]; omega
  | ⟨1, _⟩ =>
    show win0_4.index _ 1 * 512 ≤ (i 1).val ∧ (i 1).val < win0_4.index _ 1 * 512 + 512
    rw [e1]; omega
  | ⟨2, _⟩ =>
    show win0_4.index _ 2 * 256 ≤ (i 2).val ∧ (i 2).val < win0_4.index _ 2 * 256 + 256
    rw [e2]; omega

theorem final (c : Dev nD) (R : FVec Ideal S8x4096x512 .bf16) (hR : Rowwise m c R) : (dats m 0 c).arrAt 4 cfg0.N = R :=
  (dats m 0 c).arrAt_eq_of_cover 4 R (flushed m c R hR) cover

end Cert.KernelIdeal.Attn

end
-- ==== Proof.Attn.Asked.lean ====
module

public import proofs.«01_k».proof.Pre_finite_scores
public import proofs.«01_k».proof.Proof.Attn.Weights
public import Idealize.ShloMosaic.Lib.Affine
public import Idealize.ShloMosaic.Lib.ReduceAll
public import Idealize.ShloMosaic.Lib.Pointwise

@[expose] public section

set_option maxRecDepth 16384

noncomputable section

/-! # What the precondition says of the attention's arguments -/

namespace Cert.Pre_finite_scores

open Idealize.ShloMosaic Cert.Weights

theorem facts : Facts where
  slices_S8x2x128x4096_S8x2x1x4096_0_0_64_0 := by decide
  bitsLt_bf16_f32 := by decide
  bcast_S_S8x8x64x4096 := by decide
  reducesTo_S8x8x64x4096_S_d0_1_2_3 := by decide
  h_S_ := by decide
  bcast_S_S8x2x64x4096 := by decide
  reducesTo_S8x2x64x4096_S_d0_1_2_3 := by decide
  bcast_S_S8x2x1x4096 := by decide
  reducesTo_S8x2x1x4096_S_d0_1_2_3 := by decide

instance : Subsingleton S_.Idx := ⟨fun i j => funext fun a => a.elim0⟩

theorem top : Ideal.ofBits .f32 0x7F800000#32 = ⊤ := by
  rw [Ideal.ofBits]; simp [Ideal.ieee]

theorem one : Ideal.ofBits .f32 0x3F800000#32 = 1 := by
  rw [Ideal.ofBits]; simp [Ideal.ieee]; rw [← EReal.coe_mul]; norm_num

theorem bit_true {b : Bool} (h : BitVec.ofBool b = 1#1) : b = true := by revert h; cases b <;> decide

theorem lt_of_bit {x y : EReal} (h : Ideal.cmp .olt x y = 1#1) : x < y :=
  of_decide_eq_true (bit_true h)

theorem eq_of_bit {x y : EReal} (h : Ideal.cmp .oeq x y = 1#1) : x = y :=
  of_decide_eq_true (bit_true h)

/-- Arguments of which the precondition holds have real queries and keys and a row of ones below the values. -/
theorem read [Facts] (x0 : FVec Ideal S1 .f32) (x1 : FVec Ideal S8x8x64x4096 .bf16) (x2 : FVec Ideal S8x2x64x4096 .bf16)
    (x3 : FVec Ideal S8x2x128x4096 .bf16) (h : fn (F := Ideal) x0 x1 x2 x3 = fun _ => 1#1) :
    (∀ i, IsReal (x1 i)) ∧ (∀ i, IsReal (x2 i)) ∧
      ∀ (b : Fin 8) (g : Fin 2) (k : Fin 4096), (x3 (ix4 b g ⟨64, by decide⟩ k) : EReal) = 1 := by
  have h0 := congrFun h (fun a => a.elim0)
  unfold fn at h0
  dsimp only at h0
  change IntOp.andi (IntOp.andi _ _) _ = 1#1 at h0
  obtain ⟨h12, h3⟩ := IntOp.andi_eq_one.1 h0
  obtain ⟨h1, h2⟩ := IntOp.andi_eq_one.1 h12
  refine ⟨fun i => ?_, fun i => ?_, fun b g k => ?_⟩
  · have e := Host.reduce_andi_all _ _ _ _ _ h1 i
    change Ideal.cmp .olt (max (x1 i : EReal) (-(x1 i : EReal))) (Ideal.ofBits .f32 0x7F800000#32) = 1#1 at e
    rw [top] at e
    exact IsReal.of_abs (lt_of_bit e)
  · have e := Host.reduce_andi_all _ _ _ _ _ h2 i
    change Ideal.cmp .olt (max (x2 i : EReal) (-(x2 i : EReal))) (Ideal.ofBits .f32 0x7F800000#32) = 1#1 at e
    rw [top] at e
    exact IsReal.of_abs (lt_of_bit e)
  · have e := Host.reduce_andi_all _ _ _ _ _ h3 (ix4 b g 0 k)
    change Ideal.cmp .oeq (extractStridedSlice S8x2x1x4096 ![0, 0, 64, 0] x3 Facts.slices_S8x2x128x4096_S8x2x1x4096_0_0_64_0 (ix4 b g 0 k) : EReal) (Ideal.ofBits .f32 0x3F800000#32) = 1#1 at e
    rw [one] at e
    refine Eq.trans ?_ (eq_of_bit e)
    pointwise

end Cert.Pre_finite_scores

end
-- ==== Proof.Attn.Algebraic.lean ====
module

public import proofs.«01_k».proof.Defs
public import Idealize.ShloMosaic.Lib.Claim
public import proofs.«01_k».proof.Proof.Attn.KernelIdealArray
public import proofs.«01_k».proof.Proof.Attn.Asked
public import proofs.«01_k».proof.Proof.Gen.ReferenceIdeal.Run
public import proofs.«01_k».proof.Proof.Gen.ReferenceIdeal.Read

@[expose] public section

set_option maxRecDepth 16384

noncomputable section

/-! # The attention's call computes the reference -/

namespace Cert.KernelIdeal.Attn

open Idealize.ShloMosaic Idealize.ShloMosaic.TcCoe Idealize.SL.Sem
open Cert.KernelIdeal Cert.KernelIdeal.Gen

/-- THE VALUE CLAIM: from memories agreeing on the arguments, of which the precondition holds, both programs end with equal results. -/
theorem algebraic [Cert.Pre_finite_scores.Facts] : algebraic_KernelIdeal_ReferenceIdeal_pre_finite_scores := by
  intro m g m' g' hpre hag
  refine ⟨result m, ?_, ?_⟩
  · refine (θ_run defs _ _).mono (fun r h c => ⟨?_, args_of m r h.1 c⟩) (run m g)
    obtain ⟨hq, hk, ho⟩ := Cert.Pre_finite_scores.read _ _ _ _ (hpre c)
    exact ((h.1 c).1 4).trans (final m c (result m c) (out_row m c ⟨hq, hk, ho⟩))
  · refine (θ_run ReferenceIdeal.defs _ _).mono (fun r h c => ⟨(h c).1.trans ?_, (h c).2⟩) (ReferenceIdeal.Value.run m' g')
    refine (ReferenceIdeal.Read.val_main_v23_eq (F := Ideal) _ _ _).trans ?_
    show ReferenceIdeal.Read.val_main_v23 (F := Ideal)
      (m' ((c.tc : Thread ReferenceIdeal.nD ReferenceIdeal.τ).loc ReferenceIdeal.main_arg1))
      (m' ((c.tc : Thread ReferenceIdeal.nD ReferenceIdeal.τ).loc ReferenceIdeal.main_arg2))
      (m' ((c.tc : Thread ReferenceIdeal.nD ReferenceIdeal.τ).loc ReferenceIdeal.main_arg3)) = _
    obtain ⟨a0, a1, a2, a3⟩ := hag c
    rw [a1, a2, a3]
    rfl

end Cert.KernelIdeal.Attn

end
-- ==== Proof.Proj.ProjIdealRun.lean ====
module

public import proofs.«01_k».proof.Proof.Gen.ProjIdeal.Frame
public import proofs.«01_k».proof.Proof.Gen.ProjIdeal.Skeleton

@[expose] public section

set_option maxRecDepth 16384

noncomputable section

namespace Cert.ProjIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

/-- The slot of the previous tile, and of the current one, at a point: the point's parity decides. -/
theorem off_1 : ∀ i : grid0.Coords, k0_off1 i = ![((i 0).val + 1) % 2, 0, 0] := by decide +kernel
instance closed_1 (i : grid0.Coords) : ClosedOff (k0_off1 i) := ⟨![((i 0).val + 1) % 2, 0, 0], off_1 i⟩
theorem off_2 : ∀ i : grid0.Coords, k0_off2 i = ![((i 0).val + 1) % 2, 0, 128] := by decide +kernel
instance closed_2 (i : grid0.Coords) : ClosedOff (k0_off2 i) := ⟨![((i 0).val + 1) % 2, 0, 128], off_2 i⟩
theorem off_3 : ∀ i : grid0.Coords, k0_off3 i = ![((i 0).val + 1) % 2, 0, 256] := by decide +kernel
instance closed_3 (i : grid0.Coords) : ClosedOff (k0_off3 i) := ⟨![((i 0).val + 1) % 2, 0, 256], off_3 i⟩
theorem off_4 : ∀ i : grid0.Coords, k0_off4 i = ![((i 0).val + 1) % 2, 0, 384] := by decide +kernel
instance closed_4 (i : grid0.Coords) : ClosedOff (k0_off4 i) := ⟨![((i 0).val + 1) % 2, 0, 384], off_4 i⟩
theorem off_5 : ∀ i : grid0.Coords, k0_off5 i = ![((i 0).val + 1) % 2, 0, 0] := by decide +kernel
instance closed_5 (i : grid0.Coords) : ClosedOff (k0_off5 i) := ⟨![((i 0).val + 1) % 2, 0, 0], off_5 i⟩
theorem off_6 : ∀ i : grid0.Coords, k0_off6 i = ![((i 0).val + 1) % 2, 0, 128] := by decide +kernel
instance closed_6 (i : grid0.Coords) : ClosedOff (k0_off6 i) := ⟨![((i 0).val + 1) % 2, 0, 128], off_6 i⟩
theorem off_7 : ∀ i : grid0.Coords, k0_off7 i = ![((i 0).val + 1) % 2, 0, 0] := by decide +kernel
instance closed_7 (i : grid0.Coords) : ClosedOff (k0_off7 i) := ⟨![((i 0).val + 1) % 2, 0, 0], off_7 i⟩
theorem off_8 : ∀ i : grid0.Coords, k0_off8 i = ![(i 0).val % 2, 0, 0] := by decide +kernel
instance closed_8 (i : grid0.Coords) : ClosedOff (k0_off8 i) := ⟨![(i 0).val % 2, 0, 0], off_8 i⟩
theorem off_9 : ∀ i : grid0.Coords, k0_off9 i = ![(i 0).val % 2, 0, 256] := by decide +kernel
instance closed_9 (i : grid0.Coords) : ClosedOff (k0_off9 i) := ⟨![(i 0).val % 2, 0, 256], off_9 i⟩
theorem off_10 : ∀ i : grid0.Coords, k0_off10 i = ![(i 0).val % 2, 0, 0] := by decide +kernel
instance closed_10 (i : grid0.Coords) : ClosedOff (k0_off10 i) := ⟨![(i 0).val % 2, 0, 0], off_10 i⟩
theorem off_11 : ∀ i : grid0.Coords, k0_off11 i = ![(i 0).val % 2, 0, 0] := by decide +kernel
instance closed_11 (i : grid0.Coords) : ClosedOff (k0_off11 i) := ⟨![(i 0).val % 2, 0, 0], off_11 i⟩

set_option maxHeartbeats 8000000 in
/-- One run of the kernel body on whole staging memrefs, at any point of the grid and whichever way its branch goes: from
    the nine inputs' blocks, the nine outputs' buffers and the three scratch buffers at named contents it runs to the end,
    leaves the inputs' blocks in place, and leaves in the others the vectors that are this definition's components. -/
noncomputable def bodyRun (c : Dev nD) (i : grid0.Coords) (arg1 : Memref sig .tc .vmem S1x1024x1024 .f32) (harg1 : arg1.IsWhole) (arg2 : Memref sig .tc .vmem S1024x2432 .bf16) (harg2 : arg2.IsWhole) (arg3 : Memref sig .tc .vmem S128x512 .bf16) (harg3 : arg3.IsWhole) (arg4 : Memref sig .tc .vmem S1x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x8x64x1024 .bf16) (harg10 : arg10.IsWhole) (arg11 : Memref sig .tc .vmem S1x2x64x1024 .bf16) (harg11 : arg11.IsWhole) (arg12 : Memref sig .tc .vmem S1x2x128x1024 .bf16) (harg12 : arg12.IsWhole) (arg13 : Memref sig .tc .vmem S1x1024x256 .bf16) (harg13 : arg13.IsWhole) (arg14 : Memref sig .tc .vmem S1x1024x256 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x1024x256 .f32) (harg17 : arg17.IsWhole) (arg18 : Memref sig .tc .vmem S1x1024x256 .f32) (harg18 : arg18.IsWhole) (arg19 : Memref sig .tc .vmem S2x1024x512 .f32) (harg19 : arg19.IsWhole) (arg20 : Memref sig .tc .vmem S2x1024x256 .f32) (harg20 : arg20.IsWhole) (arg21 : Memref sig .tc .vmem S2x1024x128 .f32) (harg21 : arg21.IsWhole)
    (x0 : Vec F S1x1024x1024 .f32) (x1 : Vec F S1024x2432 .bf16) (x2 : Vec F S128x512 .bf16) (x3 : Vec F S1x512 .f32) (x4 : Vec F S1x128 .f32) (x5 : Vec F S1x128 .f32) (x6 : Vec F S1024x128 .f32) (x7 : Vec F S1024x128 .f32) (x8 : Vec F S1024x128 .f32) (x9 : Vec F S1x8x64x1024 .bf16) (x10 : Vec F S1x2x64x1024 .bf16) (x11 : Vec F S1x2x128x1024 .bf16) (x12 : Vec F S1x1024x256 .bf16) (x13 : Vec F S1x1024x256 .bf16) (x14 : Vec F S1x1024x512 .bf16) (x15 : Vec F S1x1024x512 .bf16) (x16 : Vec F S1x1024x256 .f32) (x17 : Vec F S1x1024x256 .f32) (x18 : Vec F S2x1024x512 .f32) (x19 : Vec F S2x1024x256 .f32) (x20 : Vec F S2x1024x128 .f32) :
    Σ' (y9 : Vec F S1x8x64x1024 .bf16) (y10 : Vec F S1x2x64x1024 .bf16) (y11 : Vec F S1x2x128x1024 .bf16) (y12 : Vec F S1x1024x256 .bf16) (y13 : Vec F S1x1024x256 .bf16) (y14 : Vec F S1x1024x512 .bf16) (y15 : Vec F S1x1024x512 .bf16) (y16 : Vec F S1x1024x256 .f32) (y17 : Vec F S1x1024x256 .f32) (y18 : Vec F S2x1024x512 .f32) (y19 : Vec F S2x1024x256 .f32), { y20 : Vec F S2x1024x128 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare y11 ∗ owns (c : Thread nD τ) arg13 fullShare y12 ∗ owns (c : Thread nD τ) arg14 fullShare y13 ∗ owns (c : Thread nD τ) arg15 fullShare y14 ∗ owns (c : Thread nD τ) arg16 fullShare y15 ∗ owns (c : Thread nD τ) arg17 fullShare y16 ∗ owns (c : Thread nD τ) arg18 fullShare y17 ∗ owns (c : Thread nD τ) arg19 fullShare y18 ∗ owns (c : Thread nD τ) arg20 fullShare y19 ∗ owns (c : Thread nD τ) arg21 fullShare y20) -∗ K ⟨⟩))
          ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, ?_, ?_, fun E K => ?run⟩
  case run =>
    simp only [cc0__proj_kernel_eq_skeleton]; unfold cc0__proj_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    iexists _; isplitr; swap; · iexact H20
    ipureintro; rfl

end Cert.ProjIdeal.Proj

end
-- ==== Proof.Proj.ProjIdealSpec.lean ====
module

public import proofs.«01_k».proof.Proof.Gen.ProjIdeal.Frame
public import proofs.«01_k».proof.Proof.Gen.ProjIdeal.Frame
public import proofs.«01_k».proof.Proof.Proj.ProjIdealRun
public import proofs.«01_k».proof.Proof.Mix.Slots
public import Idealize.ShloMosaic.Lib.Pointwise

@[expose] public section

set_option maxRecDepth 16384

noncomputable section

namespace Cert.ProjIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

/-! ## What a point writes of the four plain projections -/

/-- Two blocks of 256 columns side by side. -/
def halves (a b : FVec F S1x1024x256 .bf16) : FVec F S1x1024x512 .bf16 := fun j =>
  if h : (j 2).val < 256 then a (ix3 (j 0) (j 1) (⟨(j 2).val, h⟩ : Fin 256))
  else b (ix3 (j 0) (j 1) (⟨(j 2).val - 256, by have : (j 2).val < 512 := (j 2).isLt; omega⟩ : Fin 256))

def gqOut (x0 : Vec F S1x1024x1024 .f32) (x1 : Vec F S1024x2432 .bf16) : FVec F S1x1024x256 .bf16 := k0_pay10 (k0_pay8 x0) (View.ld x1 (Rect.unit ![0, 768] S1024x256.size inb_S1024x2432_S1024x256_0_768))
def gkOut (x0 : Vec F S1x1024x1024 .f32) (x1 : Vec F S1024x2432 .bf16) : FVec F S1x1024x256 .bf16 := k0_pay20 (k0_pay8 x0) (View.ld x1 (Rect.unit ![0, 1024] S1024x256.size inb_S1024x2432_S1024x256_0_1024))
def gvOut (x0 : Vec F S1x1024x1024 .f32) (x1 : Vec F S1024x2432 .bf16) : FVec F S1x1024x512 .bf16 :=
  halves (k0_pay27 (k0_pay8 x0) (View.ld x1 (Rect.unit ![0, 1280] S1024x256.size inb_S1024x2432_S1024x256_0_1280))) (k0_pay36 (k0_pay8 x0) (View.ld x1 (Rect.unit ![0, 1536] S1024x256.size inb_S1024x2432_S1024x256_0_1536)))
def goOut (x0 : Vec F S1x1024x1024 .f32) (x1 : Vec F S1024x2432 .bf16) : FVec F S1x1024x512 .bf16 :=
  halves (k0_pay44 (k0_pay43 (k0_pay8 x0) (View.ld x1 (Rect.unit ![0, 1792] S1024x256.size inb_S1024x2432_S1024x256_0_1792)))) (k0_pay49 (k0_pay8 x0) (View.ld x1 (Rect.unit ![0, 2048] S1024x256.size inb_S1024x2432_S1024x256_0_2048)))

/-- A buffer whose second half was written after its first reads the two side by side. -/
theorem read_halves {sig' : RefSig} {κ : Kind} {sp : Space} (v : View sig' κ sp S1x1024x512 .bf16) (f : v.ty.Contents (Elt F)) (a b : FVec F S1x1024x256 .bf16) :
    v.read (Elt F) (v.writes (Elt F) f [⟨Rect.unit ![0, 0, 256] S1x1024x256.size inb_S1x1024x512_S1x1024x256_0_0_256, b⟩,
      ⟨Rect.unit ![0, 0, 0] S1x1024x256.size inb_S1x1024x512_S1x1024x256_0_0_0, a⟩]) = halves a b := by
  funext j
  unfold halves
  by_cases h : (j 2).val < 256
  · rw [dif_pos h]
    refine (View.read_writes_cons_unit_of_not_mem v f inb_S1x1024x512_S1x1024x256_0_0_256 b _ j rfl 2 (Or.inl h)).trans ?_
    refine View.read_writes_cons_unit_of_mem v f inb_S1x1024x512_S1x1024x256_0_0_0 a [] j _ rfl fun d => ?_
    fin_cases d
    · exact (Nat.zero_add _).symm
    · exact (Nat.zero_add _).symm
    · exact (Nat.zero_add _).symm
  · rw [dif_neg h]
    refine View.read_writes_cons_unit_of_mem v f inb_S1x1024x512_S1x1024x256_0_0_256 b _ j _ rfl fun d => ?_
    fin_cases d
    · exact (Nat.zero_add _).symm
    · exact (Nat.zero_add _).symm
    · show (j 2).val = 256 + ((j 2).val - 256)
      omega

set_option maxHeartbeats 4000000 in
theorem run_gq (c : Dev nD) (i : grid0.Coords) (arg1 : Memref sig .tc .vmem S1x1024x1024 .f32) (harg1 : arg1.IsWhole) (arg2 : Memref sig .tc .vmem S1024x2432 .bf16) (harg2 : arg2.IsWhole) (arg3 : Memref sig .tc .vmem S128x512 .bf16) (harg3 : arg3.IsWhole) (arg4 : Memref sig .tc .vmem S1x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x8x64x1024 .bf16) (harg10 : arg10.IsWhole) (arg11 : Memref sig .tc .vmem S1x2x64x1024 .bf16) (harg11 : arg11.IsWhole) (arg12 : Memref sig .tc .vmem S1x2x128x1024 .bf16) (harg12 : arg12.IsWhole) (arg13 : Memref sig .tc .vmem S1x1024x256 .bf16) (harg13 : arg13.IsWhole) (arg14 : Memref sig .tc .vmem S1x1024x256 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x1024x256 .f32) (harg17 : arg17.IsWhole) (arg18 : Memref sig .tc .vmem S1x1024x256 .f32) (harg18 : arg18.IsWhole) (arg19 : Memref sig .tc .vmem S2x1024x512 .f32) (harg19 : arg19.IsWhole) (arg20 : Memref sig .tc .vmem S2x1024x256 .f32) (harg20 : arg20.IsWhole) (arg21 : Memref sig .tc .vmem S2x1024x128 .f32) (harg21 : arg21.IsWhole)
    (x0 : Vec F S1x1024x1024 .f32) (x1 : Vec F S1024x2432 .bf16) (x2 : Vec F S128x512 .bf16) (x3 : Vec F S1x512 .f32) (x4 : Vec F S1x128 .f32) (x5 : Vec F S1x128 .f32) (x6 : Vec F S1024x128 .f32) (x7 : Vec F S1024x128 .f32) (x8 : Vec F S1024x128 .f32) (x9 : Vec F S1x8x64x1024 .bf16) (x10 : Vec F S1x2x64x1024 .bf16) (x11 : Vec F S1x2x128x1024 .bf16) (x12 : Vec F S1x1024x256 .bf16) (x13 : Vec F S1x1024x256 .bf16) (x14 : Vec F S1x1024x512 .bf16) (x15 : Vec F S1x1024x512 .bf16) (x16 : Vec F S1x1024x256 .f32) (x17 : Vec F S1x1024x256 .f32) (x18 : Vec F S2x1024x512 .f32) (x19 : Vec F S2x1024x256 .f32) (x20 : Vec F S2x1024x128 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).2.2.2.1 = gqOut x0 x1 := by
  unfold bodyRun
  dsimp only
  refine (View.read_writes_full _ _ inb_S1x1024x256_S1x1024x256_0_0_0 _ _).trans ?_
  unfold gqOut
  simp only [bodyRun.sl.r]
  simp only [View.readAt_eq_ld, harg1.read_unread, harg2.read_unread]
  rw [View.ld_unit_zero (by funext a; fin_cases a <;> rfl) _ x0]

set_option maxHeartbeats 4000000 in
theorem run_gk (c : Dev nD) (i : grid0.Coords) (arg1 : Memref sig .tc .vmem S1x1024x1024 .f32) (harg1 : arg1.IsWhole) (arg2 : Memref sig .tc .vmem S1024x2432 .bf16) (harg2 : arg2.IsWhole) (arg3 : Memref sig .tc .vmem S128x512 .bf16) (harg3 : arg3.IsWhole) (arg4 : Memref sig .tc .vmem S1x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x8x64x1024 .bf16) (harg10 : arg10.IsWhole) (arg11 : Memref sig .tc .vmem S1x2x64x1024 .bf16) (harg11 : arg11.IsWhole) (arg12 : Memref sig .tc .vmem S1x2x128x1024 .bf16) (harg12 : arg12.IsWhole) (arg13 : Memref sig .tc .vmem S1x1024x256 .bf16) (harg13 : arg13.IsWhole) (arg14 : Memref sig .tc .vmem S1x1024x256 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x1024x256 .f32) (harg17 : arg17.IsWhole) (arg18 : Memref sig .tc .vmem S1x1024x256 .f32) (harg18 : arg18.IsWhole) (arg19 : Memref sig .tc .vmem S2x1024x512 .f32) (harg19 : arg19.IsWhole) (arg20 : Memref sig .tc .vmem S2x1024x256 .f32) (harg20 : arg20.IsWhole) (arg21 : Memref sig .tc .vmem S2x1024x128 .f32) (harg21 : arg21.IsWhole)
    (x0 : Vec F S1x1024x1024 .f32) (x1 : Vec F S1024x2432 .bf16) (x2 : Vec F S128x512 .bf16) (x3 : Vec F S1x512 .f32) (x4 : Vec F S1x128 .f32) (x5 : Vec F S1x128 .f32) (x6 : Vec F S1024x128 .f32) (x7 : Vec F S1024x128 .f32) (x8 : Vec F S1024x128 .f32) (x9 : Vec F S1x8x64x1024 .bf16) (x10 : Vec F S1x2x64x1024 .bf16) (x11 : Vec F S1x2x128x1024 .bf16) (x12 : Vec F S1x1024x256 .bf16) (x13 : Vec F S1x1024x256 .bf16) (x14 : Vec F S1x1024x512 .bf16) (x15 : Vec F S1x1024x512 .bf16) (x16 : Vec F S1x1024x256 .f32) (x17 : Vec F S1x1024x256 .f32) (x18 : Vec F S2x1024x512 .f32) (x19 : Vec F S2x1024x256 .f32) (x20 : Vec F S2x1024x128 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).2.2.2.2.1 = gkOut x0 x1 := by
  unfold bodyRun
  dsimp only
  refine (View.read_writes_full _ _ inb_S1x1024x256_S1x1024x256_0_0_0 _ _).trans ?_
  unfold gkOut
  simp only [bodyRun.sl.r]
  simp only [View.readAt_eq_ld, harg1.read_unread, harg2.read_unread]
  rw [View.ld_unit_zero (by funext a; fin_cases a <;> rfl) _ x0]

set_option maxHeartbeats 4000000 in
theorem run_gv (c : Dev nD) (i : grid0.Coords) (arg1 : Memref sig .tc .vmem S1x1024x1024 .f32) (harg1 : arg1.IsWhole) (arg2 : Memref sig .tc .vmem S1024x2432 .bf16) (harg2 : arg2.IsWhole) (arg3 : Memref sig .tc .vmem S128x512 .bf16) (harg3 : arg3.IsWhole) (arg4 : Memref sig .tc .vmem S1x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x8x64x1024 .bf16) (harg10 : arg10.IsWhole) (arg11 : Memref sig .tc .vmem S1x2x64x1024 .bf16) (harg11 : arg11.IsWhole) (arg12 : Memref sig .tc .vmem S1x2x128x1024 .bf16) (harg12 : arg12.IsWhole) (arg13 : Memref sig .tc .vmem S1x1024x256 .bf16) (harg13 : arg13.IsWhole) (arg14 : Memref sig .tc .vmem S1x1024x256 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x1024x256 .f32) (harg17 : arg17.IsWhole) (arg18 : Memref sig .tc .vmem S1x1024x256 .f32) (harg18 : arg18.IsWhole) (arg19 : Memref sig .tc .vmem S2x1024x512 .f32) (harg19 : arg19.IsWhole) (arg20 : Memref sig .tc .vmem S2x1024x256 .f32) (harg20 : arg20.IsWhole) (arg21 : Memref sig .tc .vmem S2x1024x128 .f32) (harg21 : arg21.IsWhole)
    (x0 : Vec F S1x1024x1024 .f32) (x1 : Vec F S1024x2432 .bf16) (x2 : Vec F S128x512 .bf16) (x3 : Vec F S1x512 .f32) (x4 : Vec F S1x128 .f32) (x5 : Vec F S1x128 .f32) (x6 : Vec F S1024x128 .f32) (x7 : Vec F S1024x128 .f32) (x8 : Vec F S1024x128 .f32) (x9 : Vec F S1x8x64x1024 .bf16) (x10 : Vec F S1x2x64x1024 .bf16) (x11 : Vec F S1x2x128x1024 .bf16) (x12 : Vec F S1x1024x256 .bf16) (x13 : Vec F S1x1024x256 .bf16) (x14 : Vec F S1x1024x512 .bf16) (x15 : Vec F S1x1024x512 .bf16) (x16 : Vec F S1x1024x256 .f32) (x17 : Vec F S1x1024x256 .f32) (x18 : Vec F S2x1024x512 .f32) (x19 : Vec F S2x1024x256 .f32) (x20 : Vec F S2x1024x128 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).2.2.2.2.2.1 = gvOut x0 x1 := by
  unfold bodyRun
  dsimp only
  refine (read_halves _ _ _ _).trans ?_
  unfold gvOut
  simp only [bodyRun.sl.r]
  simp only [View.readAt_eq_ld, harg1.read_unread, harg2.read_unread]
  rw [View.ld_unit_zero (by funext a; fin_cases a <;> rfl) _ x0]

set_option maxHeartbeats 4000000 in
theorem run_go (c : Dev nD) (i : grid0.Coords) (arg1 : Memref sig .tc .vmem S1x1024x1024 .f32) (harg1 : arg1.IsWhole) (arg2 : Memref sig .tc .vmem S1024x2432 .bf16) (harg2 : arg2.IsWhole) (arg3 : Memref sig .tc .vmem S128x512 .bf16) (harg3 : arg3.IsWhole) (arg4 : Memref sig .tc .vmem S1x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1x8x64x1024 .bf16) (harg10 : arg10.IsWhole) (arg11 : Memref sig .tc .vmem S1x2x64x1024 .bf16) (harg11 : arg11.IsWhole) (arg12 : Memref sig .tc .vmem S1x2x128x1024 .bf16) (harg12 : arg12.IsWhole) (arg13 : Memref sig .tc .vmem S1x1024x256 .bf16) (harg13 : arg13.IsWhole) (arg14 : Memref sig .tc .vmem S1x1024x256 .bf16) (harg14 : arg14.IsWhole) (arg15 : Memref sig .tc .vmem S1x1024x512 .bf16) (harg15 : arg15.IsWhole) (arg16 : Memref sig .tc .vmem S1x1024x512 .bf16) (harg16 : arg16.IsWhole) (arg17 : Memref sig .tc .vmem S1x1024x256 .f32) (harg17 : arg17.IsWhole) (arg18 : Memref sig .tc .vmem S1x1024x256 .f32) (harg18 : arg18.IsWhole) (arg19 : Memref sig .tc .vmem S2x1024x512 .f32) (harg19 : arg19.IsWhole) (arg20 : Memref sig .tc .vmem S2x1024x256 .f32) (harg20 : arg20.IsWhole) (arg21 : Memref sig .tc .vmem S2x1024x128 .f32) (harg21 : arg21.IsWhole)
    (x0 : Vec F S1x1024x1024 .f32) (x1 : Vec F S1024x2432 .bf16) (x2 : Vec F S128x512 .bf16) (x3 : Vec F S1x512 .f32) (x4 : Vec F S1x128 .f32) (x5 : Vec F S1x128 .f32) (x6 : Vec F S1024x128 .f32) (x7 : Vec F S1024x128 .f32) (x8 : Vec F S1024x128 .f32) (x9 : Vec F S1x8x64x1024 .bf16) (x10 : Vec F S1x2x64x1024 .bf16) (x11 : Vec F S1x2x128x1024 .bf16) (x12 : Vec F S1x1024x256 .bf16) (x13 : Vec F S1x1024x256 .bf16) (x14 : Vec F S1x1024x512 .bf16) (x15 : Vec F S1x1024x512 .bf16) (x16 : Vec F S1x1024x256 .f32) (x17 : Vec F S1x1024x256 .f32) (x18 : Vec F S2x1024x512 .f32) (x19 : Vec F S2x1024x256 .f32) (x20 : Vec F S2x1024x128 .f32) :
    (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).2.2.2.2.2.2.1 = goOut x0 x1 := by
  unfold bodyRun
  dsimp only
  refine (read_halves _ _ _ _).trans ?_
  unfold goOut
  simp only [bodyRun.sl.r, bodyRun.sl.r_15]
  simp only [View.readAt_eq_ld, harg1.read_unread, harg2.read_unread]
  rw [View.ld_unit_zero (by funext a; fin_cases a <;> rfl) _ x0]

end Cert.ProjIdeal.Proj

end
-- ==== Proof.Proj.ProjIdealFrame.lean ====
module

public import proofs.«01_k».proof.Proof.Gen.ProjIdeal.Frame
public import proofs.«01_k».proof.Proof.Gen.ProjIdeal.Frame
public import proofs.«01_k».proof.Proof.Proj.ProjIdealSpec

@[expose] public section

set_option maxRecDepth 16384

noncomputable section

namespace Cert.ProjIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three scratch buffers between points -/

/-- The kept products of the queries, of the keys and values, and of the gate, each as a whole memref. -/
abbrev qM : Memref sig .tc .vmem S2x1024x512 .f32 := Memref.whole cc0_scratch0
abbrev kM : Memref sig .tc .vmem S2x1024x256 .f32 := Memref.whole cc0_scratch1
abbrev dM : Memref sig .tc .vmem S2x1024x128 .f32 := Memref.whole cc0_scratch2

/-- What the launch hands the region: the scratch buffers at some contents, and the generator register. -/
theorem rest_eq (c : Dev nD) :
    (Pipeline.ΦA spec0 c : sProp 𝕄)
      = iprop(iprop((∃ d, owns (c : Thread nD τ) qM fullShare d) ∗ (∃ d, owns (c : Thread nD τ) kM fullShare d) ∗ (∃ d, owns (c : Thread nD τ) dM fullShare d)) ∗ (∃ r, prngReg c r)) := by
  unfold Pipeline.ΦA; rw [scopedRest0_eq]; simp only [qM, kM, dM, owns_whole]; try rfl

/-! ## The proof data of the frame -/

/-- The windows the proof says nothing of. -/
def unsaid : Fin 18 → Bool := fun w => w.val == 9 || w.val == 10 || w.val == 11 || w.val == 16 || w.val == 17

/-- The proof data: every input's block stays in place, the four plain projections' blocks are named, the
    scratch buffers hold anything between points. -/
def looseDats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, _⟩ => gqOut (iblk m c 0 t) (iblk m c 1 t)
    | ⟨13, _⟩ => gkOut (iblk m c 0 t) (iblk m c 1 t)
    | ⟨14, _⟩ => gvOut (iblk m c 0 t) (iblk m c 1 t)
    | ⟨15, _⟩ => goOut (iblk m c 0 t) (iblk m c 1 t)
    | ⟨16, h⟩ => Pipeline.Dat.unnamed (cfg := cfg0) ⟨16, h⟩ t
    | ⟨17, h⟩ => Pipeline.Dat.unnamed (cfg := cfg0) ⟨17, h⟩ t
    | ⟨n + 18, h⟩ => absurd (show n + 18 < 18 from h) (by omega)
  Φ _ := Pipeline.ΦA spec0 c
  q _ := fullShare
  owed _ := 0

theorem loose_A (c : Dev nD) (w : Fin cfg0.W) : (looseDats m 0 c).A w = V m c (Pipeline.arrRef spec0 w) := by
  dsimp only [looseDats]

theorem loose_after0 (c : Dev nD) (t : Fin cfg0.N) : (looseDats m 0 c).after 0 t = iblk m c 0 t := by dsimp only [looseDats]
theorem loose_before0 (c : Dev nD) (t : Fin cfg0.N) (d) : (looseDats m 0 c).before 0 t d = iblk m c 0 t :=
  before0_0_of m (looseDats m 0 c) (loose_A m c 0) (loose_after0 m c) t d

theorem loose_after1 (c : Dev nD) (t : Fin cfg0.N) : (looseDats m 0 c).after 1 t = iblk m c 1 t := by dsimp only [looseDats]
theorem loose_before1 (c : Dev nD) (t : Fin cfg0.N) (d) : (looseDats m 0 c).before 1 t d = iblk m c 1 t :=
  before0_1_of m (looseDats m 0 c) (loose_A m c 1) (loose_after1 m c) t d

theorem loose_after2 (c : Dev nD) (t : Fin cfg0.N) : (looseDats m 0 c).after 2 t = iblk m c 2 t := by dsimp only [looseDats]
theorem loose_before2 (c : Dev nD) (t : Fin cfg0.N) (d) : (looseDats m 0 c).before 2 t d = iblk m c 2 t :=
  before0_2_of m (looseDats m 0 c) (loose_A m c 2) (loose_after2 m c) t d

theorem loose_after3 (c : Dev nD) (t : Fin cfg0.N) : (looseDats m 0 c).after 3 t = iblk m c 3 t := by dsimp only [looseDats]
theorem loose_before3 (c : Dev nD) (t : Fin cfg0.N) (d) : (looseDats m 0 c).before 3 t d = iblk m c 3 t :=
  before0_3_of m (looseDats m 0 c) (loose_A m c 3) (loose_after3 m c) t d

theorem loose_after4 (c : Dev nD) (t : Fin cfg0.N) : (looseDats m 0 c).after 4 t = iblk m c 4 t := by dsimp only [looseDats]
theorem loose_before4 (c : Dev nD) (t : Fin cfg0.N) (d) : (looseDats m 0 c).before 4 t d = iblk m c 4 t :=
  before0_4_of m (looseDats m 0 c) (loose_A m c 4) (loose_after4 m c) t d

theorem loose_after5 (c : Dev nD) (t : Fin cfg0.N) : (looseDats m 0 c).after 5 t = iblk m c 5 t := by dsimp only [looseDats]
theorem loose_before5 (c : Dev nD) (t : Fin cfg0.N) (d) : (looseDats m 0 c).before 5 t d = iblk m c 5 t :=
  before0_5_of m (looseDats m 0 c) (loose_A m c 5) (loose_after5 m c) t d

theorem loose_after6 (c : Dev nD) (t : Fin cfg0.N) : (looseDats m 0 c).after 6 t = iblk m c 6 t := by dsimp only [looseDats]
theorem loose_before6 (c : Dev nD) (t : Fin cfg0.N) (d) : (looseDats m 0 c).before 6 t d = iblk m c 6 t :=
  before0_6_of m (looseDats m 0 c) (loose_A m c 6) (loose_after6 m c) t d

theorem loose_after7 (c : Dev nD) (t : Fin cfg0.N) : (looseDats m 0 c).after 7 t = iblk m c 7 t := by dsimp only [looseDats]
theorem loose_before7 (c : Dev nD) (t : Fin cfg0.N) (d) : (looseDats m 0 c).before 7 t d = iblk m c 7 t :=
  before0_7_of m (looseDats m 0 c) (loose_A m c 7) (loose_after7 m c) t d

theorem loose_after8 (c : Dev nD) (t : Fin cfg0.N) : (looseDats m 0 c).after 8 t = iblk m c 8 t := by dsimp only [looseDats]
theorem loose_before8 (c : Dev nD) (t : Fin cfg0.N) (d) : (looseDats m 0 c).before 8 t d = iblk m c 8 t :=
  before0_8_of m (looseDats m 0 c) (loose_A m c 8) (loose_after8 m c) t d

theorem loose_after12 (c : Dev nD) (t : Fin cfg0.N) : (looseDats m 0 c).after 12 t = gqOut (iblk m c 0 t) (iblk m c 1 t) := by dsimp only [looseDats]

theorem loose_after13 (c : Dev nD) (t : Fin cfg0.N) : (looseDats m 0 c).after 13 t = gkOut (iblk m c 0 t) (iblk m c 1 t) := by dsimp only [looseDats]

theorem loose_after14 (c : Dev nD) (t : Fin cfg0.N) : (looseDats m 0 c).after 14 t = gvOut (iblk m c 0 t) (iblk m c 1 t) := by dsimp only [looseDats]

theorem loose_after15 (c : Dev nD) (t : Fin cfg0.N) : (looseDats m 0 c).after 15 t = goOut (iblk m c 0 t) (iblk m c 1 t) := by dsimp only [looseDats]

/-- What the body is called with at a point, window by window, -/
def loosePre (c : Dev nD) (t : Fin cfg0.N) : sProp 𝕄 :=
  iprop((looseDats m 0 c).Φ t.castSucc ∗ (looseDats m 0 c).owesAt () t.castSucc
    ∗ (∃ d, owns (c : Thread nD τ) (st0_0 t) fullShare ((looseDats m 0 c).before 0 t d))
    ∗ (∃ d, owns (c : Thread nD τ) (st0_1 t) fullShare ((looseDats m 0 c).before 1 t d))
    ∗ (∃ d, owns (c : Thread nD τ) (st0_2 t) fullShare ((looseDats m 0 c).before 2 t d))
    ∗ (∃ d, owns (c : Thread nD τ) (st0_3 t) fullShare ((looseDats m 0 c).before 3 t d))
    ∗ (∃ d, owns (c : Thread nD τ) (st0_4 t) fullShare ((looseDats m 0 c).before 4 t d))
    ∗ (∃ d, owns (c : Thread nD τ) (st0_5 t) fullShare ((looseDats m 0 c).before 5 t d))
    ∗ (∃ d, owns (c : Thread nD τ) (st0_6 t) fullShare ((looseDats m 0 c).before 6 t d))
    ∗ (∃ d, owns (c : Thread nD τ) (st0_7 t) fullShare ((looseDats m 0 c).before 7 t d))
    ∗ (∃ d, owns (c : Thread nD τ) (st0_8 t) fullShare ((looseDats m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare ((looseDats m 0 c).before 12 t d))
    ∗ (∃ d, owns (c : Thread nD τ) (st0_13 t) fullShare ((looseDats m 0 c).before 13 t d))
    ∗ (∃ d, owns (c : Thread nD τ) (st0_14 t) fullShare ((looseDats m 0 c).before 14 t d))
    ∗ (∃ d, owns (c : Thread nD τ) (st0_15 t) fullShare ((looseDats m 0 c).before 15 t d))
    ∗ (∃ d, owns (c : Thread nD τ) (st0_16 t) fullShare d)
    ∗ (∃ d, owns (c : Thread nD τ) (st0_17 t) fullShare d))

/-- and what it gives back. -/
def loosePost (c : Dev nD) (t : Fin cfg0.N) : sProp 𝕄 :=
  iprop((looseDats m 0 c).Φ t.succ ∗ (looseDats m 0 c).owesAt () t.succ
    ∗ owns (c : Thread nD τ) (st0_0 t) fullShare ((looseDats m 0 c).after 0 t)
    ∗ owns (c : Thread nD τ) (st0_1 t) fullShare ((looseDats m 0 c).after 1 t)
    ∗ owns (c : Thread nD τ) (st0_2 t) fullShare ((looseDats m 0 c).after 2 t)
    ∗ owns (c : Thread nD τ) (st0_3 t) fullShare ((looseDats m 0 c).after 3 t)
    ∗ owns (c : Thread nD τ) (st0_4 t) fullShare ((looseDats m 0 c).after 4 t)
    ∗ owns (c : Thread nD τ) (st0_5 t) fullShare ((looseDats m 0 c).after 5 t)
    ∗ owns (c : Thread nD τ) (st0_6 t) fullShare ((looseDats m 0 c).after 6 t)
    ∗ owns (c : Thread nD τ) (st0_7 t) fullShare ((looseDats m 0 c).after 7 t)
    ∗ owns (c : Thread nD τ) (st0_8 t) fullShare ((looseDats m 0 c).after 8 t)
    ∗ (∃ d, owns (c : Thread nD τ) (st0_9 t) fullShare d)
    ∗ (∃ d, owns (c : Thread nD τ) (st0_10 t) fullShare d)
    ∗ (∃ d, owns (c : Thread nD τ) (st0_11 t) fullShare d)
    ∗ owns (c : Thread nD τ) (st0_12 t) fullShare ((looseDats m 0 c).after 12 t)
    ∗ owns (c : Thread nD τ) (st0_13 t) fullShare ((looseDats m 0 c).after 13 t)
    ∗ owns (c : Thread nD τ) (st0_14 t) fullShare ((looseDats m 0 c).after 14 t)
    ∗ owns (c : Thread nD τ) (st0_15 t) fullShare ((looseDats m 0 c).after 15 t)
    ∗ (∃ d, owns (c : Thread nD τ) (st0_16 t) fullShare d)
    ∗ (∃ d, owns (c : Thread nD τ) (st0_17 t) fullShare d))

set_option maxHeartbeats 8000000 in
/-- The body at any point, from its one run: whatever the scratch buffers held. -/
theorem loose_body (c : Dev nD) (t : Fin cfg0.N) :
    loosePre m c t ⊢ wp frame (wpE (defs₀ (F := F)) Variants.none c none) Set.univ (bodyAt0 t) (fun _ => loosePost m c t) := by
  unfold loosePre loosePost bodyAt0
  simp only [loose_before0, loose_before1, loose_before2, loose_before3, loose_before4, loose_before5, loose_before6, loose_before7, loose_before8]
  rw [show (looseDats m 0 c).owesAt () t.succ = (looseDats m 0 c).owesAt () t.castSucc from rfl,
    loose_after0, loose_after1, loose_after2, loose_after3, loose_after4, loose_after5, loose_after6, loose_after7, loose_after8, loose_after12, loose_after13, loose_after14, loose_after15]
  rw [show (looseDats m 0 c).Φ t.succ = Pipeline.ΦA spec0 c from rfl, show (looseDats m 0 c).Φ t.castSucc = Pipeline.ΦA spec0 c from rfl, rest_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  have hout12 := run_gq c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) qM (Memref.isWhole_whole _) kM (Memref.isWhole_whole _) dM (Memref.isWhole_whole _) (iblk m c 0 t) (iblk m c 1 t) (iblk m c 2 t) (iblk m c 3 t) (iblk m c 4 t) (iblk m c 5 t) (iblk m c 6 t) (iblk m c 7 t) (iblk m c 8 t) d9 d10 d11 ((looseDats m 0 c).before 12 t d12) ((looseDats m 0 c).before 13 t d13) ((looseDats m 0 c).before 14 t d14) ((looseDats m 0 c).before 15 t d15) d16 d17 s0 s1 s2
  have hout13 := run_gk c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) qM (Memref.isWhole_whole _) kM (Memref.isWhole_whole _) dM (Memref.isWhole_whole _) (iblk m c 0 t) (iblk m c 1 t) (iblk m c 2 t) (iblk m c 3 t) (iblk m c 4 t) (iblk m c 5 t) (iblk m c 6 t) (iblk m c 7 t) (iblk m c 8 t) d9 d10 d11 ((looseDats m 0 c).before 12 t d12) ((looseDats m 0 c).before 13 t d13) ((looseDats m 0 c).before 14 t d14) ((looseDats m 0 c).before 15 t d15) d16 d17 s0 s1 s2
  have hout14 := run_gv c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) qM (Memref.isWhole_whole _) kM (Memref.isWhole_whole _) dM (Memref.isWhole_whole _) (iblk m c 0 t) (iblk m c 1 t) (iblk m c 2 t) (iblk m c 3 t) (iblk m c 4 t) (iblk m c 5 t) (iblk m c 6 t) (iblk m c 7 t) (iblk m c 8 t) d9 d10 d11 ((looseDats m 0 c).before 12 t d12) ((looseDats m 0 c).before 13 t d13) ((looseDats m 0 c).before 14 t d14) ((looseDats m 0 c).before 15 t d15) d16 d17 s0 s1 s2
  have hout15 := run_go c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) qM (Memref.isWhole_whole _) kM (Memref.isWhole_whole _) dM (Memref.isWhole_whole _) (iblk m c 0 t) (iblk m c 1 t) (iblk m c 2 t) (iblk m c 3 t) (iblk m c 4 t) (iblk m c 5 t) (iblk m c 6 t) (iblk m c 7 t) (iblk m c 8 t) d9 d10 d11 ((looseDats m 0 c).before 12 t d12) ((looseDats m 0 c).before 13 t d13) ((looseDats m 0 c).before 14 t d14) ((looseDats m 0 c).before 15 t d15) d16 d17 s0 s1 s2
  iapply ((bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) qM (Memref.isWhole_whole _) kM (Memref.isWhole_whole _) dM (Memref.isWhole_whole _) (iblk m c 0 t) (iblk m c 1 t) (iblk m c 2 t) (iblk m c 3 t) (iblk m c 4 t) (iblk m c 5 t) (iblk m c 6 t) (iblk m c 7 t) (iblk m c 8 t) d9 d10 d11 ((looseDats m 0 c).before 12 t d12) ((looseDats m 0 c).before 13 t d13) ((looseDats m 0 c).before 14 t d14) ((looseDats m 0 c).before 15 t d15) d16 d17 s0 s1 s2).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  iintro ⟨H0, H1, H2, H3, H4, H5, H6, H7, H8, H9, H10, H11, H12, H13, H14, H15, H16, H17, HS0, HS1, HS2⟩
  isplitl [HS0 HS1 HS2 Hg]
  · isplitl [HS0 HS1 HS2]
    · isplitl [HS0]
      · iexists _; iexact HS0
      isplitl [HS1]
      · iexists _; iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iapply (Idealize.SL.BI.BIBase.Entails.of_eq (congrArg (fun y => owns (c : Thread nD τ) (st0_12 t) fullShare y) hout12)); iexact H12
  isplitl [H13]; · iapply (Idealize.SL.BI.BIBase.Entails.of_eq (congrArg (fun y => owns (c : Thread nD τ) (st0_13 t) fullShare y) hout13)); iexact H13
  isplitl [H14]; · iapply (Idealize.SL.BI.BIBase.Entails.of_eq (congrArg (fun y => owns (c : Thread nD τ) (st0_14 t) fullShare y) hout14)); iexact H14
  isplitl [H15]; · iapply (Idealize.SL.BI.BIBase.Entails.of_eq (congrArg (fun y => owns (c : Thread nD τ) (st0_15 t) fullShare y) hout15)); iexact H15
  isplitl [H16]; · iexists _; iexact H16
  iexists _; iexact H17

/-- The table's row at a point is the body at that point. -/
theorem row_eq (t : Fin cfg0.N) :
    defs₀ (F := F) .tc cfg0.body (cfg0.bodyArgs t (cfg0.slots t)) = bodyAt0 t := by
  unfold defs₀; rw [Defs.onTc_tc]

theorem loose_obligation (c : Dev nD) : BodyObligation (looseDats (F := F) m 0 c) (defs₀ (F := F)) Variants.none () Set.univ unsaid := fun t => by
  rw [bigSep_W0, bigSep_W0, row_eq]
  exact triple_restated (loose_body m c t) rfl .rfl fun _ => .rfl

set_option backward.isDefEq.respectTransparency.types false in
/-- The launch, and every counter at zero at every final state. -/
theorem loose_run : θ_run defs (onTc (τ := τ) (main (F := F))) (s₀ m ρ) (fun r => (Pipeline.RDat.FramePost (cfgs 0) (fun c => (looseDats m 0 c).toRForget unsaid) (V m)) r ∧ r.2.sem = fun _ => 0) :=
  Pipeline.θ_run_frame_track_forget (Q' := _) cfgs (looseDats m) (0 : Fin 1) launch0 defs₀ Variants.none unsaid m ρ main
    (hbody := fun c => (loose_obligation m c).loose) (hshare := fun c => (looseDats m 0 c).share_full fun _ => rfl)
    (howed := fun _ _ => rfl) (V := V m) (hmain := hmain m Variants.none) (hA := loose_A m) (hin := fun _ => .rfl) (hout := fun _ => .rfl)

/-- The argument arrays end as launched. -/
theorem args_of (r : PUnit × MemSt nD τ sig (Elt F)) (h : Pipeline.RDat.FramePost (cfgs 0) (fun c => (looseDats m 0 c).toRForget unsaid) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) :=
  ⟨(Pipeline.RDat.FramePost.arr_in h c 0 rfl).trans (loose_A m c 0), (Pipeline.RDat.FramePost.arr_in h c 1 rfl).trans (loose_A m c 1), (Pipeline.RDat.FramePost.arr_in h c 2 rfl).trans (loose_A m c 2), (Pipeline.RDat.FramePost.arr_in h c 3 rfl).trans (loose_A m c 3), (Pipeline.RDat.FramePost.arr_in h c 4 rfl).trans (loose_A m c 4), (Pipeline.RDat.FramePost.arr_in h c 5 rfl).trans (loose_A m c 5), (Pipeline.RDat.FramePost.arr_in h c 6 rfl).trans (loose_A m c 6), (Pipeline.RDat.FramePost.arr_in h c 7 rfl).trans (loose_A m c 7), (Pipeline.RDat.FramePost.arr_in h c 8 rfl).trans (loose_A m c 8)⟩

/-- THE FRAME: the kernel runs to the end from any memory, its arguments end unchanged and every counter ends at
    zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))
      ∧ r.2.sem = fun _ => 0) :=
  (θ_run defs _ _).mono (fun r h => ⟨fun c => args_of m r h.1 c, h.2⟩) (loose_run m ρ)

end Cert.ProjIdeal.Proj

end
-- ==== Proof.Proj.Rows.lean ====
module

public import proofs.«01_k».proof.Proof.Proj.ProjIdealSpec
public import Idealize.ShloMosaic.Lib.Pointwise

@[expose] public section

set_option maxRecDepth 16384

noncomputable section

/-! # What a tile's plain projections hold, read at one token and column -/

namespace Cert.ProjIdeal.Proj

open Idealize.ShloMosaic Cert.ProjIdeal Cert.ProjIdeal.Gen

/-- The factor of the first projection. -/
abbrev eighth : EReal := Ideal.ofBits .f32 0x3E000000#32

theorem slice_apply (x : Vec Ideal S1024x2432 .bf16) (n : ℕ) (inb) (k : Fin 1024) (j : Fin 256) (hj : n + j.val < 2432) :
    View.ld x (Rect.unit ![0, n] S1024x256.size inb) (ix2 k j) = x (ix2 k ⟨n + j.val, hj⟩) := by
  pointwise

theorem pay_q (x0 : Vec Ideal S1x1024x1024 .f32) (w : Vec Ideal S1024x256 .bf16) (r : Fin 1024) (j : Fin 256) :
    k0_pay10 (k0_pay8 x0) w (ix3 0 r j) = (∑ k, x0 (ix3 0 r k) * w (ix2 k j)) * eighth := by
  pointwise [k0_pay10, k0_pay8]

theorem pay_k (x0 : Vec Ideal S1x1024x1024 .f32) (w : Vec Ideal S1024x256 .bf16) (r : Fin 1024) (j : Fin 256) :
    k0_pay20 (k0_pay8 x0) w (ix3 0 r j) = ∑ k, x0 (ix3 0 r k) * w (ix2 k j) := by
  pointwise [k0_pay20, k0_pay8]

theorem pay_v (x0 : Vec Ideal S1x1024x1024 .f32) (w : Vec Ideal S1024x256 .bf16) (r : Fin 1024) (j : Fin 256) :
    k0_pay27 (k0_pay8 x0) w (ix3 0 r j) = ∑ k, x0 (ix3 0 r k) * w (ix2 k j) := by
  pointwise [k0_pay27, k0_pay8]

theorem pay_v' (x0 : Vec Ideal S1x1024x1024 .f32) (w : Vec Ideal S1024x256 .bf16) (r : Fin 1024) (j : Fin 256) :
    k0_pay36 (k0_pay8 x0) w (ix3 0 r j) = ∑ k, x0 (ix3 0 r k) * w (ix2 k j) := by
  pointwise [k0_pay36, k0_pay8]

theorem pay_o (x0 : Vec Ideal S1x1024x1024 .f32) (w : Vec Ideal S1024x256 .bf16) (r : Fin 1024) (j : Fin 256) :
    k0_pay44 (k0_pay43 (k0_pay8 x0) w) (ix3 0 r j) = ∑ k, x0 (ix3 0 r k) * w (ix2 k j) := by
  pointwise [k0_pay44, k0_pay43, k0_pay8]

theorem pay_o' (x0 : Vec Ideal S1x1024x1024 .f32) (w : Vec Ideal S1024x256 .bf16) (r : Fin 1024) (j : Fin 256) :
    k0_pay49 (k0_pay8 x0) w (ix3 0 r j) = ∑ k, x0 (ix3 0 r k) * w (ix2 k j) := by
  pointwise [k0_pay49, k0_pay8]

theorem halves_apply (a b : FVec Ideal S1x1024x256 .bf16) (r : Fin 1024) (j : Fin 512) :
    halves a b (ix3 0 r j) = if h : j.val < 256 then a (ix3 0 r ⟨j.val, h⟩) else b (ix3 0 r ⟨j.val - 256, by omega⟩) := rfl

/-! ## The four outputs -/

theorem gq_apply (x0 : Vec Ideal S1x1024x1024 .f32) (x1 : Vec Ideal S1024x2432 .bf16) (r : Fin 1024) (j : Fin 256) :
    gqOut x0 x1 (ix3 0 r j) = (∑ k : Fin 1024, x0 (ix3 0 r k) * x1 (ix2 k (⟨768 + j.val, by omega⟩ : Fin 2432))) * eighth := by
  unfold gqOut
  rw [pay_q]
  simp only [slice_apply x1 768 _ _ j (by omega)]

theorem gk_apply (x0 : Vec Ideal S1x1024x1024 .f32) (x1 : Vec Ideal S1024x2432 .bf16) (r : Fin 1024) (j : Fin 256) :
    gkOut x0 x1 (ix3 0 r j) = (∑ k : Fin 1024, x0 (ix3 0 r k) * x1 (ix2 k (⟨1024 + j.val, by omega⟩ : Fin 2432))) := by
  unfold gkOut
  rw [pay_k]
  simp only [slice_apply x1 1024 _ _ j (by omega)]

theorem gv_apply (x0 : Vec Ideal S1x1024x1024 .f32) (x1 : Vec Ideal S1024x2432 .bf16) (r : Fin 1024) (j : Fin 512) :
    gvOut x0 x1 (ix3 0 r j) = (∑ k : Fin 1024, x0 (ix3 0 r k) * x1 (ix2 k (⟨1280 + j.val, by omega⟩ : Fin 2432))) := by
  unfold gvOut
  rw [halves_apply]
  by_cases h : j.val < 256
  · rw [dif_pos h, pay_v]
    simp only [slice_apply x1 1280 _ _ (⟨j.val, h⟩ : Fin 256) (by dsimp only; omega)]
  · rw [dif_neg h, pay_v']
    simp only [slice_apply x1 1536 _ _ (⟨j.val - 256, by omega⟩ : Fin 256) (by dsimp only; omega)]
    refine Finset.sum_congr rfl fun k _ => congrArg (fun y => x0 (ix3 0 r k) * x1 (ix2 k y)) (Fin.ext ?_)
    show 1536 + (j.val - 256) = 1280 + j.val
    omega

theorem go_apply (x0 : Vec Ideal S1x1024x1024 .f32) (x1 : Vec Ideal S1024x2432 .bf16) (r : Fin 1024) (j : Fin 512) :
    goOut x0 x1 (ix3 0 r j) = (∑ k : Fin 1024, x0 (ix3 0 r k) * x1 (ix2 k (⟨1792 + j.val, by omega⟩ : Fin 2432))) := by
  unfold goOut
  rw [halves_apply]
  by_cases h : j.val < 256
  · rw [dif_pos h, pay_o]
    simp only [slice_apply x1 1792 _ _ (⟨j.val, h⟩ : Fin 256) (by dsimp only; omega)]
  · rw [dif_neg h, pay_o']
    simp only [slice_apply x1 2048 _ _ (⟨j.val - 256, by omega⟩ : Fin 256) (by dsimp only; omega)]
    refine Finset.sum_congr rfl fun k _ => congrArg (fun y => x0 (ix3 0 r k) * x1 (ix2 k y)) (Fin.ext ?_)
    show 2048 + (j.val - 256) = 1792 + j.val
    omega

end Cert.ProjIdeal.Proj

end
-- ==== Proof.Proj.ProjIdealArray.lean ====
module

public import proofs.«01_k».proof.Proof.Proj.ProjIdealFrame
public import proofs.«01_k».proof.Proof.Proj.Rows

@[expose] public section

set_option maxRecDepth 16384

noncomputable section

/-! # The four result arrays: the written blocks tile them -/

namespace Cert.ProjIdeal.Proj

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ)

/-- The two arguments the four results depend on: the layer's input and the fused weights. -/
abbrev arg0 (c : Dev nD) : FVec Ideal S8x4096x1024 .f32 := m ((c.tc : Thread nD τ).loc main_arg0)
abbrev arg1 (c : Dev nD) : FVec Ideal S1024x2432 .bf16 := m ((c.tc : Thread nD τ).loc main_arg1)

/-! ## Where a point's blocks lie: the last point visits the last tile again -/

theorem index0 : ∀ t : Fin grid0.N, win0_0.index t 0 = min t.val 31 % 8 ∧ win0_0.index t 1 = min t.val 31 / 8 ∧ win0_0.index t 2 = 0 := by decide +kernel
theorem index1 : ∀ t : Fin grid0.N, win0_1.index t 0 = 0 ∧ win0_1.index t 1 = 0 := by decide +kernel
theorem points : ∀ t : Fin cfg0.N, t.val < 33 := fun t => t.isLt

theorem block0 (c : Dev nD) (t : Fin cfg0.N) (r : Fin 1024) (k : Fin 1024) (b : Fin 8) (q : Fin 4096) (hb : b.val = min t.val 31 % 8)
    (hq : q.val = min t.val 31 / 8 * 1024 + r.val) : (iblk m c 0 t : FVec Ideal S1x1024x1024 .f32) (ix3 0 r k) = arg0 m c (ix3 b q k) := by
  refine congrArg (arg0 m c) (funext fun a => Fin.ext ?_)
  obtain ⟨e0, e1, e2⟩ := index0 t
  match a with
  | ⟨0, _⟩ => show win0_0.index t 0 * 1 + 1 * 0 = b.val; omega
  | ⟨1, _⟩ => show win0_0.index t 1 * 1024 + 1 * r.val = q.val; omega
  | ⟨2, _⟩ => show win0_0.index t 2 * 1024 + 1 * k.val = k.val; omega

theorem block1 (c : Dev nD) (t : Fin cfg0.N) : (iblk m c 1 t : FVec Ideal S1024x2432 .bf16) = arg1 m c := by
  refine funext fun j => congrArg (arg1 m c) (funext fun a => Fin.ext ?_)
  obtain ⟨e0, e1⟩ := index1 t
  match a with
  | ⟨0, _⟩ => show win0_1.index t 0 * 1024 + 1 * (j 0).val = (j 0).val; omega
  | ⟨1, _⟩ => show win0_1.index t 1 * 2432 + 1 * (j 1).val = (j 1).val; omega

/-- The tile of an element. -/
theorem tile_of (b q : ℕ) (hb : b < 8) (hq : q < 4096) : ∃ t : Fin cfg0.N, t.val ≠ 31 ∧ min t.val 31 % 8 = b ∧ min t.val 31 / 8 = q / 1024 := by
  by_cases h : q / 1024 * 8 + b < 31
  · exact ⟨⟨q / 1024 * 8 + b, by show q / 1024 * 8 + b < 33; omega⟩, by dsimp only; omega, by dsimp only; omega, by dsimp only; omega⟩
  · exact ⟨⟨32, by decide⟩, by dsimp only; omega, by dsimp only; omega, by dsimp only; omega⟩

/-! ## Window 12 -/

theorem index12 : ∀ t : Fin grid0.N, win0_12.index t 0 = min t.val 31 % 8 ∧ win0_12.index t 1 = min t.val 31 / 8 ∧ win0_12.index t 2 = 0 := by decide +kernel
theorem flush12 : ∀ t : Fin grid0.N, (cfg0.win 12).flush t = true ↔ t.val ≠ 31 := by decide +kernel

/-- The array the points' blocks are the parts of, from the call's arguments. -/
def gqRows (c : Dev nD) (R : FVec Ideal S8x4096x256 .bf16) : Prop := ∀ (b : Fin 8) (q : Fin 4096) (j : Fin 256),
  R (ix3 b q j) = (∑ k : Fin 1024, arg0 m c (ix3 b q k) * arg1 m c (ix2 k (⟨768 + j.val, by omega⟩ : Fin 2432))) * eighth

theorem flushed12 (c : Dev nD) (R : FVec Ideal S8x4096x256 .bf16) (hR : gqRows m c R) (t : Fin cfg0.N) (hf : (cfg0.win 12).flush t = true) :
    (looseDats m 0 c).flushed 12 t = ((cfg0.win 12).blk t).view.read (Elt Ideal) R := by
  show (cfg0.win 12).cut (grid0.coords t) ((looseDats m 0 c).after 12 t) = _
  rw [loose_after12]
  have hN := points t
  obtain ⟨e0, e1, e2⟩ := index12 t
  funext j
  have h0 : (j 0).val < 1 := (j 0).isLt
  have h1 : (j 1).val < 1024 := (j 1).isLt
  have h2 : (j 2).val < 256 := (j 2).isLt
  have hj : j = ix3 (0 : Fin 1) (⟨(j 1).val, h1⟩ : Fin 1024) (⟨(j 2).val, h2⟩ : Fin 256) := funext fun a => by
    match a with
    | ⟨0, _⟩ => exact Fin.ext (by show (j 0).val = 0; omega)
    | ⟨1, _⟩ => rfl
    | ⟨2, _⟩ => rfl
  show gqOut (iblk m c 0 t) (iblk m c 1 t) j = R (((cfg0.win 12).blk t).view.emb j)
  have he : ((cfg0.win 12).blk t).view.emb j = ix3 (⟨min t.val 31 % 8, by omega⟩ : Fin 8) (⟨min t.val 31 / 8 * 1024 + (j 1).val, by omega⟩ : Fin 4096)
      (⟨(j 2).val, h2⟩ : Fin 256) := by
    funext a; apply Fin.ext
    match a with
    | ⟨0, _⟩ => show win0_12.index t 0 * 1 + 1 * (j 0).val = min t.val 31 % 8; omega
    | ⟨1, _⟩ => show win0_12.index t 1 * 1024 + 1 * (j 1).val = min t.val 31 / 8 * 1024 + (j 1).val; omega
    | ⟨2, _⟩ => show win0_12.index t 2 * 256 + 1 * (j 2).val = (j 2).val; omega
  rw [he, hR]
  refine (congrArg (gqOut (iblk m c 0 t) (iblk m c 1 t)) hj).trans ((gq_apply _ _ _ _).trans ?_)
  rw [block1]
  simp only [block0 m c t (⟨(j 1).val, h1⟩ : Fin 1024) _ (⟨min t.val 31 % 8, by omega⟩ : Fin 8) (⟨min t.val 31 / 8 * 1024 + (j 1).val, by omega⟩ : Fin 4096) rfl rfl]

theorem cover12 (i : S8x4096x256.Idx) : ∃ t : Fin cfg0.N, (cfg0.win 12).flush t = true ∧ i ∈ ((cfg0.win 12).blk t).view.set := by
  have h0 : (i 0).val < 8 := (i 0).isLt
  have h1 : (i 1).val < 4096 := (i 1).isLt
  have h2 : (i 2).val < 256 := (i 2).isLt
  obtain ⟨t, ht, hb, hq⟩ := tile_of (i 0).val (i 1).val h0 h1
  refine ⟨t, (flush12 t).2 ht, ?_⟩
  obtain ⟨e0, e1, e2⟩ := index12 t
  show i ∈ ((View.whole main_v0_3).slice (win0_12.rect (t : Fin grid0.N))).set
  rw [View.set_slice_whole, Rect.mem_set_unit]
  intro a
  match a with
  | ⟨0, _⟩ =>
    show win0_12.index _ 0 * 1 ≤ (i 0).val ∧ (i 0).val < win0_12.index _ 0 * 1 + 1
    rw [e0]; omega
  | ⟨1, _⟩ =>
    show win0_12.index _ 1 * 1024 ≤ (i 1).val ∧ (i 1).val < win0_12.index _ 1 * 1024 + 1024
    rw [e1]; omega
  | ⟨2, _⟩ =>
    show win0_12.index _ 2 * 256 ≤ (i 2).val ∧ (i 2).val < win0_12.index _ 2 * 256 + 256
    rw [e2]; omega

theorem final12 (c : Dev nD) (R : FVec Ideal S8x4096x256 .bf16) (hR : gqRows m c R) : (looseDats m 0 c).arrAt 12 cfg0.N = R :=
  (looseDats m 0 c).arrAt_eq_of_cover 12 R (flushed12 m c R hR) cover12

/-! ## Window 13 -/

theorem index13 : ∀ t : Fin grid0.N, win0_13.index t 0 = min t.val 31 % 8 ∧ win0_13.index t 1 = min t.val 31 / 8 ∧ win0_13.index t 2 = 0 := by decide +kernel
theorem flush13 : ∀ t : Fin grid0.N, (cfg0.win 13).flush t = true ↔ t.val ≠ 31 := by decide +kernel

/-- The array the points' blocks are the parts of, from the call's arguments. -/
def gkRows (c : Dev nD) (R : FVec Ideal S8x4096x256 .bf16) : Prop := ∀ (b : Fin 8) (q : Fin 4096) (j : Fin 256),
  R (ix3 b q j) = (∑ k : Fin 1024, arg0 m c (ix3 b q k) * arg1 m c (ix2 k (⟨1024 + j.val, by omega⟩ : Fin 2432)))

theorem flushed13 (c : Dev nD) (R : FVec Ideal S8x4096x256 .bf16) (hR : gkRows m c R) (t : Fin cfg0.N) (hf : (cfg0.win 13).flush t = true) :
    (looseDats m 0 c).flushed 13 t = ((cfg0.win 13).blk t).view.read (Elt Ideal) R := by
  show (cfg0.win 13).cut (grid0.coords t) ((looseDats m 0 c).after 13 t) = _
  rw [loose_after13]
  have hN := points t
  obtain ⟨e0, e1, e2⟩ := index13 t
  funext j
  have h0 : (j 0).val < 1 := (j 0).isLt
  have h1 : (j 1).val < 1024 := (j 1).isLt
  have h2 : (j 2).val < 256 := (j 2).isLt
  have hj : j = ix3 (0 : Fin 1) (⟨(j 1).val, h1⟩ : Fin 1024) (⟨(j 2).val, h2⟩ : Fin 256) := funext fun a => by
    match a with
    | ⟨0, _⟩ => exact Fin.ext (by show (j 0).val = 0; omega)
    | ⟨1, _⟩ => rfl
    | ⟨2, _⟩ => rfl
  show gkOut (iblk m c 0 t) (iblk m c 1 t) j = R (((cfg0.win 13).blk t).view.emb j)
  have he : ((cfg0.win 13).blk t).view.emb j = ix3 (⟨min t.val 31 % 8, by omega⟩ : Fin 8) (⟨min t.val 31 / 8 * 1024 + (j 1).val, by omega⟩ : Fin 4096)
      (⟨(j 2).val, h2⟩ : Fin 256) := by
    funext a; apply Fin.ext
    match a with
    | ⟨0, _⟩ => show win0_13.index t 0 * 1 + 1 * (j 0).val = min t.val 31 % 8; omega
    | ⟨1, _⟩ => show win0_13.index t 1 * 1024 + 1 * (j 1).val = min t.val 31 / 8 * 1024 + (j 1).val; omega
    | ⟨2, _⟩ => show win0_13.index t 2 * 256 + 1 * (j 2).val = (j 2).val; omega
  rw [he, hR]
  refine (congrArg (gkOut (iblk m c 0 t) (iblk m c 1 t)) hj).trans ((gk_apply _ _ _ _).trans ?_)
  rw [block1]
  simp only [block0 m c t (⟨(j 1).val, h1⟩ : Fin 1024) _ (⟨min t.val 31 % 8, by omega⟩ : Fin 8) (⟨min t.val 31 / 8 * 1024 + (j 1).val, by omega⟩ : Fin 4096) rfl rfl]

theorem cover13 (i : S8x4096x256.Idx) : ∃ t : Fin cfg0.N, (cfg0.win 13).flush t = true ∧ i ∈ ((cfg0.win 13).blk t).view.set := by
  have h0 : (i 0).val < 8 := (i 0).isLt
  have h1 : (i 1).val < 4096 := (i 1).isLt
  have h2 : (i 2).val < 256 := (i 2).isLt
  obtain ⟨t, ht, hb, hq⟩ := tile_of (i 0).val (i 1).val h0 h1
  refine ⟨t, (flush13 t).2 ht, ?_⟩
  obtain ⟨e0, e1, e2⟩ := index13 t
  show i ∈ ((View.whole main_v0_4).slice (win0_13.rect (t : Fin grid0.N))).set
  rw [View.set_slice_whole, Rect.mem_set_unit]
  intro a
  match a with
  | ⟨0, _⟩ =>
    show win0_13.index _ 0 * 1 ≤ (i 0).val ∧ (i 0).val < win0_13.index _ 0 * 1 + 1
    rw [e0]; omega
  | ⟨1, _⟩ =>
    show win0_13.index _ 1 * 1024 ≤ (i 1).val ∧ (i 1).val < win0_13.index _ 1 * 1024 + 1024
    rw [e1]; omega
  | ⟨2, _⟩ =>
    show win0_13.index _ 2 * 256 ≤ (i 2).val ∧ (i 2).val < win0_13.index _ 2 * 256 + 256
    rw [e2]; omega

theorem final13 (c : Dev nD) (R : FVec Ideal S8x4096x256 .bf16) (hR : gkRows m c R) : (looseDats m 0 c).arrAt 13 cfg0.N = R :=
  (looseDats m 0 c).arrAt_eq_of_cover 13 R (flushed13 m c R hR) cover13

/-! ## Window 14 -/

theorem index14 : ∀ t : Fin grid0.N, win0_14.index t 0 = min t.val 31 % 8 ∧ win0_14.index t 1 = min t.val 31 / 8 ∧ win0_14.index t 2 = 0 := by decide +kernel
theorem flush14 : ∀ t : Fin grid0.N, (cfg0.win 14).flush t = true ↔ t.val ≠ 31 := by decide +kernel

/-- The array the points' blocks are the parts of, from the call's arguments. -/
def gvRows (c : Dev nD) (R : FVec Ideal S8x4096x512 .bf16) : Prop := ∀ (b : Fin 8) (q : Fin 4096) (j : Fin 512),
  R (ix3 b q j) = (∑ k : Fin 1024, arg0 m c (ix3 b q k) * arg1 m c (ix2 k (⟨1280 + j.val, by omega⟩ : Fin 2432)))

theorem flushed14 (c : Dev nD) (R : FVec Ideal S8x4096x512 .bf16) (hR : gvRows m c R) (t : Fin cfg0.N) (hf : (cfg0.win 14).flush t = true) :
    (looseDats m 0 c).flushed 14 t = ((cfg0.win 14).blk t).view.read (Elt Ideal) R := by
  show (cfg0.win 14).cut (grid0.coords t) ((looseDats m 0 c).after 14 t) = _
  rw [loose_after14]
  have hN := points t
  obtain ⟨e0, e1, e2⟩ := index14 t
  funext j
  have h0 : (j 0).val < 1 := (j 0).isLt
  have h1 : (j 1).val < 1024 := (j 1).isLt
  have h2 : (j 2).val < 512 := (j 2).isLt
  have hj : j = ix3 (0 : Fin 1) (⟨(j 1).val, h1⟩ : Fin 1024) (⟨(j 2).val, h2⟩ : Fin 512) := funext fun a => by
    match a with
    | ⟨0, _⟩ => exact Fin.ext (by show (j 0).val = 0; omega)
    | ⟨1, _⟩ => rfl
    | ⟨2, _⟩ => rfl
  show gvOut (iblk m c 0 t) (iblk m c 1 t) j = R (((cfg0.win 14).blk t).view.emb j)
  have he : ((cfg0.win 14).blk t).view.emb j = ix3 (⟨min t.val 31 % 8, by omega⟩ : Fin 8) (⟨min t.val 31 / 8 * 1024 + (j 1).val, by omega⟩ : Fin 4096)
      (⟨(j 2).val, h2⟩ : Fin 512) := by
    funext a; apply Fin.ext
    match a with
    | ⟨0, _⟩ => show win0_14.index t 0 * 1 + 1 * (j 0).val = min t.val 31 % 8; omega
    | ⟨1, _⟩ => show win0_14.index t 1 * 1024 + 1 * (j 1).val = min t.val 31 / 8 * 1024 + (j 1).val; omega
    | ⟨2, _⟩ => show win0_14.index t 2 * 512 + 1 * (j 2).val = (j 2).val; omega
  rw [he, hR]
  refine (congrArg (gvOut (iblk m c 0 t) (iblk m c 1 t)) hj).trans ((gv_apply _ _ _ _).trans ?_)
  rw [block1]
  simp only [block0 m c t (⟨(j 1).val, h1⟩ : Fin 1024) _ (⟨min t.val 31 % 8, by omega⟩ : Fin 8) (⟨min t.val 31 / 8 * 1024 + (j 1).val, by omega⟩ : Fin 4096) rfl rfl]

theorem cover14 (i : S8x4096x512.Idx) : ∃ t : Fin cfg0.N, (cfg0.win 14).flush t = true ∧ i ∈ ((cfg0.win 14).blk t).view.set := by
  have h0 : (i 0).val < 8 := (i 0).isLt
  have h1 : (i 1).val < 4096 := (i 1).isLt
  have h2 : (i 2).val < 512 := (i 2).isLt
  obtain ⟨t, ht, hb, hq⟩ := tile_of (i 0).val (i 1).val h0 h1
  refine ⟨t, (flush14 t).2 ht, ?_⟩
  obtain ⟨e0, e1, e2⟩ := index14 t
  show i ∈ ((View.whole main_v0_5).slice (win0_14.rect (t : Fin grid0.N))).set
  rw [View.set_slice_whole, Rect.mem_set_unit]
  intro a
  match a with
  | ⟨0, _⟩ =>
    show win0_14.index _ 0 * 1 ≤ (i 0).val ∧ (i 0).val < win0_14.index _ 0 * 1 + 1
    rw [e0]; omega
  | ⟨1, _⟩ =>
    show win0_14.index _ 1 * 1024 ≤ (i 1).val ∧ (i 1).val < win0_14.index _ 1 * 1024 + 1024
    rw [e1]; omega
  | ⟨2, _⟩ =>
    show win0_14.index _ 2 * 512 ≤ (i 2).val ∧ (i 2).val < win0_14.index _ 2 * 512 + 512
    rw [e2]; omega

theorem final14 (c : Dev nD) (R : FVec Ideal S8x4096x512 .bf16) (hR : gvRows m c R) : (looseDats m 0 c).arrAt 14 cfg0.N = R :=
  (looseDats m 0 c).arrAt_eq_of_cover 14 R (flushed14 m c R hR) cover14

/-! ## Window 15 -/

theorem index15 : ∀ t : Fin grid0.N, win0_15.index t 0 = min t.val 31 % 8 ∧ win0_15.index t 1 = min t.val 31 / 8 ∧ win0_15.index t 2 = 0 := by decide +kernel
theorem flush15 : ∀ t : Fin grid0.N, (cfg0.win 15).flush t = true ↔ t.val ≠ 31 := by decide +kernel

/-- The array the points' blocks are the parts of, from the call's arguments. -/
def goRows (c : Dev nD) (R : FVec Ideal S8x4096x512 .bf16) : Prop := ∀ (b : Fin 8) (q : Fin 4096) (j : Fin 512),
  R (ix3 b q j) = (∑ k : Fin 1024, arg0 m c (ix3 b q k) * arg1 m c (ix2 k (⟨1792 + j.val, by omega⟩ : Fin 2432)))

theorem flushed15 (c : Dev nD) (R : FVec Ideal S8x4096x512 .bf16) (hR : goRows m c R) (t : Fin cfg0.N) (hf : (cfg0.win 15).flush t = true) :
    (looseDats m 0 c).flushed 15 t = ((cfg0.win 15).blk t).view.read (Elt Ideal) R := by
  show (cfg0.win 15).cut (grid0.coords t) ((looseDats m 0 c).after 15 t) = _
  rw [loose_after15]
  have hN := points t
  obtain ⟨e0, e1, e2⟩ := index15 t
  funext j
  have h0 : (j 0).val < 1 := (j 0).isLt
  have h1 : (j 1).val < 1024 := (j 1).isLt
  have h2 : (j 2).val < 512 := (j 2).isLt
  have hj : j = ix3 (0 : Fin 1) (⟨(j 1).val, h1⟩ : Fin 1024) (⟨(j 2).val, h2⟩ : Fin 512) := funext fun a => by
    match a with
    | ⟨0, _⟩ => exact Fin.ext (by show (j 0).val = 0; omega)
    | ⟨1, _⟩ => rfl
    | ⟨2, _⟩ => rfl
  show goOut (iblk m c 0 t) (iblk m c 1 t) j = R (((cfg0.win 15).blk t).view.emb j)
  have he : ((cfg0.win 15).blk t).view.emb j = ix3 (⟨min t.val 31 % 8, by omega⟩ : Fin 8) (⟨min t.val 31 / 8 * 1024 + (j 1).val, by omega⟩ : Fin 4096)
      (⟨(j 2).val, h2⟩ : Fin 512) := by
    funext a; apply Fin.ext
    match a with
    | ⟨0, _⟩ => show win0_15.index t 0 * 1 + 1 * (j 0).val = min t.val 31 % 8; omega
    | ⟨1, _⟩ => show win0_15.index t 1 * 1024 + 1 * (j 1).val = min t.val 31 / 8 * 1024 + (j 1).val; omega
    | ⟨2, _⟩ => show win0_15.index t 2 * 512 + 1 * (j 2).val = (j 2).val; omega
  rw [he, hR]
  refine (congrArg (goOut (iblk m c 0 t) (iblk m c 1 t)) hj).trans ((go_apply _ _ _ _).trans ?_)
  rw [block1]
  simp only [block0 m c t (⟨(j 1).val, h1⟩ : Fin 1024) _ (⟨min t.val 31 % 8, by omega⟩ : Fin 8) (⟨min t.val 31 / 8 * 1024 + (j 1).val, by omega⟩ : Fin 4096) rfl rfl]

theorem cover15 (i : S8x4096x512.Idx) : ∃ t : Fin cfg0.N, (cfg0.win 15).flush t = true ∧ i ∈ ((cfg0.win 15).blk t).view.set := by
  have h0 : (i 0).val < 8 := (i 0).isLt
  have h1 : (i 1).val < 4096 := (i 1).isLt
  have h2 : (i 2).val < 512 := (i 2).isLt
  obtain ⟨t, ht, hb, hq⟩ := tile_of (i 0).val (i 1).val h0 h1
  refine ⟨t, (flush15 t).2 ht, ?_⟩
  obtain ⟨e0, e1, e2⟩ := index15 t
  show i ∈ ((View.whole main_v0_6).slice (win0_15.rect (t : Fin grid0.N))).set
  rw [View.set_slice_whole, Rect.mem_set_unit]
  intro a
  match a with
  | ⟨0, _⟩ =>
    show win0_15.index _ 0 * 1 ≤ (i 0).val ∧ (i 0).val < win0_15.index _ 0 * 1 + 1
    rw [e0]; omega
  | ⟨1, _⟩ =>
    show win0_15.index _ 1 * 1024 ≤ (i 1).val ∧ (i 1).val < win0_15.index _ 1 * 1024 + 1024
    rw [e1]; omega
  | ⟨2, _⟩ =>
    show win0_15.index _ 2 * 512 ≤ (i 2).val ∧ (i 2).val < win0_15.index _ 2 * 512 + 512
    rw [e2]; omega

theorem final15 (c : Dev nD) (R : FVec Ideal S8x4096x512 .bf16) (hR : goRows m c R) : (looseDats m 0 c).arrAt 15 cfg0.N = R :=
  (looseDats m 0 c).arrAt_eq_of_cover 15 R (flushed15 m c R hR) cover15

end Cert.ProjIdeal.Proj

end
-- ==== Proof.Proj.ReferenceRows.lean ====
module

public import proofs.«01_k».proof.Proof.Gen.ProjReferenceIdeal.Read
public import Idealize.ShloMosaic.Lib.Pointwise

@[expose] public section

set_option maxRecDepth 16384

noncomputable section

/-! # The reference's four projections, read at one token and column -/

namespace Cert.ProjReferenceIdeal.Proj

open Idealize.ShloMosaic Cert.ProjReferenceIdeal Cert.ProjReferenceIdeal.Gen Cert.ProjReferenceIdeal.Read

variable (x : FVec Ideal S8x4096x1024 .f32) (w : FVec Ideal S1024x2432 .bf16)

theorem product_apply (b : Fin 8) (q : Fin 4096) (j : Fin 2432) :
    val_main_v1 (F := Ideal) x w (ix3 b q j) = ∑ k : Fin 1024, x (ix3 b q k) * w (ix2 k j) := by
  rw [val_main_v1_apply]
  refine Finset.sum_congr rfl fun k _ => ?_
  have el : lidx_main_v1 (ix3 b q j) k = ix3 b q k := funext fun a => by
    match a with
    | ⟨0, _⟩ => rfl
    | ⟨1, _⟩ => rfl
    | ⟨2, _⟩ => rfl
  have er : ridx_main_v1 (ix3 b q j) k = ix2 k j := funext fun a => by
    match a with
    | ⟨0, _⟩ => rfl
    | ⟨1, _⟩ => rfl
  rw [el, er]
  rfl

theorem gq_slice (b : Fin 8) (q : Fin 4096) (j : Fin 256) :
    val_main_v3 (F := Ideal) x w (ix3 b q j) = ∑ k : Fin 1024, x (ix3 b q k) * w (ix2 k (⟨768 + j.val, by omega⟩ : Fin 2432)) := by
  rw [val_main_v3_apply, val_main_v2_apply]
  refine Eq.trans (congrArg (val_main_v1 (F := Ideal) x w) ?_) (product_apply x w b q (⟨768 + j.val, by omega⟩ : Fin 2432))
  funext a
  match a with
  | ⟨0, _⟩ => rfl
  | ⟨1, _⟩ => rfl
  | ⟨2, _⟩ => exact Fin.ext (by show 768 + j.val = 768 + j.val; omega)

theorem gq_apply (b : Fin 8) (q : Fin 4096) (j : Fin 256) :
    val_main_v9 (F := Ideal) x w (ix3 b q j) = (∑ k : Fin 1024, x (ix3 b q k) * w (ix2 k (⟨768 + j.val, by omega⟩ : Fin 2432))) * Ideal.ofBits .f32 0x3E000000#32 := by
  rw [← gq_slice]
  rfl

theorem gk_slice (b : Fin 8) (q : Fin 4096) (j : Fin 256) :
    val_main_v4 (F := Ideal) x w (ix3 b q j) = ∑ k : Fin 1024, x (ix3 b q k) * w (ix2 k (⟨1024 + j.val, by omega⟩ : Fin 2432)) := by
  rw [val_main_v4_apply, val_main_v2_apply]
  refine Eq.trans (congrArg (val_main_v1 (F := Ideal) x w) ?_) (product_apply x w b q (⟨1024 + j.val, by omega⟩ : Fin 2432))
  funext a
  match a with
  | ⟨0, _⟩ => rfl
  | ⟨1, _⟩ => rfl
  | ⟨2, _⟩ => exact Fin.ext (by show 768 + (256 + j.val) = 1024 + j.val; omega)

theorem gk_apply (b : Fin 8) (q : Fin 4096) (j : Fin 256) :
    val_main_v10 (F := Ideal) x w (ix3 b q j) = (∑ k : Fin 1024, x (ix3 b q k) * w (ix2 k (⟨1024 + j.val, by omega⟩ : Fin 2432))) := by
  rw [← gk_slice]
  rfl

theorem gv_slice (b : Fin 8) (q : Fin 4096) (j : Fin 512) :
    val_main_v5 (F := Ideal) x w (ix3 b q j) = ∑ k : Fin 1024, x (ix3 b q k) * w (ix2 k (⟨1280 + j.val, by omega⟩ : Fin 2432)) := by
  rw [val_main_v5_apply, val_main_v2_apply]
  refine Eq.trans (congrArg (val_main_v1 (F := Ideal) x w) ?_) (product_apply x w b q (⟨1280 + j.val, by omega⟩ : Fin 2432))
  funext a
  match a with
  | ⟨0, _⟩ => rfl
  | ⟨1, _⟩ => rfl
  | ⟨2, _⟩ => exact Fin.ext (by show 768 + (512 + j.val) = 1280 + j.val; omega)

theorem gv_apply (b : Fin 8) (q : Fin 4096) (j : Fin 512) :
    val_main_v11 (F := Ideal) x w (ix3 b q j) = (∑ k : Fin 1024, x (ix3 b q k) * w (ix2 k (⟨1280 + j.val, by omega⟩ : Fin 2432))) := by
  rw [← gv_slice]
  rfl

theorem go_slice (b : Fin 8) (q : Fin 4096) (j : Fin 512) :
    val_main_v6 (F := Ideal) x w (ix3 b q j) = ∑ k : Fin 1024, x (ix3 b q k) * w (ix2 k (⟨1792 + j.val, by omega⟩ : Fin 2432)) := by
  rw [val_main_v6_apply, val_main_v2_apply]
  refine Eq.trans (congrArg (val_main_v1 (F := Ideal) x w) ?_) (product_apply x w b q (⟨1792 + j.val, by omega⟩ : Fin 2432))
  funext a
  match a with
  | ⟨0, _⟩ => rfl
  | ⟨1, _⟩ => rfl
  | ⟨2, _⟩ => exact Fin.ext (by show 768 + (1024 + j.val) = 1792 + j.val; omega)

theorem go_apply (b : Fin 8) (q : Fin 4096) (j : Fin 512) :
    val_main_v12 (F := Ideal) x w (ix3 b q j) = (∑ k : Fin 1024, x (ix3 b q k) * w (ix2 k (⟨1792 + j.val, by omega⟩ : Fin 2432))) := by
  rw [← go_slice]
  rfl

end Cert.ProjReferenceIdeal.Proj

end
-- ==== Proof.Proj.Algebraic.lean ====
module

public import proofs.«01_k».proof.Defs
public import Idealize.ShloMosaic.Lib.Claim
public import proofs.«01_k».proof.Proof.Proj.ProjIdealArray
public import proofs.«01_k».proof.Proof.Proj.ReferenceRows
public import proofs.«01_k».proof.Proof.Gen.ProjReferenceIdeal.Run

@[expose] public section

set_option maxRecDepth 16384

noncomputable section

/-! # The projection's call computes the reference's four projections -/

namespace Cert.ProjIdeal.Proj

open Idealize.ShloMosaic Idealize.ShloMosaic.TcCoe Idealize.SL.Sem
open Cert.ProjIdeal Cert.ProjIdeal.Gen

variable (m : (ℓ : Loc nD τ sig) → Buf (Elt Ideal) ℓ)

/-! ## The four results, from the call's arguments -/

def gqResult (c : Dev nD) : FVec Ideal S8x4096x256 .bf16 := ProjReferenceIdeal.Read.val_main_v9 (F := Ideal) (arg0 m c) (arg1 m c)
theorem gq_rows (c : Dev nD) : gqRows m c (gqResult m c) := fun b q j => ProjReferenceIdeal.Proj.gq_apply (arg0 m c) (arg1 m c) b q j
def gkResult (c : Dev nD) : FVec Ideal S8x4096x256 .bf16 := ProjReferenceIdeal.Read.val_main_v10 (F := Ideal) (arg0 m c) (arg1 m c)
theorem gk_rows (c : Dev nD) : gkRows m c (gkResult m c) := fun b q j => ProjReferenceIdeal.Proj.gk_apply (arg0 m c) (arg1 m c) b q j
def gvResult (c : Dev nD) : FVec Ideal S8x4096x512 .bf16 := ProjReferenceIdeal.Read.val_main_v11 (F := Ideal) (arg0 m c) (arg1 m c)
theorem gv_rows (c : Dev nD) : gvRows m c (gvResult m c) := fun b q j => ProjReferenceIdeal.Proj.gv_apply (arg0 m c) (arg1 m c) b q j
def goResult (c : Dev nD) : FVec Ideal S8x4096x512 .bf16 := ProjReferenceIdeal.Read.val_main_v12 (F := Ideal) (arg0 m c) (arg1 m c)
theorem go_rows (c : Dev nD) : goRows m c (goResult m c) := fun b q j => ProjReferenceIdeal.Proj.go_apply (arg0 m c) (arg1 m c) b q j

set_option backward.isDefEq.respectTransparency.types false in
/-- The kernel's four result arrays at the end. -/
theorem results_of (r : PUnit × MemSt nD τ sig (Elt Ideal)) (h : Pipeline.RDat.FramePost (cfgs 0) (fun c => (looseDats m 0 c).toRForget unsaid) (V m) r) (c : Dev nD) :
    r.2.mem ((c.tc : Thread nD τ).loc main_v0_3) = gqResult m c ∧ r.2.mem ((c.tc : Thread nD τ).loc main_v0_4) = gkResult m c ∧ r.2.mem ((c.tc : Thread nD τ).loc main_v0_5) = gvResult m c ∧ r.2.mem ((c.tc : Thread nD τ).loc main_v0_6) = goResult m c :=
  ⟨(((looseDats m 0 c).toRForget_arrAt_iff (fgt := unsaid) (w := 12) rfl _ _).1 ((h c).1 12)).trans (final12 m c _ (gq_rows m c)), (((looseDats m 0 c).toRForget_arrAt_iff (fgt := unsaid) (w := 13) rfl _ _).1 ((h c).1 13)).trans (final13 m c _ (gk_rows m c)), (((looseDats m 0 c).toRForget_arrAt_iff (fgt := unsaid) (w := 14) rfl _ _).1 ((h c).1 14)).trans (final14 m c _ (gv_rows m c)), (((looseDats m 0 c).toRForget_arrAt_iff (fgt := unsaid) (w := 15) rfl _ _).1 ((h c).1 15)).trans (final15 m c _ (go_rows m c))⟩

/-- THE VALUE CLAIM: from memories agreeing on the arguments both programs end with equal results. -/
theorem algebraic : algebraic_ProjIdeal_ProjReferenceIdeal := by
  intro m g m' g' _ hag
  refine ⟨gqResult m, gkResult m, gvResult m, goResult m, ?_, ?_⟩
  · refine (θ_run defs _ _).mono (fun r h c => ?_) (loose_run m g)
    obtain ⟨h0, h1, h2, h3⟩ := results_of m r h.1 c
    exact ⟨h0, h1, h2, h3, args_of m r h.1 c⟩
  · refine (θ_run ProjReferenceIdeal.defs _ _).mono (fun r h c => ?_) (ProjReferenceIdeal.Value.run m' g')
    obtain ⟨h0, h1, h2, h3, ha⟩ := h c
    obtain ⟨a0, a1, a2, a3, a4, a5, a6, a7, a8⟩ := hag c
    refine ⟨h0.trans ?_, h1.trans ?_, h2.trans ?_, h3.trans ?_, ha⟩
    · refine (ProjReferenceIdeal.Read.val_main_v9_eq (F := Ideal) _ _).trans ?_
      show ProjReferenceIdeal.Read.val_main_v9 (F := Ideal) (m' ((c.tc : Thread ProjReferenceIdeal.nD ProjReferenceIdeal.τ).loc ProjReferenceIdeal.main_arg0)) (m' ((c.tc : Thread ProjReferenceIdeal.nD ProjReferenceIdeal.τ).loc ProjReferenceIdeal.main_arg1)) = _
      rw [a0, a1]
      rfl
    · refine (ProjReferenceIdeal.Read.val_main_v10_eq (F := Ideal) _ _).trans ?_
      show ProjReferenceIdeal.Read.val_main_v10 (F := Ideal) (m' ((c.tc : Thread ProjReferenceIdeal.nD ProjReferenceIdeal.τ).loc ProjReferenceIdeal.main_arg0)) (m' ((c.tc : Thread ProjReferenceIdeal.nD ProjReferenceIdeal.τ).loc ProjReferenceIdeal.main_arg1)) = _
      rw [a0, a1]
      rfl
    · refine (ProjReferenceIdeal.Read.val_main_v11_eq (F := Ideal) _ _).trans ?_
      show ProjReferenceIdeal.Read.val_main_v11 (F := Ideal) (m' ((c.tc : Thread ProjReferenceIdeal.nD ProjReferenceIdeal.τ).loc ProjReferenceIdeal.main_arg0)) (m' ((c.tc : Thread ProjReferenceIdeal.nD ProjReferenceIdeal.τ).loc ProjReferenceIdeal.main_arg1)) = _
      rw [a0, a1]
      rfl
    · refine (ProjReferenceIdeal.Read.val_main_v12_eq (F := Ideal) _ _).trans ?_
      show ProjReferenceIdeal.Read.val_main_v12 (F := Ideal) (m' ((c.tc : Thread ProjReferenceIdeal.nD ProjReferenceIdeal.τ).loc ProjReferenceIdeal.main_arg0)) (m' ((c.tc : Thread ProjReferenceIdeal.nD ProjReferenceIdeal.τ).loc ProjReferenceIdeal.main_arg1)) = _
      rw [a0, a1]
      rfl

end Cert.ProjIdeal.Proj

end
-- ==== Proof.lean ====
module

public import proofs.«01_k».proof.Defs
public import proofs.«01_k».proof.Proof.Gen.Kernel
public import proofs.«01_k».proof.Proof.Gen.KernelIdeal
public import proofs.«01_k».proof.Proof.Gen.Ffn
public import proofs.«01_k».proof.Proof.Gen.FfnIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Proj
public import proofs.«01_k».proof.Proof.Gen.ProjIdeal
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Attn.KernelFrame
public import proofs.«01_k».proof.Proof.Attn.KernelIdealFrame
public import proofs.«01_k».proof.Proof.Mix.FfnFrame
public import proofs.«01_k».proof.Proof.Mix.Algebraic
public import proofs.«01_k».proof.Proof.Attn.Algebraic
public import proofs.«01_k».proof.Proof.Proj.ProjFrame
public import proofs.«01_k».proof.Proof.Proj.Algebraic

@[expose] public section

noncomputable section

/-! The certificate: each kernel's frame from its one run of the body, each reference's from its host run, and what
the idealised programs keep of the printed ones, by computation. -/

namespace Cert.Proof

open Idealize.ShloMosaic Idealize.SL.Sem

/-- The references run to the end and leave their arguments; they declare no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_ffn : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem frame_reference_proj : Cert.quiescent_ProjReferenceIdeal := fun m ρ _ =>
  (θ_run Cert.ProjReferenceIdeal.defs _ _).mono (fun r h => ⟨fun c => (h c).2.2.2.2, sem_eq_zero_of_no_sems (by decide) r.2⟩)
    (Cert.ProjReferenceIdeal.Value.run (F := Ideal) m ρ)

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts,
  Cert.Proj.Gen.facts, Cert.ProjIdeal.Gen.facts, Cert.ProjReferenceIdeal.Gen.facts,
  Cert.Pre_finite_scores.facts,
  fun m ρ _ => Cert.Kernel.Attn.frame m ρ, fun m ρ _ => Cert.KernelIdeal.Attn.frame m ρ, fun m ρ _ => Cert.KernelIdeal.Attn.frame m ρ,
  frame_reference, fun m ρ _ => frame_reference m ρ trivial,
  fun m ρ _ => Cert.Ffn.Mix.frame m ρ, fun m ρ _ => Cert.FfnIdeal.Mix.frame m ρ, frame_reference_ffn,
  fun m ρ _ => Cert.Proj.Proj.frame m ρ, fun m ρ _ => Cert.ProjIdeal.Proj.frame m ρ, frame_reference_proj,
  trivial, @Cert.KernelIdeal.Attn.algebraic Cert.Pre_finite_scores.facts, trivial, Cert.FfnIdeal.Mix.algebraic,
  trivial, Cert.ProjIdeal.Proj.algebraic⟩

end Cert.Proof

end
